-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_positive [hPre_scales_positive : Cert.Pre_scales_positive.Facts] (m : (ℓ : Loc Cert.KernelIdeal.nD Cert.KernelIdeal.τ Cert.KernelIdeal.sig) → Buf (Elt Ideal) ℓ) : Prop :=
  ∀ c : Dev Cert.KernelIdeal.nD,
    (Cert.Pre_scales_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_positive [hPre_scales_positive : Cert.Pre_scales_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_scales_positive [hKernelIdeal : Cert.KernelIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_scales_positive [hReferenceIdeal : Cert.ReferenceIdeal.Facts] [hPre_scales_positive : Cert.Pre_scales_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "sm_log2e" .f32 0x3DD53B95#32 (((Real.sqrt 192)⁻¹ * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_scales_positive [hKernelIdeal : Cert.KernelIdeal.Facts] [hReferenceIdeal : Cert.ReferenceIdeal.Facts] [hPre_scales_positive : Cert.Pre_scales_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_scales_positive : Cert.Pre_scales_positive.Facts),
    quiescent_Kernel (hKernel := hKernel)
    ∧ quiescent_KernelIdeal (hKernelIdeal := hKernelIdeal)
    ∧ quiescent_KernelIdeal_pre_scales_positive (hKernelIdeal := hKernelIdeal) (hPre_scales_positive := hPre_scales_positive)
    ∧ quiescent_ReferenceIdeal (hReferenceIdeal := hReferenceIdeal)
    ∧ quiescent_ReferenceIdeal_pre_scales_positive (hReferenceIdeal := hReferenceIdeal) (hPre_scales_positive := hPre_scales_positive)
    ∧ preserves_Kernel_KernelIdeal
    ∧ algebraic_KernelIdeal_ReferenceIdeal_pre_scales_positive (hKernelIdeal := hKernelIdeal) (hReferenceIdeal := hReferenceIdeal) (hPre_scales_positive := hPre_scales_positive)
-- ==== Pre_scales_positive.lean ====
abbrev S2x15360x16x512 : Shape := ⟨4, ![2, 15360, 16, 512]⟩
abbrev S2x15360x16 : Shape := ⟨3, ![2, 15360, 16]⟩
abbrev S2x15360x16x64 : Shape := ⟨4, ![2, 15360, 16, 64]⟩
abbrev S2x15360x512 : Shape := ⟨3, ![2, 15360, 512]⟩
abbrev S2x15360 : Shape := ⟨2, ![2, 15360]⟩
abbrev S2x15360x64 : Shape := ⟨3, ![2, 15360, 64]⟩
abbrev S2 : Shape := ⟨1, ![2]⟩
abbrev S16x512x128 : Shape := ⟨3, ![16, 512, 128]⟩
abbrev S16x128 : Shape := ⟨2, ![16, 128]⟩
abbrev S_ : Shape := ⟨0, ![]⟩

class Facts : Prop where
  bcast_S_S2x15360x16 : S_.BroadcastsInDim S2x15360x16 (![] : Fin 0 → Fin S2x15360x16.rank)
  reducesTo_S2x15360x16_S_d0_1_2 : S2x15360x16.ReducesTo [0, 1, 2] S_
  h_S_ : 0 < S_.numel
  bcast_S_S2x15360 : S_.BroadcastsInDim S2x15360 (![] : Fin 0 → Fin S2x15360.rank)
  reducesTo_S2x15360_S_d0_1 : S2x15360.ReducesTo [0, 1] S_

variable [Facts]

def fn {F : FTy → Type} [FloatOps F] (main_arg0 : FVec F S2x15360x16x512 .fp8e4m3) (main_arg1 : FVec F S2x15360x16 .f32) (main_arg2 : FVec F S2x15360x16x64 .bf16) (main_arg3 : FVec F S2x15360x512 .fp8e4m3) (main_arg4 : FVec F S2x15360 .f32) (main_arg5 : FVec F S2x15360x64 .bf16) (main_arg6 : IVec S2 32) (main_arg7 : FVec F S16x512x128 .fp8e4m3) (main_arg8 : FVec F S16x128 .f32) : IVec S_ 1 :=
  let main_cst : FVec F S_ .f32 := constant S_ .f32 0x00000000#32
  let main_v0 : FVec F S2x15360x16 .f32 := broadcastInDim S2x15360x16 ![] bcast_S_S2x15360x16 main_cst
  let main_v1 : IVec S2x15360x16 1 := cmpf .ogt main_arg1 main_v0
  let main_cst_0 : FVec F S_ .f32 := constant S_ .f32 0x7F800000#32
  let main_v2 : FVec F S2x15360x16 .f32 := broadcastInDim S2x15360x16 ![] bcast_S_S2x15360x16 main_cst_0
  let main_v3 : IVec S2x15360x16 1 := cmpf .olt main_arg1 main_v2
  let main_v4 : IVec S2x15360x16 1 := andi main_v1 main_v3
  let main_c : IVec S_ 1 := constantI S_ 1 1#1
  let main_v5 : IVec S_ 1 := (fun x v => Host.reduce IntOp.andi x v reducesTo_S2x15360x16_S_d0_1_2 h_S_) main_v4 main_c
  let main_cst_1 : FVec F S_ .f32 := constant S_ .f32 0x00000000#32
  let main_v6 : FVec F S2x15360 .f32 := broadcastInDim S2x15360 ![] bcast_S_S2x15360 main_cst_1
  let main_v7 : IVec S2x15360 1 := cmpf .ogt main_arg4 main_v6
  let main_cst_2 : FVec F S_ .f32 := constant S_ .f32 0x7F800000#32
  let main_v8 : FVec F S2x15360 .f32 := broadcastInDim S2x15360 ![] bcast_S_S2x15360 main_cst_2
  let main_v9 : IVec S2x15360 1 := cmpf .olt main_arg4 main_v8
  let main_v10 : IVec S2x15360 1 := andi main_v7 main_v9
  let main_c_3 : IVec S_ 1 := constantI S_ 1 1#1
  let main_v11 : IVec S_ 1 := (fun x v => Host.reduce IntOp.andi x v reducesTo_S2x15360_S_d0_1 h_S_) main_v10 main_c_3
  let main_v12 : IVec S_ 1 := andi main_v5 main_v11
  main_v12
-- ==== Kernel.lean ====
abbrev S2x15360x16x512 : Shape := ⟨4, ![2, 15360, 16, 512]⟩
abbrev S2x15360x16 : Shape := ⟨3, ![2, 15360, 16]⟩
abbrev S2x15360x16x64 : Shape := ⟨4, ![2, 15360, 16, 64]⟩
abbrev S2x15360x512 : Shape := ⟨3, ![2, 15360, 512]⟩
abbrev S2x15360 : Shape := ⟨2, ![2, 15360]⟩
abbrev S2x15360x64 : Shape := ⟨3, ![2, 15360, 64]⟩
abbrev S2 : Shape := ⟨1, ![2]⟩
abbrev S16x512x128 : Shape := ⟨3, ![16, 512, 128]⟩
abbrev S16x128 : Shape := ⟨2, ![16, 128]⟩
abbrev S2x15360x1 : Shape := ⟨3, ![2, 15360, 1]⟩
abbrev S2x1x15360 : Shape := ⟨3, ![2, 1, 15360]⟩
abbrev S2x15360x16x128 : Shape := ⟨4, ![2, 15360, 16, 128]⟩
abbrev S1x128x16x512 : Shape := ⟨4, ![1, 128, 16, 512]⟩
abbrev S1 : Shape := ⟨1, ![1]⟩
abbrev S1x128x16 : Shape := ⟨3, ![1, 128, 16]⟩
abbrev S1x128x16x64 : Shape := ⟨4, ![1, 128, 16, 64]⟩
abbrev S1x15360x512 : Shape := ⟨3, ![1, 15360, 512]⟩
abbrev S1x1x15360 : Shape := ⟨3, ![1, 1, 15360]⟩
abbrev S1x15360x64 : Shape := ⟨3, ![1, 15360, 64]⟩
abbrev S1x128x16x128 : Shape := ⟨4, ![1, 128, 16, 128]⟩
abbrev S2048x512 : Shape := ⟨2, ![2048, 512]⟩
abbrev S2048x64 : Shape := ⟨2, ![2048, 64]⟩
abbrev S2048x128 : Shape := ⟨2, ![2048, 128]⟩
abbrev S4x2048x128 : Shape := ⟨3, ![4, 2048, 128]⟩
abbrev S128x16x512 : Shape := ⟨3, ![128, 16, 512]⟩
abbrev S128x16 : Shape := ⟨2, ![128, 16]⟩
abbrev S128x16x16 : Shape := ⟨3, ![128, 16, 16]⟩
abbrev S128x1x16 : Shape := ⟨3, ![128, 1, 16]⟩
abbrev S128x16x1 : Shape := ⟨3, ![128, 16, 1]⟩
abbrev S2048x1 : Shape := ⟨2, ![2048, 1]⟩
abbrev S128x16x64 : Shape := ⟨3, ![128, 16, 64]⟩
abbrev S1x512x512 : Shape := ⟨3, ![1, 512, 512]⟩
abbrev S512x512 : Shape := ⟨2, ![512, 512]⟩
abbrev S1x512x64 : Shape := ⟨3, ![1, 512, 64]⟩
abbrev S512x64 : Shape := ⟨2, ![512, 64]⟩
abbrev S1x1x512 : Shape := ⟨3, ![1, 1, 512]⟩
abbrev S1x512 : Shape := ⟨2, ![1, 512]⟩
abbrev S256x512 : Shape := ⟨2, ![256, 512]⟩
abbrev S256x64 : Shape := ⟨2, ![256, 64]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩
abbrev S128x128 : Shape := ⟨2, ![128, 128]⟩
abbrev S1x2048x128 : Shape := ⟨3, ![1, 2048, 128]⟩
abbrev S128x512 : Shape := ⟨2, ![128, 512]⟩
abbrev S1x512x128 : Shape := ⟨3, ![1, 512, 128]⟩
abbrev S512x128 : Shape := ⟨2, ![512, 128]⟩
abbrev S1x128 : Shape := ⟨2, ![1, 128]⟩
abbrev S128 : Shape := ⟨1, ![128]⟩
abbrev S128x1 : Shape := ⟨2, ![128, 1]⟩
abbrev S128x256 : Shape := ⟨2, ![128, 256]⟩
abbrev S128x16x128 : Shape := ⟨3, ![128, 16, 128]⟩

abbrev nBuf : Space → Nat
  | .hbm => 17
  | .vmem => 27
  | .smem => 1
  | _ => 0

abbrev bufTy : (tb : Table) → Fin (tcTables nBuf tb) → BufTy
  | .hbm, ⟨0, _⟩ => ⟨S2x15360x16x512, .fp8e4m3⟩
  | .hbm, ⟨1, _⟩ => ⟨S2x15360x16, .f32⟩
  | .hbm, ⟨2, _⟩ => ⟨S2x15360x16x64, .bf16⟩
  | .hbm, ⟨3, _⟩ => ⟨S2x15360x512, .fp8e4m3⟩
  | .hbm, ⟨4, _⟩ => ⟨S2x15360, .f32⟩
  | .hbm, ⟨5, _⟩ => ⟨S2x15360x64, .bf16⟩
  | .hbm, ⟨6, _⟩ => ⟨S16x512x128, .fp8e4m3⟩
  | .hbm, ⟨7, _⟩ => ⟨S16x128, .f32⟩
  | .hbm, ⟨8, _⟩ => ⟨S2x15360x64, .f32⟩
  | .hbm, ⟨9, _⟩ => ⟨S2x15360x1, .f32⟩
  | .hbm, ⟨10, _⟩ => ⟨S2x15360x64, .f32⟩
  | .hbm, ⟨11, _⟩ => ⟨S2x15360x64, .f32⟩
  | .hbm, ⟨12, _⟩ => ⟨S2x15360x64, .bf16⟩
  | .hbm, ⟨13, _⟩ => ⟨S2x1x15360, .f32⟩
  | .hbm, ⟨14, _⟩ => ⟨S2x15360x16x128, .fp8e4m3⟩
  | .hbm, ⟨15, _⟩ => ⟨S2x15360x16, .f32⟩
  | .hbm, ⟨16, _⟩ => ⟨S2x15360x16, .f32⟩
  | .local _ .vmem, ⟨0, _⟩ => ⟨S1x128x16x512, .fp8e4m3⟩
  | .local _ .vmem, ⟨1, _⟩ => ⟨S1x128x16x512, .fp8e4m3⟩
  | .local _ .vmem, ⟨2, _⟩ => ⟨S1x128x16, .f32⟩
  | .local _ .vmem, ⟨3, _⟩ => ⟨S1x128x16, .f32⟩
  | .local _ .vmem, ⟨4, _⟩ => ⟨S1x128x16x64, .bf16⟩
  | .local _ .vmem, ⟨5, _⟩ => ⟨S1x128x16x64, .bf16⟩
  | .local _ .vmem, ⟨6, _⟩ => ⟨S1x15360x512, .fp8e4m3⟩
  | .local _ .vmem, ⟨7, _⟩ => ⟨S1x15360x512, .fp8e4m3⟩
  | .local _ .vmem, ⟨8, _⟩ => ⟨S1x1x15360, .f32⟩
  | .local _ .vmem, ⟨9, _⟩ => ⟨S1x1x15360, .f32⟩
  | .local _ .vmem, ⟨10, _⟩ => ⟨S1x15360x64, .bf16⟩
  | .local _ .vmem, ⟨11, _⟩ => ⟨S1x15360x64, .bf16⟩
  | .local _ .vmem, ⟨12, _⟩ => ⟨S16x512x128, .fp8e4m3⟩
  | .local _ .vmem, ⟨13, _⟩ => ⟨S16x128, .f32⟩
  | .local _ .vmem, ⟨14, _⟩ => ⟨S1x128x16x128, .fp8e4m3⟩
  | .local _ .vmem, ⟨15, _⟩ => ⟨S1x128x16x128, .fp8e4m3⟩
  | .local _ .vmem, ⟨16, _⟩ => ⟨S1x128x16, .f32⟩
  | .local _ .vmem, ⟨17, _⟩ => ⟨S1x128x16, .f32⟩
  | .local _ .vmem, ⟨18, _⟩ => ⟨S1x128x16, .f32⟩
  | .local _ .vmem, ⟨19, _⟩ => ⟨S1x128x16, .f32⟩
  | .local _ .vmem, ⟨20, _⟩ => ⟨S2048x512, .fp8e4m3⟩
  | .local _ .vmem, ⟨21, _⟩ => ⟨S2048x64, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S4x2048x128, .f32⟩
  | .local _ .vmem, ⟨26, _⟩ => ⟨S2048x128, .f32⟩
  | .local _ .smem, ⟨0, _⟩ => ⟨S2, .i32⟩
  | _, _ => ⟨S2x15360x16x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 120], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop (i : grid0.Coords) : Scf.Loop 32 :=
  let c0_i32_40 : BitVec 32 := 0#32
  let arg1 : BitVec 32 := BitVec.ofNat 32 (i 1).val
  let c128_i32 : BitVec 32 := 128#32
  let v0 : BitVec 32 := Scalar.muli arg1 c128_i32
  let c0_i32_29 : BitVec 32 := 0#32
  let v58 : BitVec 1 := Scalar.cmpi .sgt v0 c0_i32_29
  let v59 : BitVec 32 := Scalar.extui v58
  let c0_i32_30 : BitVec 32 := 0#32
  let v60 : BitVec 1 := Scalar.cmpi .slt v0 c0_i32_30
  let v61 : BitVec 32 := Scalar.extui v60
  let v62 : BitVec 32 := Scalar.subi v59 v61
  let c512_i32 : BitVec 32 := 512#32
  let c0_i32_31 : BitVec 32 := 0#32
  let v63 : BitVec 1 := Scalar.cmpi .sgt c512_i32 c0_i32_31
  let v64 : BitVec 32 := Scalar.extui v63
  let c0_i32_32 : BitVec 32 := 0#32
  let v65 : BitVec 1 := Scalar.cmpi .slt c512_i32 c0_i32_32
  let v66 : BitVec 32 := Scalar.extui v65
  let v67 : BitVec 32 := Scalar.subi v64 v66
  let v68 : BitVec 1 := Scalar.cmpi .ne v62 v67
  let v69 : BitVec 32 := Scalar.remsi v0 c512_i32
  let c0_i32_33 : BitVec 32 := 0#32
  let v70 : BitVec 1 := Scalar.cmpi .ne v69 c0_i32_33
  let v71 : BitVec 1 := Scalar.andi v68 v70
  let v57 : BitVec 32 := Scalar.divsi v0 c512_i32
  let c1_i32 : BitVec 32 := 1#32
  let v72 : BitVec 32 := Scalar.subi v57 c1_i32
  let v73 : BitVec 32 := Scalar.select v71 v72 v57
  let c0_i32_34 : BitVec 32 := 0#32
  let v74 : BitVec 32 := Scalar.subi v73 c0_i32_34
  let c1_i32_35 : BitVec 32 := 1#32
  let c1_i32_36 : BitVec 32 := 1#32
  let v75 : BitVec 32 := Scalar.subi c1_i32_35 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_42 : BitVec 32 := 1#32
  ⟨c0_i32_40, v82, c1_i32_42⟩
def k0_mult1 (i : grid0.Coords) (k0_t1 : Fin (k0_t1_loop i).trips) : BitVec 32 :=
  let c0_i32_39 : BitVec 32 := 0#32
  let c0_i32_40 : BitVec 32 := 0#32
  let c1_i32_42 : BitVec 32 := 1#32
  let arg21 : BitVec 32 := Scf.iv c0_i32_40 c1_i32_42 k0_t1
  let c1_i32_38 : BitVec 32 := 1#32
  let v2454 : BitVec 32 := Scalar.muli arg21 c1_i32_38
  let v2455 : BitVec 32 := Scalar.addi c0_i32_39 v2454
  let c512_i32_1316 : BitVec 32 := 512#32
  let v2456 : BitVec 32 := Scalar.muli v2455 c512_i32_1316
  v2456
def k0_off2 (i : grid0.Coords) (k0_t1 : Fin (k0_t1_loop i).trips) : Fin 3 → Nat :=
  let c0_1317 : Index := 0#32
  let c0_i32_39 : BitVec 32 := 0#32
  let c0_i32_40 : BitVec 32 := 0#32
  let c1_i32_42 : BitVec 32 := 1#32
  let arg21 : BitVec 32 := Scf.iv c0_i32_40 c1_i32_42 k0_t1
  let c1_i32_38 : BitVec 32 := 1#32
  let v2454 : BitVec 32 := Scalar.muli arg21 c1_i32_38
  let v2455 : BitVec 32 := Scalar.addi c0_i32_39 v2454
  let c512_i32_1316 : BitVec 32 := 512#32
  let v2456 : BitVec 32 := Scalar.muli v2455 c512_i32_1316
  let v2457 : BitVec 32 := v2456
  let v2458 : Index := Scalar.indexCast v2457
  let c0_1318 : Index := 0#32
  ![0, v2458.toNat, 0]
def k0_off3 (i : grid0.Coords) (k0_t1 : Fin (k0_t1_loop i).trips) : Fin 3 → Nat :=
  let c0_1319 : Index := 0#32
  let c0_i32_39 : BitVec 32 := 0#32
  let c0_i32_40 : BitVec 32 := 0#32
  let c1_i32_42 : BitVec 32 := 1#32
  let arg21 : BitVec 32 := Scf.iv c0_i32_40 c1_i32_42 k0_t1
  let c1_i32_38 : BitVec 32 := 1#32
  let v2454 : BitVec 32 := Scalar.muli arg21 c1_i32_38
  let v2455 : BitVec 32 := Scalar.addi c0_i32_39 v2454
  let c512_i32_1316 : BitVec 32 := 512#32
  let v2456 : BitVec 32 := Scalar.muli v2455 c512_i32_1316
  let v2457 : BitVec 32 := v2456
  let v2461 : Index := Scalar.indexCast v2457
  let c0_1320 : Index := 0#32
  ![0, v2461.toNat, 0]
def k0_off4 (i : grid0.Coords) (k0_t1 : Fin (k0_t1_loop i).trips) : Fin 3 → Nat :=
  let c0_1321 : Index := 0#32
  let c0_1322 : Index := 0#32
  let c0_i32_39 : BitVec 32 := 0#32
  let c0_i32_40 : BitVec 32 := 0#32
  let c1_i32_42 : BitVec 32 := 1#32
  let arg21 : BitVec 32 := Scf.iv c0_i32_40 c1_i32_42 k0_t1
  let c1_i32_38 : BitVec 32 := 1#32
  let v2454 : BitVec 32 := Scalar.muli arg21 c1_i32_38
  let v2455 : BitVec 32 := Scalar.addi c0_i32_39 v2454
  let c512_i32_1316 : BitVec 32 := 512#32
  let v2456 : BitVec 32 := Scalar.muli v2455 c512_i32_1316
  let v2457 : BitVec 32 := v2456
  let v2464 : Index := Scalar.indexCast v2457
  ![0, 0, v2464.toNat]
@[reducible] def k0_t2_loop (i : grid0.Coords) : Scf.Loop 32 :=
  let c0_i32_40 : BitVec 32 := 0#32
  let arg1 : BitVec 32 := BitVec.ofNat 32 (i 1).val
  let c128_i32 : BitVec 32 := 128#32
  let v0 : BitVec 32 := Scalar.muli arg1 c128_i32
  let c0_i32_29 : BitVec 32 := 0#32
  let v58 : BitVec 1 := Scalar.cmpi .sgt v0 c0_i32_29
  let v59 : BitVec 32 := Scalar.extui v58
  let c0_i32_30 : BitVec 32 := 0#32
  let v60 : BitVec 1 := Scalar.cmpi .slt v0 c0_i32_30
  let v61 : BitVec 32 := Scalar.extui v60
  let v62 : BitVec 32 := Scalar.subi v59 v61
  let c512_i32 : BitVec 32 := 512#32
  let c0_i32_31 : BitVec 32 := 0#32
  let v63 : BitVec 1 := Scalar.cmpi .sgt c512_i32 c0_i32_31
  let v64 : BitVec 32 := Scalar.extui v63
  let c0_i32_32 : BitVec 32 := 0#32
  let v65 : BitVec 1 := Scalar.cmpi .slt c512_i32 c0_i32_32
  let v66 : BitVec 32 := Scalar.extui v65
  let v67 : BitVec 32 := Scalar.subi v64 v66
  let v68 : BitVec 1 := Scalar.cmpi .ne v62 v67
  let v69 : BitVec 32 := Scalar.remsi v0 c512_i32
  let c0_i32_33 : BitVec 32 := 0#32
  let v70 : BitVec 1 := Scalar.cmpi .ne v69 c0_i32_33
  let v71 : BitVec 1 := Scalar.andi v68 v70
  let v57 : BitVec 32 := Scalar.divsi v0 c512_i32
  let c1_i32 : BitVec 32 := 1#32
  let v72 : BitVec 32 := Scalar.subi v57 c1_i32
  let v73 : BitVec 32 := Scalar.select v71 v72 v57
  let c0_i32_34 : BitVec 32 := 0#32
  let v74 : BitVec 32 := Scalar.subi v73 c0_i32_34
  let c1_i32_35 : BitVec 32 := 1#32
  let c1_i32_36 : BitVec 32 := 1#32
  let v75 : BitVec 32 := Scalar.subi c1_i32_35 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let v79 : BitVec 32 := Scalar.addi c0_i32_40 v78
  let c1_i32_43 : BitVec 32 := 1#32
  ⟨v82, v79, c1_i32_43⟩
def k0_mult2 (i : grid0.Coords) (k0_t2 : Fin (k0_t2_loop i).trips) : BitVec 32 :=
  let c0_i32_39 : BitVec 32 := 0#32
  let c0_i32_40 : BitVec 32 := 0#32
  let arg1 : BitVec 32 := BitVec.ofNat 32 (i 1).val
  let c128_i32 : BitVec 32 := 128#32
  let v0 : BitVec 32 := Scalar.muli arg1 c128_i32
  let c0_i32_29 : BitVec 32 := 0#32
  let v58 : BitVec 1 := Scalar.cmpi .sgt v0 c0_i32_29
  let v59 : BitVec 32 := Scalar.extui v58
  let c0_i32_30 : BitVec 32 := 0#32
  let v60 : BitVec 1 := Scalar.cmpi .slt v0 c0_i32_30
  let v61 : BitVec 32 := Scalar.extui v60
  let v62 : BitVec 32 := Scalar.subi v59 v61
  let c512_i32 : BitVec 32 := 512#32
  let c0_i32_31 : BitVec 32 := 0#32
  let v63 : BitVec 1 := Scalar.cmpi .sgt c512_i32 c0_i32_31
  let v64 : BitVec 32 := Scalar.extui v63
  let c0_i32_32 : BitVec 32 := 0#32
  let v65 : BitVec 1 := Scalar.cmpi .slt c512_i32 c0_i32_32
  let v66 : BitVec 32 := Scalar.extui v65
  let v67 : BitVec 32 := Scalar.subi v64 v66
  let v68 : BitVec 1 := Scalar.cmpi .ne v62 v67
  let v69 : BitVec 32 := Scalar.remsi v0 c512_i32
  let c0_i32_33 : BitVec 32 := 0#32
  let v70 : BitVec 1 := Scalar.cmpi .ne v69 c0_i32_33
  let v71 : BitVec 1 := Scalar.andi v68 v70
  let v57 : BitVec 32 := Scalar.divsi v0 c512_i32
  let c1_i32 : BitVec 32 := 1#32
  let v72 : BitVec 32 := Scalar.subi v57 c1_i32
  let v73 : BitVec 32 := Scalar.select v71 v72 v57
  let c0_i32_34 : BitVec 32 := 0#32
  let v74 : BitVec 32 := Scalar.subi v73 c0_i32_34
  let c1_i32_35 : BitVec 32 := 1#32
  let c1_i32_36 : BitVec 32 := 1#32
  let v75 : BitVec 32 := Scalar.subi c1_i32_35 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg21 : BitVec 32 := Scf.iv v82 c1_i32_43 k0_t2
  let c1_i32_38 : BitVec 32 := 1#32
  let v2454 : BitVec 32 := Scalar.muli arg21 c1_i32_38
  let v2455 : BitVec 32 := Scalar.addi c0_i32_39 v2454
  let c512_i32_1316 : BitVec 32 := 512#32
  let v2456 : BitVec 32 := Scalar.muli v2455 c512_i32_1316
  v2456
def k0_off5 (i : grid0.Coords) (k0_t2 : Fin (k0_t2_loop i).trips) : Fin 3 → Nat :=
  let c0_1317 : Index := 0#32
  let c0_i32_39 : BitVec 32 := 0#32
  let c0_i32_40 : BitVec 32 := 0#32
  let arg1 : BitVec 32 := BitVec.ofNat 32 (i 1).val
  let c128_i32 : BitVec 32 := 128#32
  let v0 : BitVec 32 := Scalar.muli arg1 c128_i32
  let c0_i32_29 : BitVec 32 := 0#32
  let v58 : BitVec 1 := Scalar.cmpi .sgt v0 c0_i32_29
  let v59 : BitVec 32 := Scalar.extui v58
  let c0_i32_30 : BitVec 32 := 0#32
  let v60 : BitVec 1 := Scalar.cmpi .slt v0 c0_i32_30
  let v61 : BitVec 32 := Scalar.extui v60
  let v62 : BitVec 32 := Scalar.subi v59 v61
  let c512_i32 : BitVec 32 := 512#32
  let c0_i32_31 : BitVec 32 := 0#32
  let v63 : BitVec 1 := Scalar.cmpi .sgt c512_i32 c0_i32_31
  let v64 : BitVec 32 := Scalar.extui v63
  let c0_i32_32 : BitVec 32 := 0#32
  let v65 : BitVec 1 := Scalar.cmpi .slt c512_i32 c0_i32_32
  let v66 : BitVec 32 := Scalar.extui v65
  let v67 : BitVec 32 := Scalar.subi v64 v66
  let v68 : BitVec 1 := Scalar.cmpi .ne v62 v67
  let v69 : BitVec 32 := Scalar.remsi v0 c512_i32
  let c0_i32_33 : BitVec 32 := 0#32
  let v70 : BitVec 1 := Scalar.cmpi .ne v69 c0_i32_33
  let v71 : BitVec 1 := Scalar.andi v68 v70
  let v57 : BitVec 32 := Scalar.divsi v0 c512_i32
  let c1_i32 : BitVec 32 := 1#32
  let v72 : BitVec 32 := Scalar.subi v57 c1_i32
  let v73 : BitVec 32 := Scalar.select v71 v72 v57
  let c0_i32_34 : BitVec 32 := 0#32
  let v74 : BitVec 32 := Scalar.subi v73 c0_i32_34
  let c1_i32_35 : BitVec 32 := 1#32
  let c1_i32_36 : BitVec 32 := 1#32
  let v75 : BitVec 32 := Scalar.subi c1_i32_35 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg21 : BitVec 32 := Scf.iv v82 c1_i32_43 k0_t2
  let c1_i32_38 : BitVec 32 := 1#32
  let v2454 : BitVec 32 := Scalar.muli arg21 c1_i32_38
  let v2455 : BitVec 32 := Scalar.addi c0_i32_39 v2454
  let c512_i32_1316 : BitVec 32 := 512#32
  let v2456 : BitVec 32 := Scalar.muli v2455 c512_i32_1316
  let v2457 : BitVec 32 := v2456
  let v2458 : Index := Scalar.indexCast v2457
  let c0_1318 : Index := 0#32
  ![0, v2458.toNat, 0]
def k0_off6 (i : grid0.Coords) (k0_t2 : Fin (k0_t2_loop i).trips) : Fin 3 → Nat :=
  let c0_1319 : Index := 0#32
  let c0_i32_39 : BitVec 32 := 0#32
  let c0_i32_40 : BitVec 32 := 0#32
  let arg1 : BitVec 32 := BitVec.ofNat 32 (i 1).val
  let c128_i32 : BitVec 32 := 128#32
  let v0 : BitVec 32 := Scalar.muli arg1 c128_i32
  let c0_i32_29 : BitVec 32 := 0#32
  let v58 : BitVec 1 := Scalar.cmpi .sgt v0 c0_i32_29
  let v59 : BitVec 32 := Scalar.extui v58
  let c0_i32_30 : BitVec 32 := 0#32
  let v60 : BitVec 1 := Scalar.cmpi .slt v0 c0_i32_30
  let v61 : BitVec 32 := Scalar.extui v60
  let v62 : BitVec 32 := Scalar.subi v59 v61
  let c512_i32 : BitVec 32 := 512#32
  let c0_i32_31 : BitVec 32 := 0#32
  let v63 : BitVec 1 := Scalar.cmpi .sgt c512_i32 c0_i32_31
  let v64 : BitVec 32 := Scalar.extui v63
  let c0_i32_32 : BitVec 32 := 0#32
  let v65 : BitVec 1 := Scalar.cmpi .slt c512_i32 c0_i32_32
  let v66 : BitVec 32 := Scalar.extui v65
  let v67 : BitVec 32 := Scalar.subi v64 v66
  let v68 : BitVec 1 := Scalar.cmpi .ne v62 v67
  let v69 : BitVec 32 := Scalar.remsi v0 c512_i32
  let c0_i32_33 : BitVec 32 := 0#32
  let v70 : BitVec 1 := Scalar.cmpi .ne v69 c0_i32_33
  let v71 : BitVec 1 := Scalar.andi v68 v70
  let v57 : BitVec 32 := Scalar.divsi v0 c512_i32
  let c1_i32 : BitVec 32 := 1#32
  let v72 : BitVec 32 := Scalar.subi v57 c1_i32
  let v73 : BitVec 32 := Scalar.select v71 v72 v57
  let c0_i32_34 : BitVec 32 := 0#32
  let v74 : BitVec 32 := Scalar.subi v73 c0_i32_34
  let c1_i32_35 : BitVec 32 := 1#32
  let c1_i32_36 : BitVec 32 := 1#32
  let v75 : BitVec 32 := Scalar.subi c1_i32_35 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg21 : BitVec 32 := Scf.iv v82 c1_i32_43 k0_t2
  let c1_i32_38 : BitVec 32 := 1#32
  let v2454 : BitVec 32 := Scalar.muli arg21 c1_i32_38
  let v2455 : BitVec 32 := Scalar.addi c0_i32_39 v2454
  let c512_i32_1316 : BitVec 32 := 512#32
  let v2456 : BitVec 32 := Scalar.muli v2455 c512_i32_1316
  let v2457 : BitVec 32 := v2456
  let v2461 : Index := Scalar.indexCast v2457
  let c0_1320 : Index := 0#32
  ![0, v2461.toNat, 0]
def k0_off7 (i : grid0.Coords) (k0_t2 : Fin (k0_t2_loop i).trips) : Fin 3 → Nat :=
  let c0_1321 : Index := 0#32
  let c0_1322 : Index := 0#32
  let c0_i32_39 : BitVec 32 := 0#32
  let c0_i32_40 : BitVec 32 := 0#32
  let arg1 : BitVec 32 := BitVec.ofNat 32 (i 1).val
  let c128_i32 : BitVec 32 := 128#32
  let v0 : BitVec 32 := Scalar.muli arg1 c128_i32
  let c0_i32_29 : BitVec 32 := 0#32
  let v58 : BitVec 1 := Scalar.cmpi .sgt v0 c0_i32_29
  let v59 : BitVec 32 := Scalar.extui v58
  let c0_i32_30 : BitVec 32 := 0#32
  let v60 : BitVec 1 := Scalar.cmpi .slt v0 c0_i32_30
  let v61 : BitVec 32 := Scalar.extui v60
  let v62 : BitVec 32 := Scalar.subi v59 v61
  let c512_i32 : BitVec 32 := 512#32
  let c0_i32_31 : BitVec 32 := 0#32
  let v63 : BitVec 1 := Scalar.cmpi .sgt c512_i32 c0_i32_31
  let v64 : BitVec 32 := Scalar.extui v63
  let c0_i32_32 : BitVec 32 := 0#32
  let v65 : BitVec 1 := Scalar.cmpi .slt c512_i32 c0_i32_32
  let v66 : BitVec 32 := Scalar.extui v65
  let v67 : BitVec 32 := Scalar.subi v64 v66
  let v68 : BitVec 1 := Scalar.cmpi .ne v62 v67
  let v69 : BitVec 32 := Scalar.remsi v0 c512_i32
  let c0_i32_33 : BitVec 32 := 0#32
  let v70 : BitVec 1 := Scalar.cmpi .ne v69 c0_i32_33
  let v71 : BitVec 1 := Scalar.andi v68 v70
  let v57 : BitVec 32 := Scalar.divsi v0 c512_i32
  let c1_i32 : BitVec 32 := 1#32
  let v72 : BitVec 32 := Scalar.subi v57 c1_i32
  let v73 : BitVec 32 := Scalar.select v71 v72 v57
  let c0_i32_34 : BitVec 32 := 0#32
  let v74 : BitVec 32 := Scalar.subi v73 c0_i32_34
  let c1_i32_35 : BitVec 32 := 1#32
  let c1_i32_36 : BitVec 32 := 1#32
  let v75 : BitVec 32 := Scalar.subi c1_i32_35 c1_i32_36
  let v76 : BitVec 32 := Scalar.addi v74 v75
  let c1_i32_37 : BitVec 32 := 1#32
  let v77 : BitVec 32 := Scalar.divsi v76 c1_i32_37
  let v78 : BitVec 32 := Scalar.subi v77 c0_i32_40
  let c1_i32_41 : BitVec 32 := 1#32
  let v80 : BitVec 32 := Scalar.divsi v78 c1_i32_41
  let v81 : BitVec 32 := Scalar.muli v80 c1_i32_41
  let v82 : BitVec 32 := Scalar.addi c0_i32_40 v81
  let c1_i32_43 : BitVec 32 := 1#32
  let arg21 : BitVec 32 := Scf.iv v82 c1_i32_43 k0_t2
  let c1_i32_38 : BitVec 32 := 1#32
  let v2454 : BitVec 32 := Scalar.muli arg21 c1_i32_38
  let v2455 : BitVec 32 := Scalar.addi c0_i32_39 v2454
  let c512_i32_1316 : BitVec 32 := 512#32
  let v2456 : BitVec 32 := Scalar.muli v2455 c512_i32_1316
  let v2457 : BitVec 32 := v2456
  let v2464 : Index := Scalar.indexCast v2457
  ![0, 0, v2464.toNat]
def k0_mult3 (i : grid0.Coords) : BitVec 32 :=
  let arg1 : BitVec 32 := BitVec.ofNat 32 (i 1).val
  let c128_i32 : BitVec 32 := 128#32
  let v0 : BitVec 32 := Scalar.muli arg1 c128_i32
  let c0_i32_29 : BitVec 32 := 0#32
  let v58 : BitVec 1 := Scalar.cmpi .sgt v0 c0_i32_29
  let v59 : BitVec 32 := Scalar.extui v58
  let c0_i32_30 : BitVec 32 := 0#32
  let v60 : BitVec 1 := Scalar.cmpi .slt v0 c0_i32_30
  let v61 : BitVec 32 := Scalar.extui v60
  let v62 : BitVec 32 := Scalar.subi v59 v61
  let c512_i32 : BitVec 32 := 512#32
  let c0_i32_31 : BitVec 32 := 0#32
  let v63 : BitVec 1 := Scalar.cmpi .sgt c512_i32 c0_i32_31
  let v64 : BitVec 32 := Scalar.extui v63
  let c0_i32_32 : BitVec 32 := 0#32
  let v65 : BitVec 1 := Scalar.cmpi .slt c512_i32 c0_i32_32
  let v66 : BitVec 32 := Scalar.extui v65
  let v67 : BitVec 32 := Scalar.subi v64 v66
  let v68 : BitVec 1 := Scalar.cmpi .ne v62 v67
  let v69 : BitVec 32 := Scalar.remsi v0 c512_i32
  let c0_i32_33 : BitVec 32 := 0#32
  let v70 : BitVec 1 := Scalar.cmpi .ne v69 c0_i32_33
  let v71 : BitVec 1 := Scalar.andi v68 v70
  let v57 : BitVec 32 := Scalar.divsi v0 c512_i32
  let c1_i32 : BitVec 32 := 1#32
  let v72 : BitVec 32 := Scalar.subi v57 c1_i32
  let v73 : BitVec 32 := Scalar.select v71 v72 v57
  let c512_i32_44 : BitVec 32 := 512#32
  let v83 : BitVec 32 := Scalar.muli v73 c512_i32_44
  v83
def k0_off8 (i : grid0.Coords) : Fin 3 → Nat :=
  let c0_45 : Index := 0#32
  let arg1 : BitVec 32 := BitVec.ofNat 32 (i 1).val
  let c128_i32 : BitVec 32 := 128#32
  let v0 : BitVec 32 := Scalar.muli arg1 c128_i32
  let c0_i32_29 : BitVec 32 := 0#32
  let v58 : BitVec 1 := Scalar.cmpi .sgt v0 c0_i32_29
  let v59 : BitVec 32 := Scalar.extui v58
  let c0_i32_30 : BitVec 32 := 0#32
  let v60 : BitVec 1 := Scalar.cmpi .slt v0 c0_i32_30
  let v61 : BitVec 32 := Scalar.extui v60
  let v62 : BitVec 32 := Scalar.subi v59 v61
  let c512_i32 : BitVec 32 := 512#32
  let c0_i32_31 : BitVec 32 := 0#32
  let v63 : BitVec 1 := Scalar.cmpi .sgt c512_i32 c0_i32_31
  let v64 : BitVec 32 := Scalar.extui v63
  let c0_i32_32 : BitVec 32 := 0#32
  let v65 : BitVec 1 := Scalar.cmpi .slt c512_i32 c0_i32_32
  let v66 : BitVec 32 := Scalar.extui v65
  let v67 : BitVec 32 := Scalar.subi v64 v66
  let v68 : BitVec 1 := Scalar.cmpi .ne v62 v67
  let v69 : BitVec 32 := Scalar.remsi v0 c512_i32
  let c0_i32_33 : BitVec 32 := 0#32
  let v70 : BitVec 1 := Scalar.cmpi .ne v69 c0_i32_33
  let v71 : BitVec 1 := Scalar.andi v68 v70
  let v57 : BitVec 32 := Scalar.divsi v0 c512_i32
  let c1_i32 : BitVec 32 := 1#32
  let v72 : BitVec 32 := Scalar.subi v57 c1_i32
  let v73 : BitVec 32 := Scalar.select v71 v72 v57
  let c512_i32_44 : BitVec 32 := 512#32
  let v83 : BitVec 32 := Scalar.muli v73 c512_i32_44
  let v84 : BitVec 32 := v83
  let v85 : Index := Scalar.indexCast v84
  let c0_46 : Index := 0#32
  ![0, v85.toNat, 0]
def k0_off9 (i : grid0.Coords) : Fin 3 → Nat :=
  let c0_47 : Index := 0#32
  let arg1 : BitVec 32 := BitVec.ofNat 32 (i 1).val
  let c128_i32 : BitVec 32 := 128#32
  let v0 : BitVec 32 := Scalar.muli arg1 c128_i32
  let c0_i32_29 : BitVec 32 := 0#32
  let v58 : BitVec 1 := Scalar.cmpi .sgt v0 c0_i32_29
  let v59 : BitVec 32 := Scalar.extui v58
  let c0_i32_30 : BitVec 32 := 0#32
  let v60 : BitVec 1 := Scalar.cmpi .slt v0 c0_i32_30
  let v61 : BitVec 32 := Scalar.extui v60
  let v62 : BitVec 32 := Scalar.subi v59 v61
  let c512_i32 : BitVec 32 := 512#32
  let c0_i32_31 : BitVec 32 := 0#32
  let v63 : BitVec 1 := Scalar.cmpi .sgt c512_i32 c0_i32_31
  let v64 : BitVec 32 := Scalar.extui v63
  let c0_i32_32 : BitVec 32 := 0#32
  let v65 : BitVec 1 := Scalar.cmpi .slt c512_i32 c0_i32_32
  let v66 : BitVec 32 := Scalar.extui v65
  let v67 : BitVec 32 := Scalar.subi v64 v66
  let v68 : BitVec 1 := Scalar.cmpi .ne v62 v67
  let v69 : BitVec 32 := Scalar.remsi v0 c512_i32
  let c0_i32_33 : BitVec 32 := 0#32
  let v70 : BitVec 1 := Scalar.cmpi .ne v69 c0_i32_33
  let v71 : BitVec 1 := Scalar.andi v68 v70
  let v57 : BitVec 32 := Scalar.divsi v0 c512_i32
  let c1_i32 : BitVec 32 := 1#32
  let v72 : BitVec 32 := Scalar.subi v57 c1_i32
  let v73 : BitVec 32 := Scalar.select v71 v72 v57
  let c512_i32_44 : BitVec 32 := 512#32
  let v83 : BitVec 32 := Scalar.muli v73 c512_i32_44
  let v84 : BitVec 32 := v83
  let v88 : Index := Scalar.indexCast v84
  let c0_48 : Index := 0#32
  ![0, v88.toNat, 0]
def k0_off10 (i : grid0.Coords) : Fin 3 → Nat :=
  let c0_49 : Index := 0#32
  let c0_50 : Index := 0#32
  let arg1 : BitVec 32 := BitVec.ofNat 32 (i 1).val
  let c128_i32 : BitVec 32 := 128#32
  let v0 : BitVec 32 := Scalar.muli arg1 c128_i32
  let c0_i32_29 : BitVec 32 := 0#32
  let v58 : BitVec 1 := Scalar.cmpi .sgt v0 c0_i32_29
  let v59 : BitVec 32 := Scalar.extui v58
  let c0_i32_30 : BitVec 32 := 0#32
  let v60 : BitVec 1 := Scalar.cmpi .slt v0 c0_i32_30
  let v61 : BitVec 32 := Scalar.extui v60
  let v62 : BitVec 32 := Scalar.subi v59 v61
  let c512_i32 : BitVec 32 := 512#32
  let c0_i32_31 : BitVec 32 := 0#32
  let v63 : BitVec 1 := Scalar.cmpi .sgt c512_i32 c0_i32_31
  let v64 : BitVec 32 := Scalar.extui v63
  let c0_i32_32 : BitVec 32 := 0#32
  let v65 : BitVec 1 := Scalar.cmpi .slt c512_i32 c0_i32_32
  let v66 : BitVec 32 := Scalar.extui v65
  let v67 : BitVec 32 := Scalar.subi v64 v66
  let v68 : BitVec 1 := Scalar.cmpi .ne v62 v67
  let v69 : BitVec 32 := Scalar.remsi v0 c512_i32
  let c0_i32_33 : BitVec 32 := 0#32
  let v70 : BitVec 1 := Scalar.cmpi .ne v69 c0_i32_33
  let v71 : BitVec 1 := Scalar.andi v68 v70
  let v57 : BitVec 32 := Scalar.divsi v0 c512_i32
  let c1_i32 : BitVec 32 := 1#32
  let v72 : BitVec 32 := Scalar.subi v57 c1_i32
  let v73 : BitVec 32 := Scalar.select v71 v72 v57
  let c512_i32_44 : BitVec 32 := 512#32
  let v83 : BitVec 32 := Scalar.muli v73 c512_i32_44
  let v84 : BitVec 32 := v83
  let v91 : Index := Scalar.indexCast v84
  ![0, 0, v91.toNat]
def k0_cond1 (i : grid0.Coords) (v2 : BitVec 32) : BitVec 1 :=
  let arg1 : BitVec 32 := BitVec.ofNat 32 (i 1).val
  let c128_i32 : BitVec 32 := 128#32
  let v0 : BitVec 32 := Scalar.muli arg1 c128_i32
  let v3 : BitVec 1 := Scalar.cmpi .sge v0 v2
  let v4 : BitVec 32 := Scalar.extui v3
  let c0_i32 : BitVec 32 := 0#32
  let v5 : BitVec 1 := Scalar.cmpi .ne v4 c0_i32
  v5

def k0_cond2 (i : grid0.Coords) (v2 : BitVec 32) : BitVec 1 :=
  let arg1 : BitVec 32 := BitVec.ofNat 32 (i 1).val
  let c128_i32 : BitVec 32 := 128#32
  let v0 : BitVec 32 := Scalar.muli arg1 c128_i32
  let v6 : BitVec 1 := Scalar.cmpi .slt v0 v2
  let v7 : BitVec 32 := Scalar.extui v6
  let c0_i32_0 : BitVec 32 := 0#32
  let v8 : BitVec 1 := Scalar.cmpi .ne v7 c0_i32_0
  v8

def cc0_transform_0 (k0_off1_inb : ∀ i : grid0.Coords, ∀ a, (k0_off1 i) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c128_i32 : BitVec 32 := 128#32
  let v4 : BitVec 32 := Scalar.divsi v3 c128_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, v21.toNat, c0_i32_6.toNat, c0_i32_7.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c128_i32 : BitVec 32 := 128#32
  let v4 : BitVec 32 := Scalar.divsi v3 c128_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, v21.toNat, c0_i32_6.toNat]

def cc0_transform_2 (k0_off1_inb : ∀ i : grid0.Coords, ∀ a, (k0_off1 i) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c128_i32 : BitVec 32 := 128#32
  let v4 : BitVec 32 := Scalar.divsi v3 c128_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c128_i32 c0_i32_2
  let v11 : BitVec 32 := Scalar.extui v10
  let c0_i32_3 : BitVec 32 := 0#32
  let v12 : BitVec 1 := Scalar.cmpi .slt c128_i32 c0_i32_3
  let v13 : BitVec 32 := Scalar.extui v12
  let v14 : BitVec 32 := Scalar.subi v11 v13
  let v15 : BitVec 1 := Scalar.cmpi .ne v9 v14
  let v16 : BitVec 32 := Scalar.remsi v3 c128_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, v21.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x16x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x16x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x15360x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x15360 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x15360x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S16x512x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x16x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "mask" => some ⊥
  | "sm_log2e" => some (((Real.sqrt 192)⁻¹ * (Real.log 2)⁻¹ : ℝ) : EReal)
  | _ => none
-- ==== ReferenceIdeal.lean ====
abbrev S2x15360x16x512 : Shape := ⟨4, ![2, 15360, 16, 512]⟩
abbrev S2x15360x16 : Shape := ⟨3, ![2, 15360, 16]⟩
abbrev S2x15360x16x64 : Shape := ⟨4, ![2, 15360, 16, 64]⟩
abbrev S2x15360x512 : Shape := ⟨3, ![2, 15360, 512]⟩
abbrev S2x15360 : Shape := ⟨2, ![2, 15360]⟩
abbrev S2x15360x64 : Shape := ⟨3, ![2, 15360, 64]⟩
abbrev S2 : Shape := ⟨1, ![2]⟩
abbrev S16x512x128 : Shape := ⟨3, ![16, 512, 128]⟩
abbrev S16x128 : Shape := ⟨2, ![16, 128]⟩
abbrev S2x15360x16x128 : Shape := ⟨4, ![2, 15360, 16, 128]⟩
abbrev S2x245760x512 : Shape := ⟨3, ![2, 245760, 512]⟩
abbrev S2x245760x15360 : Shape := ⟨3, ![2, 245760, 15360]⟩
abbrev S2x245760x64 : Shape := ⟨3, ![2, 245760, 64]⟩
abbrev S2x15360x16x15360 : Shape := ⟨4, ![2, 15360, 16, 15360]⟩
abbrev S2x15360x16x1 : Shape := ⟨4, ![2, 15360, 16, 1]⟩
abbrev S2x1x1x15360 : Shape := ⟨4, ![2, 1, 1, 15360]⟩
abbrev S16x128x2x15360 : Shape := ⟨4, ![16, 128, 2, 15360]⟩
abbrev S1x1x16x128 : Shape := ⟨4, ![1, 1, 16, 128]⟩
abbrev S2x1x1 : Shape := ⟨3, ![2, 1, 1]⟩

abbrev nBuf : Space → Nat
  | .hbm => 12
  | .vmem => 12
  | .smem => 0
  | _ => 0

abbrev bufTy : (tb : Table) → Fin (tcTables nBuf tb) → BufTy
  | .hbm, ⟨0, _⟩ => ⟨S2x15360x16x512, .fp8e4m3⟩
  | .hbm, ⟨1, _⟩ => ⟨S2x15360x16, .f32⟩
  | .hbm, ⟨2, _⟩ => ⟨S2x15360x16x64, .bf16⟩
  | .hbm, ⟨3, _⟩ => ⟨S2x15360x512, .fp8e4m3⟩
  | .hbm, ⟨4, _⟩ => ⟨S2x15360, .f32⟩
  | .hbm, ⟨5, _⟩ => ⟨S2x15360x64, .bf16⟩
  | .hbm, ⟨6, _⟩ => ⟨S2, .i32⟩
  | .hbm, ⟨7, _⟩ => ⟨S16x512x128, .fp8e4m3⟩
  | .hbm, ⟨8, _⟩ => ⟨S16x128, .f32⟩
  | .hbm, ⟨9, _⟩ => ⟨S2x15360x16x128, .fp8e4m3⟩
  | .hbm, ⟨10, _⟩ => ⟨S2x15360x16, .f32⟩
  | .hbm, ⟨11, _⟩ => ⟨S2x15360x16, .f32⟩
  | .local _ .vmem, ⟨0, _⟩ => ⟨S2x15360x16x512, .fp8e4m3⟩
  | .local _ .vmem, ⟨1, _⟩ => ⟨S2x15360x16, .f32⟩
  | .local _ .vmem, ⟨2, _⟩ => ⟨S2x15360x16x64, .bf16⟩
  | .local _ .vmem, ⟨3, _⟩ => ⟨S2x15360x512, .fp8e4m3⟩
  | .local _ .vmem, ⟨4, _⟩ => ⟨S2x15360, .f32⟩
  | .local _ .vmem, ⟨5, _⟩ => ⟨S2x15360x64, .bf16⟩
  | .local _ .vmem, ⟨6, _⟩ => ⟨S2, .i32⟩
  | .local _ .vmem, ⟨7, _⟩ => ⟨S16x512x128, .fp8e4m3⟩
  | .local _ .vmem, ⟨8, _⟩ => ⟨S16x128, .f32⟩
  | .local _ .vmem, ⟨9, _⟩ => ⟨S2x15360x16x128, .fp8e4m3⟩
  | .local _ .vmem, ⟨10, _⟩ => ⟨S2x15360x16, .f32⟩
  | .local _ .vmem, ⟨11, _⟩ => ⟨S2x15360x16, .f32⟩
  | _, _ => ⟨S2x15360x16x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "log2e" => some (((Real.log 2)⁻¹ : ℝ) : EReal)
  | "sm" => some (((Real.sqrt 192)⁻¹ : ℝ) : EReal)
  | _ => none

abbrev grid0 : Pipeline.Grid := .none

abbrev stage0_0 : Fin 1 → Memref sig .tc .vmem S2x15360x16x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x15360x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x15360x16x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x15360x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x15360 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x15360x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x512x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x15360x16x128 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x15360x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x15360x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.RunKernel.lean ====
/-
The two ways the kernel's body runs at a grid point, each found by symbolic execution: a block of query rows past the batch's
length only fills its results with zeros and ones; any other block runs the attention. Each run states which pieces it stores
into the three results.
-/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Pipeline.Covers
public import Idealize.ShloMosaic.Lib.Claim
public import Idealize.ShloMosaic.Lib.Ring
import Idealize.ShloMosaic.Lib.Tactic
import Idealize.ShloMosaic.Lib.UnfoldOut
import Idealize.ShloMosaic.Lib.WordCmp

@[expose] public section

set_option maxRecDepth 16384
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the runs. -/
local notation "𝕄G" => MT nD τ sig Unit (Elt F) ℕ (UR sig nD τ) ℕ

/-- The batch's number of valid rows, as the body reads it off the table of lengths. -/
abbrev lensWord (i : grid0.Coords) (arg2 : Memref sig .tc .smem S2 .i32) (X2 : BufTy.Contents (Elt F) arg2.view.ty) : BitVec 32 :=
  View.readAt (Elt F) arg2.view (Rect.unit (s := S2) (k0_off1 i) S1.size (k0_off1_inb i)).toLoadRect X2 (Shape.Idx.first (numel1_S1.symm ▸ Nat.one_pos))

/-- What the body holds while it runs: the table of lengths at a share, and each block and each scratch buffer whole. -/
abbrev Held (c : Dev nD) (q : PosShare TreeShare) (arg2 : Memref sig .tc .smem S2 .i32) (arg3 : Memref sig .tc .vmem S1x128x16x512 .fp8e4m3) (arg4 : Memref sig .tc .vmem S1x128x16 .f32) (arg5 : Memref sig .tc .vmem S1x128x16x64 .bf16) (arg6 : Memref sig .tc .vmem S1x15360x512 .fp8e4m3) (arg7 : Memref sig .tc .vmem S1x1x15360 .f32) (arg8 : Memref sig .tc .vmem S1x15360x64 .bf16) (arg9 : Memref sig .tc .vmem S16x512x128 .fp8e4m3) (arg10 : Memref sig .tc .vmem S16x128 .f32) (arg11 : Memref sig .tc .vmem S1x128x16x128 .fp8e4m3) (arg12 : Memref sig .tc .vmem S1x128x16 .f32) (arg13 : Memref sig .tc .vmem S1x128x16 .f32) (arg14 : Memref sig .tc .vmem S2048x512 .fp8e4m3) (arg15 : Memref sig .tc .vmem S2048x64 .bf16) (arg16 : Memref sig .tc .vmem S2048x128 .f32) (arg17 : Memref sig .tc .vmem S2048x128 .f32) (arg18 : Memref sig .tc .vmem S2048x128 .f32) (arg19 : Memref sig .tc .vmem S4x2048x128 .f32) (arg20 : Memref sig .tc .vmem S2048x128 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) : sProp 𝕄G :=
  iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))

/-- The counted loop's invariant at fixed values of the words its region does not read. -/
@[sl_loop, reducible] def loopMain (𝒱 : Variants) (c : Dev nD) (bd : Option 𝒱.V) (E : Set ℕ) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)  (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (X_arg15 : BufTy.Contents (Elt F) arg15.view.ty) (X_arg16 : BufTy.Contents (Elt F) arg16.view.ty) (G_arg17 : BufTy.Contents (Elt F) arg17.view.ty) (G_arg18 : BufTy.Contents (Elt F) arg18.view.ty) (G_arg19 : BufTy.Contents (Elt F) arg19.view.ty) :
    Idealize.ShloMosaic.LoopInv (M := MT nD τ sig Unit (Elt F) ℕ (UR sig nD τ) ℕ) Idealize.ShloMosaic.frame (wpE defs₀ 𝒱 (c : Thread nD τ) bd) E
      (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 0#32 1#32 0#32 0#32 0#32) where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 0#32 1#32 0#32 0#32 0#32 X_arg6 X_arg7 X_arg8 X_arg14 X_arg15 X_arg16 G_arg17 G_arg18 G_arg19
  step := (loopInv_k0_t1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 0#32 1#32 0#32 0#32 0#32 X_arg6 X_arg7 X_arg8 X_arg14 X_arg15 X_arg16 G_arg17 G_arg18 G_arg19).step

/-- The remainder loop the unrolling leaves has no trip at any grid point. -/
theorem rest_trips (i : grid0.Coords) : (k0_t2_loop i).trips = 0 := by
  have h : ∀ t : Fin grid0.N, (k0_t2_loop (grid0.coords t)).trips = 0 := by decide +kernel
  obtain ⟨t, rfl⟩ := grid0.coords_surjective i
  exact h t

/-- A point whose block of rows starts at or past the batch's length: zeros, ones and zeros are stored. -/
@[irreducible] def runIdle (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)
    (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty)
    (hc1 : k0_cond1 i (lensWord i arg2 X2) = 1#1) (hc2 : ¬ k0_cond2 i (lensWord i arg2 X2) = 1#1) :
    Σ' (L11 : List (View.Piece (Elt F) S1x128x16x128 .fp8e4m3)) (L12 : List (View.Piece (Elt F) S1x128x16 .f32)), { L13 : List (View.Piece (Elt F) S1x128x16 .f32) // ∀ (E : Set ℕ),
      Held (F := F) c q arg2 arg3 arg4 arg5 arg6 arg7 arg8 arg9 arg10 arg11 arg12 arg13 arg14 arg15 arg16 arg17 arg18 arg19 arg20 X2 X3 X4 X5 X6 X7 X8 X9 X10 X11 X12 X13 X14 X15 X16 X17 X18 X19 X20
      ⊢ wp frame (wpE (defs₀ (F := F)) 𝒱 (c : Thread nD τ) bd) E (cc0_mla_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} (arg11.view.writes (Elt F) X11 L11)) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)))) } := by
  refine ⟨?_, ?_, ?_, fun E => ?run⟩
  case run =>
    simp only [cc0_mla_attn_eq_skeleton]
    unfold cc0_mla_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    iintro ⟨H2, H3, H4, H5, H6, H7, H8, H9, H10, H11, H12, H13, H14, H15, H16, H17, H18, H19, H20⟩
    sl_exec (disch := first | (guard_target = k0_cond1 _ _ = _; sl_exact hc1) | (guard_target = ¬ (k0_cond2 _ _ = _); sl_exact hc2))
    sl_step
    sl_close

/-- A point whose block of rows starts before the batch's length: the whole attention of the block runs. The pieces it stores
   into the three results are the run's own finds. -/
@[irreducible] def runLive (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)
    (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty)
    (hc1 : ¬ k0_cond1 i (lensWord i arg2 X2) = 1#1) (hc2 : k0_cond2 i (lensWord i arg2 X2) = 1#1) :
    Σ' (L11 : List (View.Piece (Elt F) S1x128x16x128 .fp8e4m3)) (L12 : List (View.Piece (Elt F) S1x128x16 .f32)), { L13 : List (View.Piece (Elt F) S1x128x16 .f32) // ∀ (E : Set ℕ),
      Held (F := F) c q arg2 arg3 arg4 arg5 arg6 arg7 arg8 arg9 arg10 arg11 arg12 arg13 arg14 arg15 arg16 arg17 arg18 arg19 arg20 X2 X3 X4 X5 X6 X7 X8 X9 X10 X11 X12 X13 X14 X15 X16 X17 X18 X19 X20
      ⊢ wp frame (wpE (defs₀ (F := F)) 𝒱 (c : Thread nD τ) bd) E (cc0_mla_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} (arg11.view.writes (Elt F) X11 L11)) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)))) } := by
  refine ⟨?_, ?_, ?_, fun E => ?run⟩
  case run =>
    simp only [cc0_mla_attn_eq_skeleton]
    unfold cc0_mla_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    iintro ⟨H2, H3, H4, H5, H6, H7, H8, H9, H10, H11, H12, H13, H14, H15, H16, H17, H18, H19, H20⟩
    have ht2 : (k0_t2_loop i).trips = 0 := rest_trips i
    sl_exec (disch := first | (guard_target = ¬ (k0_cond1 _ _ = _); sl_exact hc1) | (guard_target = k0_cond2 _ _ = _; sl_exact hc2))
    sl_step
    sl_close

end Cert.Kernel.Gen

end
-- ==== Proof.BodyKernel.lean ====
/-
  THE BODY ON ITS MEMREFS. `BodySpec` says of three predicates that the body's stores, in whichever of its two branches a grid point
  takes, leave contents that meet them; `sound_kernel` is the body's triple at any such predicates.
-/
module

public import proofs.«01_k».proof.Proof.RunKernel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What the body's stores leave in the three outputs meets the predicates `P8`, `P9` and `P10`, the inputs read as `xN`. -/
structure BodySpec (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)
    (X2 : BufTy.Contents (Elt F) arg2.view.ty) (x3 : Vec F S1x128x16x512 .fp8e4m3) (x4 : Vec F S1x128x16 .f32) (x5 : Vec F S1x128x16x64 .bf16) (x6 : Vec F S1x15360x512 .fp8e4m3) (x7 : Vec F S1x1x15360 .f32) (x8 : Vec F S1x15360x64 .bf16) (x9 : Vec F S16x512x128 .fp8e4m3) (x10 : Vec F S16x128 .f32) (P8 : Vec F S1x128x16x128 .fp8e4m3 → Prop) (P9 : Vec F S1x128x16 .f32 → Prop) (P10 : Vec F S1x128x16 .f32 → Prop) : Prop where
  live : (∀ (c : Dev nD) (q : PosShare TreeShare) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty),
      arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 → arg10.view.read (Elt F) X10 = x10 →
      ∀ (hc1 : ¬ k0_cond1 i (lensWord i arg2 X2) = 1#1) (hc2 :  k0_cond2 i (lensWord i arg2 X2) = 1#1),
      P8 (arg11.view.read (Elt F) (arg11.view.writes (Elt F) X11 (runLive (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).1)) ∧ P9 (arg12.view.read (Elt F) (arg12.view.writes (Elt F) X12 (runLive (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.1)) ∧ P10 (arg13.view.read (Elt F) (arg13.view.writes (Elt F) X13 (runLive (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.2.1)))
  idle : (∀ (c : Dev nD) (q : PosShare TreeShare) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty),
      arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 → arg10.view.read (Elt F) X10 = x10 →
      ∀ (hc1 :  k0_cond1 i (lensWord i arg2 X2) = 1#1) (hc2 : ¬ k0_cond2 i (lensWord i arg2 X2) = 1#1),
      P8 (arg11.view.read (Elt F) (arg11.view.writes (Elt F) X11 (runIdle (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).1)) ∧ P9 (arg12.view.read (Elt F) (arg12.view.writes (Elt F) X12 (runIdle (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.1)) ∧ P10 (arg13.view.read (Elt F) (arg13.view.writes (Elt F) X13 (runIdle (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.2.1)))

/-- The body takes exactly one of its two branches. -/
theorem cond_iff (i : grid0.Coords) (w : BitVec 32) : k0_cond1 i w = 1#1 ↔ ¬ k0_cond2 i w = 1#1 := by
  unfold k0_cond1 k0_cond2
  show (BitVec.ofBool _ = 1#1) ↔ ¬ (BitVec.ofBool _ = 1#1)
  simp only [Scalar.cmpi, IntOp.cmpi, BitVec.sle, BitVec.slt]
  by_cases h : (Scalar.muli (BitVec.ofNat 32 (i 1).val) 128#32).toInt < w.toInt
  · rw [decide_eq_true h, decide_eq_false (not_le.mpr h)]; decide +kernel
  · rw [decide_eq_false h, decide_eq_true (not_lt.mp h)]; decide +kernel

set_option maxHeartbeats 4000000 in
/-- The body on whole memrefs, the inputs' at read contents `xN`: it leaves the inputs as they were and, in each output, contents
    that meet its predicate. -/
theorem sound_kernel (c : Dev nD) (E : Set ℕ) (q : PosShare TreeShare) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)
    (X2 : BufTy.Contents (Elt F) arg2.view.ty) (x3 : Vec F S1x128x16x512 .fp8e4m3) (x4 : Vec F S1x128x16 .f32) (x5 : Vec F S1x128x16x64 .bf16) (x6 : Vec F S1x15360x512 .fp8e4m3) (x7 : Vec F S1x1x15360 .f32) (x8 : Vec F S1x15360x64 .bf16) (x9 : Vec F S16x512x128 .fp8e4m3) (x10 : Vec F S16x128 .f32) (P8 : Vec F S1x128x16x128 .fp8e4m3 → Prop) (P9 : Vec F S1x128x16 .f32 → Prop) (P10 : Vec F S1x128x16 .f32 → Prop)
    (hP : BodySpec i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 x3 x4 x5 x6 x7 x8 x9 x10 P8 P9 P10) :
    (iprop((arg2.view.loc (c : Thread nD τ) ↦[arg2.view.set]{q} X2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) : sProp 𝕄G)
    ⊢ wp frame (wpE (defs₀ (F := F)) Variants.none (c : Thread nD τ) none) E (cc0_mla_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop((arg2.view.loc (c : Thread nD τ) ↦[arg2.view.set]{q} X2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ X, ⌜P8 X⌝ ∗ owns (c : Thread nD τ) arg11 fullShare X) ∗ (∃ X, ⌜P9 X⌝ ∗ owns (c : Thread nD τ) arg12 fullShare X) ∗ (∃ X, ⌜P10 X⌝ ∗ owns (c : Thread nD τ) arg13 fullShare X) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)))) := by
  unfold owns
  iintro ⟨H2, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%d12, %f12, -, H12⟩, ⟨%d13, %f13, -, H13⟩, ⟨%f14, H14⟩, ⟨%f15, H15⟩, ⟨%f16, H16⟩, ⟨%f17, H17⟩, ⟨%f18, H18⟩, ⟨%f19, H19⟩, ⟨%f20, H20⟩⟩
  by_cases hc1 : k0_cond1 i (lensWord i arg2 X2) = 1#1
  · have hc2 : ¬ k0_cond2 i (lensWord i arg2 X2) = 1#1 := (cond_iff i _).mp hc1
    obtain ⟨hs8, hs9, hs10⟩ := hP.idle c q f3 f4 f5 f6 f7 f8 f9 f10 f11 f12 f13 f14 f15 f16 f17 f18 f19 f20 h3 h4 h5 h6 h7 h8 h9 h10 hc1 hc2
    generalize runIdle (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 f3 f4 f5 f6 f7 f8 f9 f10 f11 f12 f13 f14 f15 f16 f17 f18 f19 f20 hc1 hc2 = run at hs8 hs9 hs10
    obtain ⟨L11, L12, L13, hrun⟩ := run
    ihave Hw := (hrun E) $$ [H2 H3 H4 H5 H6 H7 H8 H9 H10 H11 H12 H13 H14 H15 H16 H17 H18 H19 H20]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    iapply (wp_wand frame (wpE (defs₀ (F := F)) Variants.none (c : Thread nD τ) none) E) $$ Hw
    iintro %a ⟨H2, H3, H4, H5, H6, H7, H8, H9, H10, H11, H12, H13, H14, H15, H16, H17, H18, H19, H20⟩
    isplitl [H2]; · iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists f9; isplitr; · ipureintro; exact h9
      iexact H9
    isplitl [H10]
    · iexists f10; isplitr; · ipureintro; exact h10
      iexact H10
    isplitl [H11]
    · iexists _; isplitr; · ipureintro; exact hs8
      iexists _; isplitr; · ipureintro; rfl
      iexact H11
    isplitl [H12]
    · iexists _; isplitr; · ipureintro; exact hs9
      iexists _; isplitr; · ipureintro; rfl
      iexact H12
    isplitl [H13]
    · iexists _; isplitr; · ipureintro; exact hs10
      iexists _; isplitr; · ipureintro; rfl
      iexact H13
    isplitl [H14]; · iexact H14
    isplitl [H15]; · iexact H15
    isplitl [H16]; · iexact H16
    isplitl [H17]; · iexact H17
    isplitl [H18]; · iexact H18
    isplitl [H19]; · iexact H19
    iexact H20
  · have hc2 : k0_cond2 i (lensWord i arg2 X2) = 1#1 := by by_contra h; exact hc1 ((cond_iff i _).mpr h)
    obtain ⟨hs8, hs9, hs10⟩ := hP.live c q f3 f4 f5 f6 f7 f8 f9 f10 f11 f12 f13 f14 f15 f16 f17 f18 f19 f20 h3 h4 h5 h6 h7 h8 h9 h10 hc1 hc2
    generalize runLive (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 f3 f4 f5 f6 f7 f8 f9 f10 f11 f12 f13 f14 f15 f16 f17 f18 f19 f20 hc1 hc2 = run at hs8 hs9 hs10
    obtain ⟨L11, L12, L13, hrun⟩ := run
    ihave Hw := (hrun E) $$ [H2 H3 H4 H5 H6 H7 H8 H9 H10 H11 H12 H13 H14 H15 H16 H17 H18 H19 H20]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    iapply (wp_wand frame (wpE (defs₀ (F := F)) Variants.none (c : Thread nD τ) none) E) $$ Hw
    iintro %a ⟨H2, H3, H4, H5, H6, H7, H8, H9, H10, H11, H12, H13, H14, H15, H16, H17, H18, H19, H20⟩
    isplitl [H2]; · iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists f9; isplitr; · ipureintro; exact h9
      iexact H9
    isplitl [H10]
    · iexists f10; isplitr; · ipureintro; exact h10
      iexact H10
    isplitl [H11]
    · iexists _; isplitr; · ipureintro; exact hs8
      iexists _; isplitr; · ipureintro; rfl
      iexact H11
    isplitl [H12]
    · iexists _; isplitr; · ipureintro; exact hs9
      iexists _; isplitr; · ipureintro; rfl
      iexact H12
    isplitl [H13]
    · iexists _; isplitr; · ipureintro; exact hs10
      iexists _; isplitr; · ipureintro; rfl
      iexact H13
    isplitl [H14]; · iexact H14
    isplitl [H15]; · iexact H15
    isplitl [H16]; · iexact H16
    isplitl [H17]; · iexact H17
    isplitl [H18]; · iexact H18
    isplitl [H19]; · iexact H19
    iexact H20

end Cert.Kernel.Gen
-- ==== Proof.RowBlock.lean ====
/-
  THE BLOCK OF ROWS A GRID POINT READS. The query windows' index maps send a point to its own block of 128 rows, or to the last
  block that holds a valid row where the point's own block lies past the batch's length. `rowBlock` is that computation on words as
  the index maps print it, and `rowBlock_toNat` is what it computes.
-/
module

public import Idealize.ShloMosaic.PureOps

@[expose] public section

namespace Cert.MlaPrompt

open Idealize.ShloMosaic

/-- The block of rows that a point numbered `a` along the grid's second axis reads in a batch with `w` valid rows. -/
def rowBlock (a w : BitVec 32) : BitVec 32 :=
  let v3 := Scalar.maxsi (Scalar.subi w 1#32) 0#32
  let v4 := Scalar.divsi v3 128#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 128#32 0#32)) (Scalar.extui (Scalar.cmpi .slt 128#32 0#32))
  let v15 := Scalar.cmpi .ne v9 v14
  let v16 := Scalar.remsi v3 128#32
  let v17 := Scalar.cmpi .ne v16 0#32
  let v18 := Scalar.andi v15 v17
  let v19 := Scalar.subi v4 1#32
  let v20 := Scalar.select v18 v19 v4
  Scalar.minsi a v20

theorem rowBlock_quot (x : BitVec 32) (hx : x.toNat < 2 ^ 31) :
    (let v4 := Scalar.divsi x 128#32
     let v9 : BitVec 32 := Scalar.subi (Scalar.extui (Scalar.cmpi .sgt x 0#32)) (Scalar.extui (Scalar.cmpi .slt x 0#32))
     let v14 : BitVec 32 := Scalar.subi (Scalar.extui (Scalar.cmpi .sgt 128#32 0#32)) (Scalar.extui (Scalar.cmpi .slt 128#32 0#32))
     let v15 := Scalar.cmpi .ne v9 v14
     let v17 := Scalar.cmpi .ne (Scalar.remsi x 128#32) 0#32
     Scalar.select (Scalar.andi v15 v17) (Scalar.subi v4 1#32) v4) = BitVec.ofNat 32 (x.toNat / 128) := by
  have hdiv : Scalar.divsi x 128#32 = BitVec.ofNat 32 (x.toNat / 128) := by
    have hc : ¬ IntOp.SDivCorner x 128#32 := by
      unfold IntOp.SDivCorner; rintro (h | ⟨-, h⟩) <;> revert h <;> decide
    show IntOp.divsi _ x 128#32 = _
    unfold IntOp.divsi; rw [if_neg hc]
    have hm : x.msb = false := by rw [BitVec.msb_eq_decide]; simp; omega
    rw [BitVec.sdiv_eq, hm]
    apply BitVec.eq_of_toNat_eq
    simp [BitVec.msb, BitVec.getMsbD]
    omega
  by_cases h0 : x = 0#32
  · subst h0; decide +kernel
  · have hpos : (0#32).slt x = true := by
      have : x.toNat ≠ 0 := fun h => h0 (BitVec.eq_of_toNat_eq (by simpa using h))
      simp only [BitVec.slt, decide_eq_true_eq, BitVec.toInt_eq_toNat_cond]
      simp
      omega
    have hneg : x.slt 0#32 = false := by
      simp only [BitVec.slt, decide_eq_false_iff_not, BitVec.toInt_eq_toNat_cond]
      simp
      omega
    have hv15 : Scalar.cmpi .ne (Scalar.subi (Scalar.extui (Scalar.cmpi .sgt x 0#32)) (Scalar.extui (Scalar.cmpi .slt x 0#32)) : BitVec 32)
        (Scalar.subi (Scalar.extui (Scalar.cmpi .sgt 128#32 0#32)) (Scalar.extui (Scalar.cmpi .slt 128#32 0#32))) = 0#1 := by
      have h1 : Scalar.cmpi .sgt x 0#32 = 1#1 := by show BitVec.ofBool ((0#32).slt x) = _; rw [hpos]; rfl
      have h2 : Scalar.cmpi .slt x 0#32 = 0#1 := by show BitVec.ofBool (x.slt 0#32) = _; rw [hneg]; rfl
      rw [h1, h2]; decide +kernel
    dsimp only
    rw [hv15, hdiv]
    have : ∀ y : BitVec 1, Scalar.andi 0#1 y = 0#1 := by decide +kernel
    rw [this]; rfl

theorem rowBlock_toNat (n : Nat) (hn : n < 120) (w : BitVec 32) :
    (rowBlock (BitVec.ofNat 32 n) w).toNat = min n ((Scalar.maxsi (Scalar.subi w 1#32) 0#32).toNat / 128) := by
  unfold rowBlock
  have hx : (Scalar.maxsi (Scalar.subi w 1#32) 0#32).toNat < 2 ^ 31 := by
    show (if (0#32).slt (w - 1#32) then (w - 1#32) else 0#32).toNat < _
    split
    · rename_i h
      simp only [BitVec.slt, decide_eq_true_eq] at h
      have h1 : (0#32).toInt = 0 := by decide
      rw [h1] at h
      have := BitVec.toInt_pos_iff.mp (le_of_lt h)
      omega
    · decide
  have h := rowBlock_quot _ hx
  dsimp only at h ⊢
  rw [h]
  generalize (Scalar.maxsi (Scalar.subi w 1#32) 0#32) = x at hx ⊢
  show (if (BitVec.ofNat 32 n).slt (BitVec.ofNat 32 (x.toNat / 128)) then _ else _ : BitVec 32).toNat = _
  have hi : ∀ k : Nat, k < 2 ^ 31 → (BitVec.ofNat 32 k).toInt = k := fun k hk => by
    have e : (BitVec.ofNat 32 k).toNat = k := by rw [BitVec.toNat_ofNat]; omega
    rw [BitVec.toInt_eq_toNat_cond, e, if_pos (by omega)]
  have hq : x.toNat / 128 < 2 ^ 31 := by omega
  simp only [BitVec.slt, decide_eq_true_eq, hi n (by omega), hi _ hq]
  split <;> simp only [BitVec.toNat_ofNat] <;> omega

end Cert.MlaPrompt
-- ==== Proof.LaunchKernel.lean ====
/-
  THE LAUNCH. The host prefix, the table of lengths as the pipeline holds it, each window's block at a point, and the run of @main: from
  any predicates that the body's stores meet at every point (`BodySpec`), every array at the end stands in the matching relation
  to its contents at the call, and every semaphore counter is zero.
-/
module

public import proofs.«01_k».proof.Proof.BodyKernel
public import proofs.«01_k».proof.Proof.RowBlock
public import Idealize.ShloMosaic.Lib.Pipeline.DatRel
public import Idealize.ShloMosaic.Lib.Pipeline.ArrRel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligationRel cellOf)
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: as launched, the host's results written. -/
abbrev V (c : Dev nD) (b : Ref sig .tc) : Buf (Elt F) ((c : Thread nD τ).loc b) := StableHlo.after hostOps0 (fun b => m (c, b)) b

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ⟨rfl, rfl, rfl, rfl, rfl, rfl⟩ fun c => main_chain c

theorem V_main_arg0 (c : Dev nD) : V m c main_arg0 = m ((c : Thread nD τ).loc main_arg0) :=
  StableHlo.after_of_forall_not_mem (b := Proc.devRef .tc main_arg0) _ _ (List.forall_iff_forall_mem.mp (by
    simp only [List.Forall]
    repeat' apply And.intro
    all_goals exact fun hm => StableHlo.devRef_ne_of_ne (fun h => by cases h) (Finset.mem_singleton.mp hm)))
theorem V_main_arg1 (c : Dev nD) : V m c main_arg1 = m ((c : Thread nD τ).loc main_arg1) :=
  StableHlo.after_of_forall_not_mem (b := Proc.devRef .tc main_arg1) _ _ (List.forall_iff_forall_mem.mp (by
    simp only [List.Forall]
    repeat' apply And.intro
    all_goals exact fun hm => StableHlo.devRef_ne_of_ne (fun h => by cases h) (Finset.mem_singleton.mp hm)))
theorem V_main_arg2 (c : Dev nD) : V m c main_arg2 = m ((c : Thread nD τ).loc main_arg2) :=
  StableHlo.after_of_forall_not_mem (b := Proc.devRef .tc main_arg2) _ _ (List.forall_iff_forall_mem.mp (by
    simp only [List.Forall]
    repeat' apply And.intro
    all_goals exact fun hm => StableHlo.devRef_ne_of_ne (fun h => by cases h) (Finset.mem_singleton.mp hm)))
theorem V_main_arg3 (c : Dev nD) : V m c main_arg3 = m ((c : Thread nD τ).loc main_arg3) :=
  StableHlo.after_of_forall_not_mem (b := Proc.devRef .tc main_arg3) _ _ (List.forall_iff_forall_mem.mp (by
    simp only [List.Forall]
    repeat' apply And.intro
    all_goals exact fun hm => StableHlo.devRef_ne_of_ne (fun h => by cases h) (Finset.mem_singleton.mp hm)))
theorem V_main_arg4 (c : Dev nD) : V m c main_arg4 = m ((c : Thread nD τ).loc main_arg4) :=
  StableHlo.after_of_forall_not_mem (b := Proc.devRef .tc main_arg4) _ _ (List.forall_iff_forall_mem.mp (by
    simp only [List.Forall]
    repeat' apply And.intro
    all_goals exact fun hm => StableHlo.devRef_ne_of_ne (fun h => by cases h) (Finset.mem_singleton.mp hm)))
theorem V_main_arg5 (c : Dev nD) : V m c main_arg5 = m ((c : Thread nD τ).loc main_arg5) :=
  StableHlo.after_of_forall_not_mem (b := Proc.devRef .tc main_arg5) _ _ (List.forall_iff_forall_mem.mp (by
    simp only [List.Forall]
    repeat' apply And.intro
    all_goals exact fun hm => StableHlo.devRef_ne_of_ne (fun h => by cases h) (Finset.mem_singleton.mp hm)))
theorem V_main_arg6 (c : Dev nD) : V m c main_arg6 = m ((c : Thread nD τ).loc main_arg6) :=
  StableHlo.after_of_forall_not_mem (b := Proc.devRef .tc main_arg6) _ _ (List.forall_iff_forall_mem.mp (by
    simp only [List.Forall]
    repeat' apply And.intro
    all_goals exact fun hm => StableHlo.devRef_ne_of_ne (fun h => by cases h) (Finset.mem_singleton.mp hm)))
theorem V_main_arg7 (c : Dev nD) : V m c main_arg7 = m ((c : Thread nD τ).loc main_arg7) :=
  StableHlo.after_of_forall_not_mem (b := Proc.devRef .tc main_arg7) _ _ (List.forall_iff_forall_mem.mp (by
    simp only [List.Forall]
    repeat' apply And.intro
    all_goals exact fun hm => StableHlo.devRef_ne_of_ne (fun h => by cases h) (Finset.mem_singleton.mp hm)))
theorem V_main_arg8 (c : Dev nD) : V m c main_arg8 = m ((c : Thread nD τ).loc main_arg8) :=
  StableHlo.after_of_forall_not_mem (b := Proc.devRef .tc main_arg8) _ _ (List.forall_iff_forall_mem.mp (by
    simp only [List.Forall]
    repeat' apply And.intro
    all_goals exact fun hm => StableHlo.devRef_ne_of_ne (fun h => by cases h) (Finset.mem_singleton.mp hm)))

/-! ## The table of lengths -/

/-- The table's contents as launched. -/
abbrev lens : pre0.Contents (Elt F) := fun k => m (((0 : Dev nD) : Thread nD τ).loc (pre0.ref k))

theorem row_lt (i : grid0.Coords) : (i 1).val < 120 := (i 1).isLt
theorem batch_lt (i : grid0.Coords) : (i 0).val < 2 := (i 0).isLt

theorem batch_toNat (i : grid0.Coords) : (BitVec.ofNat 32 (i 0).val).toNat = (i 0).val := by
  have := batch_lt i; rw [BitVec.toNat_ofNat]; omega

/-- The word of the table that a point's index maps and body read. -/
abbrev lenAt (pf : pre0.Contents (Elt F)) (i : grid0.Coords) : BitVec 32 :=
  pf.at 0 (Rect.unit (s := S2) (k0_off1 i) S1.size (k0_off1_inb i)) numel1_S1

theorem transform0_eq (pf : pre0.Contents (Elt F)) (i : grid0.Coords) :
    cc0_transform_0 k0_off1_inb numel1_S1 pf i = ![(i 0).val, (Cert.MlaPrompt.rowBlock (BitVec.ofNat 32 (i 1).val) (lenAt pf i)).toNat, 0, 0] := by
  rw [← batch_toNat i]; rfl
theorem transform1_eq (pf : pre0.Contents (Elt F)) (i : grid0.Coords) :
    cc0_transform_1 k0_off1_inb numel1_S1 pf i = ![(i 0).val, (Cert.MlaPrompt.rowBlock (BitVec.ofNat 32 (i 1).val) (lenAt pf i)).toNat, 0] := by
  rw [← batch_toNat i]; rfl
theorem transform2_eq (pf : pre0.Contents (Elt F)) (i : grid0.Coords) :
    cc0_transform_2 k0_off1_inb numel1_S1 pf i = ![(i 0).val, (Cert.MlaPrompt.rowBlock (BitVec.ofNat 32 (i 1).val) (lenAt pf i)).toNat, 0, 0] := by
  rw [← batch_toNat i]; rfl

theorem rowBlock_lt (i : grid0.Coords) (w : BitVec 32) : (Cert.MlaPrompt.rowBlock (BitVec.ofNat 32 (i 1).val) w).toNat < 120 := by
  rw [Cert.MlaPrompt.rowBlock_toNat _ (row_lt i)]
  exact lt_of_le_of_lt (min_le_left _ _) (row_lt i)

/-- Whatever the lengths, every block that the index maps name is inside its array. -/
theorem lens_ok (pf : pre0.Contents (Elt F)) : ok0 pf := by
  refine ⟨fun i => ⟨?_, ?_⟩, fun i => ⟨?_, ?_⟩, fun i => ⟨?_, ?_⟩⟩
  all_goals first
    | exact .inl rfl
    | exact .inr (Affine.block_words_dvd (of_decide_eq_true rfl) (by decide))
    | skip
  · have h0 := batch_lt i; have h1 := rowBlock_lt i (lenAt pf i)
    rw [transform0_eq]
    intro a; fin_cases a
    · show ((i 0).val + 1) * 1 ≤ 2; omega
    · show ((Cert.MlaPrompt.rowBlock (BitVec.ofNat 32 (i 1).val) (lenAt pf i)).toNat + 1) * 128 ≤ 15360; omega
    · show (0 + 1) * 16 ≤ 16; omega
    · show (0 + 1) * 512 ≤ 512; omega
  · have h0 := batch_lt i; have h1 := rowBlock_lt i (lenAt pf i)
    rw [transform1_eq]
    intro a; fin_cases a
    · show ((i 0).val + 1) * 1 ≤ 2; omega
    · show ((Cert.MlaPrompt.rowBlock (BitVec.ofNat 32 (i 1).val) (lenAt pf i)).toNat + 1) * 128 ≤ 15360; omega
    · show (0 + 1) * 16 ≤ 16; omega
  · have h0 := batch_lt i; have h1 := rowBlock_lt i (lenAt pf i)
    rw [transform2_eq]
    intro a; fin_cases a
    · show ((i 0).val + 1) * 1 ≤ 2; omega
    · show ((Cert.MlaPrompt.rowBlock (BitVec.ofNat 32 (i 1).val) (lenAt pf i)).toNat + 1) * 128 ≤ 15360; omega
    · show (0 + 1) * 16 ≤ 16; omega
    · show (0 + 1) * 64 ≤ 64; omega

/-- The table as launched, admissible. -/
abbrev tbl : (pcfg0 (F := F)).Adm := ⟨lens m, lens_ok (lens m)⟩
abbrev tbls : (p : Fin 1) → (pcfgs (F := F) p).Adm := fun _ => tbl m
abbrev cfgT : Cfg sig Λ₀ := cfg0 (tbl m)

theorem lens_eq (c : Dev nD) (k : Fin pre0.K) : V m c (pre0.ref k) = (tbl m).1 k := by
  have hc : c = 0 := Subsingleton.elim _ _
  subst hc
  have hk : k = 0 := Subsingleton.elim _ _
  subst hk
  exact V_main_arg6 m 0

/-! ## The windows' blocks -/

/-- Window `w`'s block at point `t`, read off its array as the call finds it. -/
def iblk (c : Dev nD) (w : Fin (cfgT m).W) (t : Fin (cfgT m).N) : (((cfgT m).win w).xblock ((cfgT m).grid.coords t)).Idx → Elt F ((cfgT m).win w).elt :=
  (((cfgT m).win w).blk t).view.read (Elt F) (V m c (Pipeline.arrRef spec0 w))

theorem before0_0_of {c : Dev nD} (dat : Dat τ (Elt F) Unit ℕ (UR sig nD τ) ℕ (cfgT m) c) (hA : dat.A 0 = V m c (Pipeline.arrRef spec0 0))
    (hafter : ∀ t, dat.after 0 t = iblk m c 0 t) (t : Fin (cfgT m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgT m) c) (hA : dat.A 1 = V m c (Pipeline.arrRef spec0 1))
    (hafter : ∀ t, dat.after 1 t = iblk m c 1 t) (t : Fin (cfgT m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgT m) c) (hA : dat.A 2 = V m c (Pipeline.arrRef spec0 2))
    (hafter : ∀ t, dat.after 2 t = iblk m c 2 t) (t : Fin (cfgT m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgT m) c) (hA : dat.A 3 = V m c (Pipeline.arrRef spec0 3))
    (hafter : ∀ t, dat.after 3 t = iblk m c 3 t) (t : Fin (cfgT m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgT m) c) (hA : dat.A 4 = V m c (Pipeline.arrRef spec0 4))
    (hafter : ∀ t, dat.after 4 t = iblk m c 4 t) (t : Fin (cfgT m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgT m) c) (hA : dat.A 5 = V m c (Pipeline.arrRef spec0 5))
    (hafter : ∀ t, dat.after 5 t = iblk m c 5 t) (t : Fin (cfgT m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgT m) c) (hA : dat.A 6 = V m c (Pipeline.arrRef spec0 6))
    (hafter : ∀ t, dat.after 6 t = iblk m c 6 t) (t : Fin (cfgT m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfgT m) c) (hA : dat.A 7 = V m c (Pipeline.arrRef spec0 7))
    (hafter : ∀ t, dat.after 7 t = iblk m c 7 t) (t : Fin (cfgT m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The outputs, held to predicates. -/
abbrev outs0 : Fin 11 → Bool := fun | 8 => true | 9 => true | 10 => true | _ => false

/-- The exact data of the inputs: each block left as found. Of the outputs nothing is named here. -/
def dats (c : Dev nD) : Dat τ (Elt F) Unit ℕ (UR sig nD τ) ℕ (cfgT m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Classical.arbitrary _
    | ⟨9, _⟩ => Classical.arbitrary _
    | ⟨10, _⟩ => Classical.arbitrary _
  Φ _ := iprop(Pipeline.ΦA spec0 c ∗ Pipeline.ΦT pre0 (lens m) c)
  q _ := fullShare
  owed _ := 0

theorem A_eq (c : Dev nD) (w : Fin (cfgT m).W) : (dats m c).A w = V m c (Pipeline.arrRef spec0 w) := by
  dsimp only [dats]
theorem after0_0 (c : Dev nD) (t : Fin (cfgT m).N) : (dats m c).after 0 t = iblk m c 0 t := by unfold dats; rfl
theorem after0_1 (c : Dev nD) (t : Fin (cfgT m).N) : (dats m c).after 1 t = iblk m c 1 t := by unfold dats; rfl
theorem after0_2 (c : Dev nD) (t : Fin (cfgT m).N) : (dats m c).after 2 t = iblk m c 2 t := by unfold dats; rfl
theorem after0_3 (c : Dev nD) (t : Fin (cfgT m).N) : (dats m c).after 3 t = iblk m c 3 t := by unfold dats; rfl
theorem after0_4 (c : Dev nD) (t : Fin (cfgT m).N) : (dats m c).after 4 t = iblk m c 4 t := by unfold dats; rfl
theorem after0_5 (c : Dev nD) (t : Fin (cfgT m).N) : (dats m c).after 5 t = iblk m c 5 t := by unfold dats; rfl
theorem after0_6 (c : Dev nD) (t : Fin (cfgT m).N) : (dats m c).after 6 t = iblk m c 6 t := by unfold dats; rfl
theorem after0_7 (c : Dev nD) (t : Fin (cfgT m).N) : (dats m c).after 7 t = iblk m c 7 t := by unfold dats; rfl
theorem before0_0 (c : Dev nD) (t : Fin (cfgT m).N) (d) : (dats m c).before 0 t d = iblk m c 0 t :=
  before0_0_of m (dats m c) (A_eq m c 0) (after0_0 m c) t d
theorem before0_1 (c : Dev nD) (t : Fin (cfgT m).N) (d) : (dats m c).before 1 t d = iblk m c 1 t :=
  before0_1_of m (dats m c) (A_eq m c 1) (after0_1 m c) t d
theorem before0_2 (c : Dev nD) (t : Fin (cfgT m).N) (d) : (dats m c).before 2 t d = iblk m c 2 t :=
  before0_2_of m (dats m c) (A_eq m c 2) (after0_2 m c) t d
theorem before0_3 (c : Dev nD) (t : Fin (cfgT m).N) (d) : (dats m c).before 3 t d = iblk m c 3 t :=
  before0_3_of m (dats m c) (A_eq m c 3) (after0_3 m c) t d
theorem before0_4 (c : Dev nD) (t : Fin (cfgT m).N) (d) : (dats m c).before 4 t d = iblk m c 4 t :=
  before0_4_of m (dats m c) (A_eq m c 4) (after0_4 m c) t d
theorem before0_5 (c : Dev nD) (t : Fin (cfgT m).N) (d) : (dats m c).before 5 t d = iblk m c 5 t :=
  before0_5_of m (dats m c) (A_eq m c 5) (after0_5 m c) t d
theorem before0_6 (c : Dev nD) (t : Fin (cfgT m).N) (d) : (dats m c).before 6 t d = iblk m c 6 t :=
  before0_6_of m (dats m c) (A_eq m c 6) (after0_6 m c) t d
theorem before0_7 (c : Dev nD) (t : Fin (cfgT m).N) (d) : (dats m c).before 7 t d = iblk m c 7 t :=
  before0_7_of m (dats m c) (A_eq m c 7) (after0_7 m c) t d

variable (R8 : Dev nD → Fin (cfgT m).N → Vec F S1x128x16x128 .fp8e4m3 → Prop) (R9 R10 : Dev nD → Fin (cfgT m).N → Vec F S1x128x16 .f32 → Prop)

/-- The predicates, window by window. -/
def Rl (c : Dev nD) : (w : Fin (cfgT m).W) → Fin (cfgT m).N → (((cfgT m).win w).block.Idx → Elt F ((cfgT m).win w).elt) → Prop :=
  fun w t X => match w, X with
    | ⟨8, _⟩, X => R8 c t X
    | ⟨9, _⟩, X => R9 c t X
    | ⟨10, _⟩, X => R10 c t X
    | _, _ => True

/-- The body at point `t`, on what the pipeline calls it with. -/
abbrev bodyAt0 (t : Fin (cfgT m).N) : Prog (TpuEff nD τ sig (Elt F) Λ₀ .tc) PUnit :=
  cc0_mla_attn (grid0.coords t) (Memref.whole main_arg6) (Memref.isWhole_whole _) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)) (spec0_8.stage ((cfgT m).slots t 8)) (hstage0_8 (((cfgT m).slots t 8).cast nbuf0_8)) (spec0_9.stage ((cfgT m).slots t 9)) (hstage0_9 (((cfgT m).slots t 9).cast nbuf0_9)) (spec0_10.stage ((cfgT m).slots t 10)) (hstage0_10 (((cfgT m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

/-- The stores of every point meet the predicates. -/
abbrev Meets : Prop := ∀ (c : Dev nD) (t : Fin (cfgT m).N),
  BodySpec (F := F) (grid0.coords t) (Memref.whole main_arg6) (Memref.isWhole_whole _) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)) (spec0_8.stage ((cfgT m).slots t 8)) (hstage0_8 (((cfgT m).slots t 8).cast nbuf0_8)) (spec0_9.stage ((cfgT m).slots t 9)) (hstage0_9 (((cfgT m).slots t 9).cast nbuf0_9)) (spec0_10.stage ((cfgT m).slots t 10)) (hstage0_10 (((cfgT m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    (lens m 0) (iblk m c 0 t) (iblk m c 1 t) (iblk m c 2 t) (iblk m c 3 t) (iblk m c 4 t) (iblk m c 5 t) (iblk m c 6 t) (iblk m c 7 t) (R8 c t) (R9 c t) (R10 c t)

def bodyPre (c : Dev nD) (t : Fin (cfgT m).N) : sProp 𝕄G :=
  iprop((dats m c).Φ t.castSucc ∗ (dats m c).owesAt () t.castSucc
    ∗ (∃ d, owns (c : Thread nD τ) (spec0_0.stage ((cfgT m).slots t 0)) fullShare ((dats m c).before 0 t d))
    ∗ (∃ d, owns (c : Thread nD τ) (spec0_1.stage ((cfgT m).slots t 1)) fullShare ((dats m c).before 1 t d))
    ∗ (∃ d, owns (c : Thread nD τ) (spec0_2.stage ((cfgT m).slots t 2)) fullShare ((dats m c).before 2 t d))
    ∗ (∃ d, owns (c : Thread nD τ) (spec0_3.stage ((cfgT m).slots t 3)) fullShare ((dats m c).before 3 t d))
    ∗ (∃ d, owns (c : Thread nD τ) (spec0_4.stage ((cfgT m).slots t 4)) fullShare ((dats m c).before 4 t d))
    ∗ (∃ d, owns (c : Thread nD τ) (spec0_5.stage ((cfgT m).slots t 5)) fullShare ((dats m c).before 5 t d))
    ∗ (∃ d, owns (c : Thread nD τ) (spec0_6.stage ((cfgT m).slots t 6)) fullShare ((dats m c).before 6 t d))
    ∗ (∃ d, owns (c : Thread nD τ) (spec0_7.stage ((cfgT m).slots t 7)) fullShare ((dats m c).before 7 t d))
    ∗ (∃ Y, ⌜((dats m c).toRRel outs0 (Rl m R8 R9 R10 c)).Finds 8 t Y⌝ ∗ owns (c : Thread nD τ) (spec0_8.stage ((cfgT m).slots t 8)) fullShare Y)
    ∗ (∃ Y, ⌜((dats m c).toRRel outs0 (Rl m R8 R9 R10 c)).Finds 9 t Y⌝ ∗ owns (c : Thread nD τ) (spec0_9.stage ((cfgT m).slots t 9)) fullShare Y)
    ∗ (∃ Y, ⌜((dats m c).toRRel outs0 (Rl m R8 R9 R10 c)).Finds 10 t Y⌝ ∗ owns (c : Thread nD τ) (spec0_10.stage ((cfgT m).slots t 10)) fullShare Y))

def bodyPost (c : Dev nD) (t : Fin (cfgT m).N) : sProp 𝕄G :=
  iprop((dats m c).Φ t.succ ∗ (dats m c).owesAt () t.succ
    ∗ owns (c : Thread nD τ) (spec0_0.stage ((cfgT m).slots t 0)) fullShare ((dats m c).after 0 t)
    ∗ owns (c : Thread nD τ) (spec0_1.stage ((cfgT m).slots t 1)) fullShare ((dats m c).after 1 t)
    ∗ owns (c : Thread nD τ) (spec0_2.stage ((cfgT m).slots t 2)) fullShare ((dats m c).after 2 t)
    ∗ owns (c : Thread nD τ) (spec0_3.stage ((cfgT m).slots t 3)) fullShare ((dats m c).after 3 t)
    ∗ owns (c : Thread nD τ) (spec0_4.stage ((cfgT m).slots t 4)) fullShare ((dats m c).after 4 t)
    ∗ owns (c : Thread nD τ) (spec0_5.stage ((cfgT m).slots t 5)) fullShare ((dats m c).after 5 t)
    ∗ owns (c : Thread nD τ) (spec0_6.stage ((cfgT m).slots t 6)) fullShare ((dats m c).after 6 t)
    ∗ owns (c : Thread nD τ) (spec0_7.stage ((cfgT m).slots t 7)) fullShare ((dats m c).after 7 t)
    ∗ (∃ X, ⌜R8 c t X⌝ ∗ owns (c : Thread nD τ) (spec0_8.stage ((cfgT m).slots t 8)) fullShare X)
    ∗ (∃ X, ⌜R9 c t X⌝ ∗ owns (c : Thread nD τ) (spec0_9.stage ((cfgT m).slots t 9)) fullShare X)
    ∗ (∃ X, ⌜R10 c t X⌝ ∗ owns (c : Thread nD τ) (spec0_10.stage ((cfgT m).slots t 10)) fullShare X))

theorem prefHeld_one (c : Dev nD) (q : PosShare TreeShare) (v : pre0.Contents (Elt F)) :
    (Pipeline.prefHeld (Ix := Unit) (Name := ℕ) (U := UR sig nD τ) (Lvl := ℕ) pre0 c (fun _ => q) v : sProp 𝕄G)
      = ((Memref.whole main_arg6).view.loc (c : Thread nD τ) ↦[(Memref.whole main_arg6).view.set]{q} v 0) := by
  unfold Pipeline.prefHeld
  rw [bigSep_univ_eq_bigSepL [(0 : Fin 1)] (by decide) (by decide)]
  simp only [View.set_whole]
  rfl

set_option maxHeartbeats 4000000 in
theorem sound_body (hR : Meets m R8 R9 R10) (c : Dev nD) (t : Fin (cfgT m).N) :
    bodyPre m R8 R9 R10 c t ⊢ wp frame (wpE (defs₀ (F := F)) Variants.none c none) Set.univ (bodyAt0 m t) (fun _ => bodyPost m R8 R9 R10 c t) := by
  unfold bodyPre bodyPost bodyAt0
  simp only [before0_0, before0_1, before0_2, before0_3, before0_4, before0_5, before0_6, before0_7]
  rw [show (dats m c).Φ t.succ = (dats m c).Φ t.castSucc from rfl,
    show (dats m c).owesAt () t.succ = (dats m c).owesAt () t.castSucc from rfl,
    after0_0, after0_1, after0_2, after0_3, after0_4, after0_5, after0_6, after0_7,
    show (dats m c).Φ t.castSucc = iprop(Pipeline.ΦA spec0 c ∗ Pipeline.ΦT pre0 (lens m) c) from rfl]
  unfold Pipeline.ΦA Pipeline.ΦT
  rw [scopedRest0_eq, prefHeld_one]
  iintro ⟨⟨⟨⟨S0, S1, S2, S3, S4, S5, S6⟩, Hp⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩, ⟨%d10, -, H10⟩⟩
  ihave Hw := (sound_kernel c Set.univ fullShare.right (grid0.coords t) (Memref.whole main_arg6) (Memref.isWhole_whole _) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)) (spec0_8.stage ((cfgT m).slots t 8)) (hstage0_8 (((cfgT m).slots t 8).cast nbuf0_8)) (spec0_9.stage ((cfgT m).slots t 9)) (hstage0_9 (((cfgT m).slots t 9).cast nbuf0_9)) (spec0_10.stage ((cfgT m).slots t 10)) (hstage0_10 (((cfgT m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    (lens m 0) (iblk m c 0 t) (iblk m c 1 t) (iblk m c 2 t) (iblk m c 3 t) (iblk m c 4 t) (iblk m c 5 t) (iblk m c 6 t) (iblk m c 7 t) (R8 c t) (R9 c t) (R10 c t) (hR c t)) $$ [HT H0 H1 H2 H3 H4 H5 H6 H7 H8 H9 H10 S0 S1 S2 S3 S4 S5 S6]
  · simp only [View.set_whole]
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [S0]; · iexact S0
    isplitl [S1]; · iexact S1
    isplitl [S2]; · iexact S2
    isplitl [S3]; · iexact S3
    isplitl [S4]; · iexact S4
    isplitl [S5]; · iexact S5
    iexact S6
  iapply (wp_wand frame (wpE (defs₀ (F := F)) Variants.none (c : Thread nD τ) none) Set.univ) $$ Hw
  simp only [View.set_whole]
  iintro %a ⟨HT, H0, H1, H2, H3, H4, H5, H6, H7, H8, H9, H10, S0, S1, S2, S3, S4, S5, S6⟩
  isplitl [HT S0 S1 S2 S3 S4 S5 S6 Hp]
  · isplitr [HT]
    · isplitr [Hp]
      · isplitl [S0]; · iexact S0
        isplitl [S1]; · iexact S1
        isplitl [S2]; · iexact S2
        isplitl [S3]; · iexact S3
        isplitl [S4]; · iexact S4
        isplitl [S5]; · iexact S5
        iexact S6
      · iexact Hp
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin (cfgT m).N) :
    defs₀ (F := F) .tc (cfgT m).body ((cfgT m).bodyArgs t ((cfgT m).slots t)) = bodyAt0 m t := by
  unfold defs₀; rw [Defs.onTc_tc]

theorem body_obligation (hR : Meets m R8 R9 R10) (c : Dev nD) :
    BodyObligationRel (dats m c) (defs₀ (F := F)) Variants.none () Set.univ outs0 (Rl m R8 R9 R10 c) := fun t => by
  rw [bigSep_W0, bigSep_W0, defs₀_row]
  exact triple_restated (sound_body m R8 R9 R10 hR c t) rfl .rfl fun _ => .rfl

/-! ## The run -/

/-- The relational proof data of the call. -/
abbrev rdat (c : Dev nD) : RDat τ (Elt F) Unit ℕ (UR sig nD τ) ℕ (cfgT m) c := (dats m c).toRRel outs0 (Rl m R8 R9 R10 c)

set_option backward.isDefEq.respectTransparency.types false in
set_option maxHeartbeats 800000 in
/-- Every execution terminates, every array stands in its relation, every buffer the call does not write is as the call found it,
    and every semaphore counter is zero. -/
theorem run_main (hR : Meets m R8 R9 R10) : θ_run defs (onTc (τ := τ) (main (F := F))) (s₀ m ρ)
    (fun r => RDat.FramePost (cfgT m) (rdat m R8 R9 R10) (V m) r ∧ r.2.sem = fun _ => 0) :=
  Pipeline.RDat.θ_run_frameP (Q' := _) pcfgs (tbls m) (0 : Fin 1) launch0 defs₀ Variants.none (rdat m R8 R9 R10) m ρ main
    (hbody := fun c => (body_obligation m R8 R9 R10 hR c).toRRel)
    (hshare := fun c => (dats m c).share_full fun _ => rfl)
    (howed := fun _ _ => rfl) (V := V m) (hmain := hmain m Variants.none) (hA := A_eq m) (hpf := lens_eq m) (hΦ := fun _ _ => rfl)
    (hQ' := fun _ h => h)

end Cert.Kernel.Gen
-- ==== Proof.FrameKernel.lean ====
/-
  The frame of the call: every execution terminates, the arguments end as they began, and every semaphore counter ends
  at zero.
-/
module

public import proofs.«01_k».proof.Proof.LaunchKernel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-- The arguments of `main` end as they began. -/
abbrev ArgsKept (r : PUnit × MemSt nD τ sig (Elt F)) (c : Dev nD) : Prop :=
r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

variable (R8 : Dev nD → Fin (cfgT m).N → Vec F S1x128x16x128 .fp8e4m3 → Prop) (R9 R10 : Dev nD → Fin (cfgT m).N → Vec F S1x128x16 .f32 → Prop)

/-- What the launch leaves keeps the arguments, whatever is said of the outputs. -/
theorem argsKept_of {r : PUnit × MemSt nD τ sig (Elt F)} (h : Pipeline.RDat.FramePost (cfgT m) (rdat m R8 R9 R10) (V m) r)
    (c : Dev nD) : ArgsKept m r c := by
  refine ⟨?_, ?_, ?_, ?_, ?_, ?_, ?_, ?_, ?_⟩
  · exact (Pipeline.RDat.FramePost.arr_in h c 0 rfl).trans ((A_eq m c 0).trans (V_main_arg0 m c))
  · exact (Pipeline.RDat.FramePost.arr_in h c 1 rfl).trans ((A_eq m c 1).trans (V_main_arg1 m c))
  · exact (Pipeline.RDat.FramePost.arr_in h c 2 rfl).trans ((A_eq m c 2).trans (V_main_arg2 m c))
  · exact (Pipeline.RDat.FramePost.arr_in h c 3 rfl).trans ((A_eq m c 3).trans (V_main_arg3 m c))
  · exact ((h c).2 main_arg4 (Pipeline.mem_restRefs_of main_arg4 (by decide) (show ∀ w : Fin 11, (spec0 w).arr.view.ref ≠ main_arg4 by decide))).trans (V_main_arg4 m c)
  · exact ((h c).2 main_arg5 (Pipeline.mem_restRefs_of main_arg5 (by decide) (show ∀ w : Fin 11, (spec0 w).arr.view.ref ≠ main_arg5 by decide))).trans (V_main_arg5 m c)
  · exact ((h c).2 main_arg6 (Pipeline.mem_restRefs_of main_arg6 (by decide) (show ∀ w : Fin 11, (spec0 w).arr.view.ref ≠ main_arg6 by decide))).trans (V_main_arg6 m c)
  · exact (Pipeline.RDat.FramePost.arr_in h c 6 rfl).trans ((A_eq m c 6).trans (V_main_arg7 m c))
  · exact (Pipeline.RDat.FramePost.arr_in h c 7 rfl).trans ((A_eq m c 7).trans (V_main_arg8 m c))

/-- The frame: every execution terminates, the arguments end as they began, the counters end at zero. -/
theorem frame : θ_run defs (onTc (τ := τ) (main (F := F))) ⟨m, fun _ => 0, ρ⟩ (fun r => (∀ c : Dev nD, ArgsKept m r c) ∧ r.2.sem = fun _ => 0) :=
  (θ_run defs _ _).mono (fun _ h => ⟨argsKept_of m _ _ _ h.1, h.2⟩)
    (run_main m ρ (fun _ _ _ => True) (fun _ _ _ => True) (fun _ _ _ => True)
      fun c t => ⟨by intros; exact ⟨trivial, trivial, trivial⟩, by intros; exact ⟨trivial, trivial, trivial⟩⟩)

end Cert.Kernel.Gen
-- ==== Proof.RunIdeal.lean ====
/-
The two ways the kernel's body runs at a grid point, each found by symbolic execution: a block of query rows past the batch's
length only fills its results with zeros and ones; any other block runs the attention. Each run states which pieces it stores
into the three results.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Pipeline.Covers
public import Idealize.ShloMosaic.Lib.Claim
public import Idealize.ShloMosaic.Lib.Ring
import Idealize.ShloMosaic.Lib.Tactic
import Idealize.ShloMosaic.Lib.UnfoldOut
import Idealize.ShloMosaic.Lib.WordCmp

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the runs. -/
local notation "𝕄G" => MT nD τ sig Unit (Elt F) ℕ (UR sig nD τ) ℕ

/-- The batch's number of valid rows, as the body reads it off the table of lengths. -/
abbrev lensWord (i : grid0.Coords) (arg2 : Memref sig .tc .smem S2 .i32) (X2 : BufTy.Contents (Elt F) arg2.view.ty) : BitVec 32 :=
  View.readAt (Elt F) arg2.view (Rect.unit (s := S2) (k0_off1 i) S1.size (k0_off1_inb i)).toLoadRect X2 (Shape.Idx.first (numel1_S1.symm ▸ Nat.one_pos))

/-- What the body holds while it runs: the table of lengths at a share, and each block and each scratch buffer whole. -/
abbrev Held (c : Dev nD) (q : PosShare TreeShare) (arg2 : Memref sig .tc .smem S2 .i32) (arg3 : Memref sig .tc .vmem S1x128x16x512 .fp8e4m3) (arg4 : Memref sig .tc .vmem S1x128x16 .f32) (arg5 : Memref sig .tc .vmem S1x128x16x64 .bf16) (arg6 : Memref sig .tc .vmem S1x15360x512 .fp8e4m3) (arg7 : Memref sig .tc .vmem S1x1x15360 .f32) (arg8 : Memref sig .tc .vmem S1x15360x64 .bf16) (arg9 : Memref sig .tc .vmem S16x512x128 .fp8e4m3) (arg10 : Memref sig .tc .vmem S16x128 .f32) (arg11 : Memref sig .tc .vmem S1x128x16x128 .fp8e4m3) (arg12 : Memref sig .tc .vmem S1x128x16 .f32) (arg13 : Memref sig .tc .vmem S1x128x16 .f32) (arg14 : Memref sig .tc .vmem S2048x512 .fp8e4m3) (arg15 : Memref sig .tc .vmem S2048x64 .bf16) (arg16 : Memref sig .tc .vmem S2048x128 .f32) (arg17 : Memref sig .tc .vmem S2048x128 .f32) (arg18 : Memref sig .tc .vmem S2048x128 .f32) (arg19 : Memref sig .tc .vmem S4x2048x128 .f32) (arg20 : Memref sig .tc .vmem S2048x128 .f32) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) : sProp 𝕄G :=
  iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20))

/-- The counted loop's invariant at fixed values of the words its region does not read. -/
@[sl_loop, reducible] def loopMain (𝒱 : Variants) (c : Dev nD) (bd : Option 𝒱.V) (E : Set ℕ) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)  (X_arg6 : BufTy.Contents (Elt F) arg6.view.ty) (X_arg7 : BufTy.Contents (Elt F) arg7.view.ty) (X_arg8 : BufTy.Contents (Elt F) arg8.view.ty) (X_arg14 : BufTy.Contents (Elt F) arg14.view.ty) (X_arg15 : BufTy.Contents (Elt F) arg15.view.ty) (X_arg16 : BufTy.Contents (Elt F) arg16.view.ty) (G_arg17 : BufTy.Contents (Elt F) arg17.view.ty) (G_arg18 : BufTy.Contents (Elt F) arg18.view.ty) (G_arg19 : BufTy.Contents (Elt F) arg19.view.ty) :
    Idealize.ShloMosaic.LoopInv (M := MT nD τ sig Unit (Elt F) ℕ (UR sig nD τ) ℕ) Idealize.ShloMosaic.frame (wpE defs₀ 𝒱 (c : Thread nD τ) bd) E
      (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 0#32 1#32 0#32 0#32 0#32) where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 0#32 1#32 0#32 0#32 0#32 X_arg6 X_arg7 X_arg8 X_arg14 X_arg15 X_arg16 G_arg17 G_arg18 G_arg19
  step := (loopInv_k0_t1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 0#32 1#32 0#32 0#32 0#32 X_arg6 X_arg7 X_arg8 X_arg14 X_arg15 X_arg16 G_arg17 G_arg18 G_arg19).step

/-- The remainder loop the unrolling leaves has no trip at any grid point. -/
theorem rest_trips (i : grid0.Coords) : (k0_t2_loop i).trips = 0 := by
  have h : ∀ t : Fin grid0.N, (k0_t2_loop (grid0.coords t)).trips = 0 := by decide +kernel
  obtain ⟨t, rfl⟩ := grid0.coords_surjective i
  exact h t

/-- A point whose block of rows starts at or past the batch's length: zeros, ones and zeros are stored. -/
@[irreducible] def runIdle (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)
    (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty)
    (hc1 : k0_cond1 i (lensWord i arg2 X2) = 1#1) (hc2 : ¬ k0_cond2 i (lensWord i arg2 X2) = 1#1) :
    Σ' (L11 : List (View.Piece (Elt F) S1x128x16x128 .fp8e4m3)) (L12 : List (View.Piece (Elt F) S1x128x16 .f32)), { L13 : List (View.Piece (Elt F) S1x128x16 .f32) // ∀ (E : Set ℕ),
      Held (F := F) c q arg2 arg3 arg4 arg5 arg6 arg7 arg8 arg9 arg10 arg11 arg12 arg13 arg14 arg15 arg16 arg17 arg18 arg19 arg20 X2 X3 X4 X5 X6 X7 X8 X9 X10 X11 X12 X13 X14 X15 X16 X17 X18 X19 X20
      ⊢ wp frame (wpE (defs₀ (F := F)) 𝒱 (c : Thread nD τ) bd) E (cc0_mla_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} (arg11.view.writes (Elt F) X11 L11)) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)))) } := by
  refine ⟨?_, ?_, ?_, fun E => ?run⟩
  case run =>
    simp only [cc0_mla_attn_eq_skeleton]
    unfold cc0_mla_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    iintro ⟨H2, H3, H4, H5, H6, H7, H8, H9, H10, H11, H12, H13, H14, H15, H16, H17, H18, H19, H20⟩
    sl_exec (disch := first | (guard_target = k0_cond1 _ _ = _; sl_exact hc1) | (guard_target = ¬ (k0_cond2 _ _ = _); sl_exact hc2))
    sl_step
    sl_close

/-- A point whose block of rows starts before the batch's length: the whole attention of the block runs. The pieces it stores
   into the three results are the run's own finds. -/
@[irreducible] def runLive (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)
    (q : PosShare TreeShare) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty)
    (hc1 : ¬ k0_cond1 i (lensWord i arg2 X2) = 1#1) (hc2 : k0_cond2 i (lensWord i arg2 X2) = 1#1) :
    Σ' (L11 : List (View.Piece (Elt F) S1x128x16x128 .fp8e4m3)) (L12 : List (View.Piece (Elt F) S1x128x16 .f32)), { L13 : List (View.Piece (Elt F) S1x128x16 .f32) // ∀ (E : Set ℕ),
      Held (F := F) c q arg2 arg3 arg4 arg5 arg6 arg7 arg8 arg9 arg10 arg11 arg12 arg13 arg14 arg15 arg16 arg17 arg18 arg19 arg20 X2 X3 X4 X5 X6 X7 X8 X9 X10 X11 X12 X13 X14 X15 X16 X17 X18 X19 X20
      ⊢ wp frame (wpE (defs₀ (F := F)) 𝒱 (c : Thread nD τ) bd) E (cc0_mla_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop((arg2.view.loc (c : Thread nD τ) ↦[arg2.view.set]{q} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} (arg11.view.writes (Elt F) X11 L11)) ∗ (arg12.view.loc (c : Thread nD τ) ↦[arg12.view.set]{fullShare} (arg12.view.writes (Elt F) X12 L12)) ∗ (arg13.view.loc (c : Thread nD τ) ↦[arg13.view.set]{fullShare} (arg13.view.writes (Elt F) X13 L13)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)))) } := by
  refine ⟨?_, ?_, ?_, fun E => ?run⟩
  case run =>
    simp only [cc0_mla_attn_eq_skeleton]
    unfold cc0_mla_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton]
    iintro ⟨H2, H3, H4, H5, H6, H7, H8, H9, H10, H11, H12, H13, H14, H15, H16, H17, H18, H19, H20⟩
    have ht2 : (k0_t2_loop i).trips = 0 := rest_trips i
    sl_exec (disch := first | (guard_target = ¬ (k0_cond1 _ _ = _); sl_exact hc1) | (guard_target = k0_cond2 _ _ = _; sl_exact hc2))
    sl_step
    sl_close

end Cert.KernelIdeal.Gen

end
-- ==== Proof.BodyIdeal.lean ====
/-
  THE BODY ON ITS MEMREFS. `BodySpec` says of three predicates that the body's stores, in whichever of its two branches a grid point
  takes, leave contents that meet them; `sound_kernel` is the body's triple at any such predicates.
-/
module

public import proofs.«01_k».proof.Proof.RunIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- What the body's stores leave in the three outputs meets the predicates `P8`, `P9` and `P10`, the inputs read as `xN`. -/
structure BodySpec (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)
    (X2 : BufTy.Contents (Elt F) arg2.view.ty) (x3 : Vec F S1x128x16x512 .fp8e4m3) (x4 : Vec F S1x128x16 .f32) (x5 : Vec F S1x128x16x64 .bf16) (x6 : Vec F S1x15360x512 .fp8e4m3) (x7 : Vec F S1x1x15360 .f32) (x8 : Vec F S1x15360x64 .bf16) (x9 : Vec F S16x512x128 .fp8e4m3) (x10 : Vec F S16x128 .f32) (P8 : Vec F S1x128x16x128 .fp8e4m3 → Prop) (P9 : Vec F S1x128x16 .f32 → Prop) (P10 : Vec F S1x128x16 .f32 → Prop) : Prop where
  live : (∀ (c : Dev nD) (q : PosShare TreeShare) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty),
      arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 → arg10.view.read (Elt F) X10 = x10 →
      ∀ (hc1 : ¬ k0_cond1 i (lensWord i arg2 X2) = 1#1) (hc2 :  k0_cond2 i (lensWord i arg2 X2) = 1#1),
      P8 (arg11.view.read (Elt F) (arg11.view.writes (Elt F) X11 (runLive (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).1)) ∧ P9 (arg12.view.read (Elt F) (arg12.view.writes (Elt F) X12 (runLive (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.1)) ∧ P10 (arg13.view.read (Elt F) (arg13.view.writes (Elt F) X13 (runLive (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.2.1)))
  idle : (∀ (c : Dev nD) (q : PosShare TreeShare) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty),
      arg3.view.read (Elt F) X3 = x3 → arg4.view.read (Elt F) X4 = x4 → arg5.view.read (Elt F) X5 = x5 → arg6.view.read (Elt F) X6 = x6 → arg7.view.read (Elt F) X7 = x7 → arg8.view.read (Elt F) X8 = x8 → arg9.view.read (Elt F) X9 = x9 → arg10.view.read (Elt F) X10 = x10 →
      ∀ (hc1 :  k0_cond1 i (lensWord i arg2 X2) = 1#1) (hc2 : ¬ k0_cond2 i (lensWord i arg2 X2) = 1#1),
      P8 (arg11.view.read (Elt F) (arg11.view.writes (Elt F) X11 (runIdle (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).1)) ∧ P9 (arg12.view.read (Elt F) (arg12.view.writes (Elt F) X12 (runIdle (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.1)) ∧ P10 (arg13.view.read (Elt F) (arg13.view.writes (Elt F) X13 (runIdle (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.2.1)))

/-- The body takes exactly one of its two branches. -/
theorem cond_iff (i : grid0.Coords) (w : BitVec 32) : k0_cond1 i w = 1#1 ↔ ¬ k0_cond2 i w = 1#1 := by
  unfold k0_cond1 k0_cond2
  show (BitVec.ofBool _ = 1#1) ↔ ¬ (BitVec.ofBool _ = 1#1)
  simp only [Scalar.cmpi, IntOp.cmpi, BitVec.sle, BitVec.slt]
  by_cases h : (Scalar.muli (BitVec.ofNat 32 (i 1).val) 128#32).toInt < w.toInt
  · rw [decide_eq_true h, decide_eq_false (not_le.mpr h)]; decide +kernel
  · rw [decide_eq_false h, decide_eq_true (not_lt.mp h)]; decide +kernel

set_option maxHeartbeats 4000000 in
/-- The body on whole memrefs, the inputs' at read contents `xN`: it leaves the inputs as they were and, in each output, contents
    that meet its predicate. -/
theorem sound_kernel (c : Dev nD) (E : Set ℕ) (q : PosShare TreeShare) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)
    (X2 : BufTy.Contents (Elt F) arg2.view.ty) (x3 : Vec F S1x128x16x512 .fp8e4m3) (x4 : Vec F S1x128x16 .f32) (x5 : Vec F S1x128x16x64 .bf16) (x6 : Vec F S1x15360x512 .fp8e4m3) (x7 : Vec F S1x1x15360 .f32) (x8 : Vec F S1x15360x64 .bf16) (x9 : Vec F S16x512x128 .fp8e4m3) (x10 : Vec F S16x128 .f32) (P8 : Vec F S1x128x16x128 .fp8e4m3 → Prop) (P9 : Vec F S1x128x16 .f32 → Prop) (P10 : Vec F S1x128x16 .f32 → Prop)
    (hP : BodySpec i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 x3 x4 x5 x6 x7 x8 x9 x10 P8 P9 P10) :
    (iprop((arg2.view.loc (c : Thread nD τ) ↦[arg2.view.set]{q} X2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f))) : sProp 𝕄G)
    ⊢ wp frame (wpE (defs₀ (F := F)) Variants.none (c : Thread nD τ) none) E (cc0_mla_attn (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
        (fun _ => iprop((arg2.view.loc (c : Thread nD τ) ↦[arg2.view.set]{q} X2) ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ X, ⌜P8 X⌝ ∗ owns (c : Thread nD τ) arg11 fullShare X) ∗ (∃ X, ⌜P9 X⌝ ∗ owns (c : Thread nD τ) arg12 fullShare X) ∗ (∃ X, ⌜P10 X⌝ ∗ owns (c : Thread nD τ) arg13 fullShare X) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)))) := by
  unfold owns
  iintro ⟨H2, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%d11, %f11, -, H11⟩, ⟨%d12, %f12, -, H12⟩, ⟨%d13, %f13, -, H13⟩, ⟨%f14, H14⟩, ⟨%f15, H15⟩, ⟨%f16, H16⟩, ⟨%f17, H17⟩, ⟨%f18, H18⟩, ⟨%f19, H19⟩, ⟨%f20, H20⟩⟩
  by_cases hc1 : k0_cond1 i (lensWord i arg2 X2) = 1#1
  · have hc2 : ¬ k0_cond2 i (lensWord i arg2 X2) = 1#1 := (cond_iff i _).mp hc1
    obtain ⟨hs8, hs9, hs10⟩ := hP.idle c q f3 f4 f5 f6 f7 f8 f9 f10 f11 f12 f13 f14 f15 f16 f17 f18 f19 f20 h3 h4 h5 h6 h7 h8 h9 h10 hc1 hc2
    generalize runIdle (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 f3 f4 f5 f6 f7 f8 f9 f10 f11 f12 f13 f14 f15 f16 f17 f18 f19 f20 hc1 hc2 = run at hs8 hs9 hs10
    obtain ⟨L11, L12, L13, hrun⟩ := run
    ihave Hw := (hrun E) $$ [H2 H3 H4 H5 H6 H7 H8 H9 H10 H11 H12 H13 H14 H15 H16 H17 H18 H19 H20]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    iapply (wp_wand frame (wpE (defs₀ (F := F)) Variants.none (c : Thread nD τ) none) E) $$ Hw
    iintro %a ⟨H2, H3, H4, H5, H6, H7, H8, H9, H10, H11, H12, H13, H14, H15, H16, H17, H18, H19, H20⟩
    isplitl [H2]; · iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists f9; isplitr; · ipureintro; exact h9
      iexact H9
    isplitl [H10]
    · iexists f10; isplitr; · ipureintro; exact h10
      iexact H10
    isplitl [H11]
    · iexists _; isplitr; · ipureintro; exact hs8
      iexists _; isplitr; · ipureintro; rfl
      iexact H11
    isplitl [H12]
    · iexists _; isplitr; · ipureintro; exact hs9
      iexists _; isplitr; · ipureintro; rfl
      iexact H12
    isplitl [H13]
    · iexists _; isplitr; · ipureintro; exact hs10
      iexists _; isplitr; · ipureintro; rfl
      iexact H13
    isplitl [H14]; · iexact H14
    isplitl [H15]; · iexact H15
    isplitl [H16]; · iexact H16
    isplitl [H17]; · iexact H17
    isplitl [H18]; · iexact H18
    isplitl [H19]; · iexact H19
    iexact H20
  · have hc2 : k0_cond2 i (lensWord i arg2 X2) = 1#1 := by by_contra h; exact hc1 ((cond_iff i _).mpr h)
    obtain ⟨hs8, hs9, hs10⟩ := hP.live c q f3 f4 f5 f6 f7 f8 f9 f10 f11 f12 f13 f14 f15 f16 f17 f18 f19 f20 h3 h4 h5 h6 h7 h8 h9 h10 hc1 hc2
    generalize runLive (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 f3 f4 f5 f6 f7 f8 f9 f10 f11 f12 f13 f14 f15 f16 f17 f18 f19 f20 hc1 hc2 = run at hs8 hs9 hs10
    obtain ⟨L11, L12, L13, hrun⟩ := run
    ihave Hw := (hrun E) $$ [H2 H3 H4 H5 H6 H7 H8 H9 H10 H11 H12 H13 H14 H15 H16 H17 H18 H19 H20]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    iapply (wp_wand frame (wpE (defs₀ (F := F)) Variants.none (c : Thread nD τ) none) E) $$ Hw
    iintro %a ⟨H2, H3, H4, H5, H6, H7, H8, H9, H10, H11, H12, H13, H14, H15, H16, H17, H18, H19, H20⟩
    isplitl [H2]; · iexact H2
    isplitl [H3]
    · iexists f3; isplitr; · ipureintro; exact h3
      iexact H3
    isplitl [H4]
    · iexists f4; isplitr; · ipureintro; exact h4
      iexact H4
    isplitl [H5]
    · iexists f5; isplitr; · ipureintro; exact h5
      iexact H5
    isplitl [H6]
    · iexists f6; isplitr; · ipureintro; exact h6
      iexact H6
    isplitl [H7]
    · iexists f7; isplitr; · ipureintro; exact h7
      iexact H7
    isplitl [H8]
    · iexists f8; isplitr; · ipureintro; exact h8
      iexact H8
    isplitl [H9]
    · iexists f9; isplitr; · ipureintro; exact h9
      iexact H9
    isplitl [H10]
    · iexists f10; isplitr; · ipureintro; exact h10
      iexact H10
    isplitl [H11]
    · iexists _; isplitr; · ipureintro; exact hs8
      iexists _; isplitr; · ipureintro; rfl
      iexact H11
    isplitl [H12]
    · iexists _; isplitr; · ipureintro; exact hs9
      iexists _; isplitr; · ipureintro; rfl
      iexact H12
    isplitl [H13]
    · iexists _; isplitr; · ipureintro; exact hs10
      iexists _; isplitr; · ipureintro; rfl
      iexact H13
    isplitl [H14]; · iexact H14
    isplitl [H15]; · iexact H15
    isplitl [H16]; · iexact H16
    isplitl [H17]; · iexact H17
    isplitl [H18]; · iexact H18
    isplitl [H19]; · iexact H19
    iexact H20

end Cert.KernelIdeal.Gen
-- ==== Proof.LaunchIdeal.lean ====
/-
  THE LAUNCH. The host prefix, the table of lengths as the pipeline holds it, each window's block at a point, and the run of @main: from
  any predicates that the body's stores meet at every point (`BodySpec`), every array at the end stands in the matching relation
  to its contents at the call, and every semaphore counter is zero.
-/
module

public import proofs.«01_k».proof.Proof.BodyIdeal
public import proofs.«01_k».proof.Proof.RowBlock
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat RDat Cfg Window BodyObligationRel cellOf)
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (m : (ℓ : Loc nD τ sig) → Buf (Elt F) ℓ) (ρ : Dev nD → PrngReg)

/-! ## @main up to the call -/

/-- Core `c`'s buffers when the call is entered: as launched, the host's results written. -/
abbrev V (c : Dev nD) (b : Ref sig .tc) : Buf (Elt F) ((c : Thread nD τ).loc b) := StableHlo.after hostOps0 (fun b => m (c, b)) b

theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ⟨rfl, rfl, rfl, rfl, rfl, rfl⟩ fun c => main_chain c

theorem V_main_arg0 (c : Dev nD) : V m c main_arg0 = m ((c : Thread nD τ).loc main_arg0) :=
  StableHlo.after_of_forall_not_mem (b := Proc.devRef .tc main_arg0) _ _ (List.forall_iff_forall_mem.mp (by
    simp only [List.Forall]
    repeat' apply And.intro
    all_goals exact fun hm => StableHlo.devRef_ne_of_ne (fun h => by cases h) (Finset.mem_singleton.mp hm)))
theorem V_main_arg1 (c : Dev nD) : V m c main_arg1 = m ((c : Thread nD τ).loc main_arg1) :=
  StableHlo.after_of_forall_not_mem (b := Proc.devRef .tc main_arg1) _ _ (List.forall_iff_forall_mem.mp (by
    simp only [List.Forall]
    repeat' apply And.intro
    all_goals exact fun hm => StableHlo.devRef_ne_of_ne (fun h => by cases h) (Finset.mem_singleton.mp hm)))
theorem V_main_arg2 (c : Dev nD) : V m c main_arg2 = m ((c : Thread nD τ).loc main_arg2) :=
  StableHlo.after_of_forall_not_mem (b := Proc.devRef .tc main_arg2) _ _ (List.forall_iff_forall_mem.mp (by
    simp only [List.Forall]
    repeat' apply And.intro
    all_goals exact fun hm => StableHlo.devRef_ne_of_ne (fun h => by cases h) (Finset.mem_singleton.mp hm)))
theorem V_main_arg3 (c : Dev nD) : V m c main_arg3 = m ((c : Thread nD τ).loc main_arg3) :=
  StableHlo.after_of_forall_not_mem (b := Proc.devRef .tc main_arg3) _ _ (List.forall_iff_forall_mem.mp (by
    simp only [List.Forall]
    repeat' apply And.intro
    all_goals exact fun hm => StableHlo.devRef_ne_of_ne (fun h => by cases h) (Finset.mem_singleton.mp hm)))
theorem V_main_arg4 (c : Dev nD) : V m c main_arg4 = m ((c : Thread nD τ).loc main_arg4) :=
  StableHlo.after_of_forall_not_mem (b := Proc.devRef .tc main_arg4) _ _ (List.forall_iff_forall_mem.mp (by
    simp only [List.Forall]
    repeat' apply And.intro
    all_goals exact fun hm => StableHlo.devRef_ne_of_ne (fun h => by cases h) (Finset.mem_singleton.mp hm)))
theorem V_main_arg5 (c : Dev nD) : V m c main_arg5 = m ((c : Thread nD τ).loc main_arg5) :=
  StableHlo.after_of_forall_not_mem (b := Proc.devRef .tc main_arg5) _ _ (List.forall_iff_forall_mem.mp (by
    simp only [List.Forall]
    repeat' apply And.intro
    all_goals exact fun hm => StableHlo.devRef_ne_of_ne (fun h => by cases h) (Finset.mem_singleton.mp hm)))
theorem V_main_arg6 (c : Dev nD) : V m c main_arg6 = m ((c : Thread nD τ).loc main_arg6) :=
  StableHlo.after_of_forall_not_mem (b := Proc.devRef .tc main_arg6) _ _ (List.forall_iff_forall_mem.mp (by
    simp only [List.Forall]
    repeat' apply And.intro
    all_goals exact fun hm => StableHlo.devRef_ne_of_ne (fun h => by cases h) (Finset.mem_singleton.mp hm)))
theorem V_main_arg7 (c : Dev nD) : V m c main_arg7 = m ((c : Thread nD τ).loc main_arg7) :=
  StableHlo.after_of_forall_not_mem (b := Proc.devRef .tc main_arg7) _ _ (List.forall_iff_forall_mem.mp (by
    simp only [List.Forall]
    repeat' apply And.intro
    all_goals exact fun hm => StableHlo.devRef_ne_of_ne (fun h => by cases h) (Finset.mem_singleton.mp hm)))
theorem V_main_arg8 (c : Dev nD) : V m c main_arg8 = m ((c : Thread nD τ).loc main_arg8) :=
  StableHlo.after_of_forall_not_mem (b := Proc.devRef .tc main_arg8) _ _ (List.forall_iff_forall_mem.mp (by
    simp only [List.Forall]
    repeat' apply And.intro
    all_goals exact fun hm => StableHlo.devRef_ne_of_ne (fun h => by cases h) (Finset.mem_singleton.mp hm)))

/-! ## The table of lengths -/

/-- The table's contents as launched. -/
abbrev lens : pre0.Contents (Elt F) := fun k => m (((0 : Dev nD) : Thread nD τ).loc (pre0.ref k))

theorem row_lt (i : grid0.Coords) : (i 1).val < 120 := (i 1).isLt
theorem batch_lt (i : grid0.Coords) : (i 0).val < 2 := (i 0).isLt

theorem batch_toNat (i : grid0.Coords) : (BitVec.ofNat 32 (i 0).val).toNat = (i 0).val := by
  have := batch_lt i; rw [BitVec.toNat_ofNat]; omega

/-- The word of the table that a point's index maps and body read. -/
abbrev lenAt (pf : pre0.Contents (Elt F)) (i : grid0.Coords) : BitVec 32 :=
  pf.at 0 (Rect.unit (s := S2) (k0_off1 i) S1.size (k0_off1_inb i)) numel1_S1

theorem transform0_eq (pf : pre0.Contents (Elt F)) (i : grid0.Coords) :
    cc0_transform_0 k0_off1_inb numel1_S1 pf i = ![(i 0).val, (Cert.MlaPrompt.rowBlock (BitVec.ofNat 32 (i 1).val) (lenAt pf i)).toNat, 0, 0] := by
  rw [← batch_toNat i]; rfl
theorem transform1_eq (pf : pre0.Contents (Elt F)) (i : grid0.Coords) :
    cc0_transform_1 k0_off1_inb numel1_S1 pf i = ![(i 0).val, (Cert.MlaPrompt.rowBlock (BitVec.ofNat 32 (i 1).val) (lenAt pf i)).toNat, 0] := by
  rw [← batch_toNat i]; rfl
theorem transform2_eq (pf : pre0.Contents (Elt F)) (i : grid0.Coords) :
    cc0_transform_2 k0_off1_inb numel1_S1 pf i = ![(i 0).val, (Cert.MlaPrompt.rowBlock (BitVec.ofNat 32 (i 1).val) (lenAt pf i)).toNat, 0, 0] := by
  rw [← batch_toNat i]; rfl

theorem rowBlock_lt (i : grid0.Coords) (w : BitVec 32) : (Cert.MlaPrompt.rowBlock (BitVec.ofNat 32 (i 1).val) w).toNat < 120 := by
  rw [Cert.MlaPrompt.rowBlock_toNat _ (row_lt i)]
  exact lt_of_le_of_lt (min_le_left _ _) (row_lt i)

/-- Whatever the lengths, every block that the index maps name is inside its array. -/
theorem lens_ok (pf : pre0.Contents (Elt F)) : ok0 pf := by
  refine ⟨fun i => ⟨?_, ?_⟩, fun i => ⟨?_, ?_⟩, fun i => ⟨?_, ?_⟩⟩
  all_goals first
    | exact .inl rfl
    | exact .inr (Affine.block_words_dvd (of_decide_eq_true rfl) (by decide))
    | skip
  · have h0 := batch_lt i; have h1 := rowBlock_lt i (lenAt pf i)
    rw [transform0_eq]
    intro a; fin_cases a
    · show ((i 0).val + 1) * 1 ≤ 2; omega
    · show ((Cert.MlaPrompt.rowBlock (BitVec.ofNat 32 (i 1).val) (lenAt pf i)).toNat + 1) * 128 ≤ 15360; omega
    · show (0 + 1) * 16 ≤ 16; omega
    · show (0 + 1) * 512 ≤ 512; omega
  · have h0 := batch_lt i; have h1 := rowBlock_lt i (lenAt pf i)
    rw [transform1_eq]
    intro a; fin_cases a
    · show ((i 0).val + 1) * 1 ≤ 2; omega
    · show ((Cert.MlaPrompt.rowBlock (BitVec.ofNat 32 (i 1).val) (lenAt pf i)).toNat + 1) * 128 ≤ 15360; omega
    · show (0 + 1) * 16 ≤ 16; omega
  · have h0 := batch_lt i; have h1 := rowBlock_lt i (lenAt pf i)
    rw [transform2_eq]
    intro a; fin_cases a
    · show ((i 0).val + 1) * 1 ≤ 2; omega
    · show ((Cert.MlaPrompt.rowBlock (BitVec.ofNat 32 (i 1).val) (lenAt pf i)).toNat + 1) * 128 ≤ 15360; omega
    · show (0 + 1) * 16 ≤ 16; omega
    · show (0 + 1) * 64 ≤ 64; omega

/-- The table as launched, admissible. -/
abbrev tbl : (pcfg0 (F := F)).Adm := ⟨lens m, lens_ok (lens m)⟩
abbrev tbls : (p : Fin 1) → (pcfgs (F := F) p).Adm := fun _ => tbl m
abbrev cfgT : Cfg sig Λ₀ := cfg0 (tbl m)

theorem lens_eq (c : Dev nD) (k : Fin pre0.K) : V m c (pre0.ref k) = (tbl m).1 k := by
  have hc : c = 0 := Subsingleton.elim _ _
  subst hc
  have hk : k = 0 := Subsingleton.elim _ _
  subst hk
  exact V_main_arg6 m 0

/-! ## The windows' blocks -/

/-- Window `w`'s block at point `t`, read off its array as the call finds it. -/
def iblk (c : Dev nD) (w : Fin (cfgT m).W) (t : Fin (cfgT m).N) : (((cfgT m).win w).xblock ((cfgT m).grid.coords t)).Idx → Elt F ((cfgT m).win w).elt :=
  (((cfgT m).win w).blk t).view.read (Elt F) (V m c (Pipeline.arrRef spec0 w))

theorem before0_0_of {c : Dev nD} (dat : Dat τ (Elt F) Unit ℕ (UR sig nD τ) ℕ (cfgT m) c) (hA : dat.A 0 = V m c (Pipeline.arrRef spec0 0))
    (hafter : ∀ t, dat.after 0 t = iblk m c 0 t) (t : Fin (cfgT m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ (cfgT m) c) (hA : dat.A 1 = V m c (Pipeline.arrRef spec0 1))
    (hafter : ∀ t, dat.after 1 t = iblk m c 1 t) (t : Fin (cfgT m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ (cfgT m) c) (hA : dat.A 2 = V m c (Pipeline.arrRef spec0 2))
    (hafter : ∀ t, dat.after 2 t = iblk m c 2 t) (t : Fin (cfgT m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ (cfgT m) c) (hA : dat.A 3 = V m c (Pipeline.arrRef spec0 3))
    (hafter : ∀ t, dat.after 3 t = iblk m c 3 t) (t : Fin (cfgT m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ (cfgT m) c) (hA : dat.A 4 = V m c (Pipeline.arrRef spec0 4))
    (hafter : ∀ t, dat.after 4 t = iblk m c 4 t) (t : Fin (cfgT m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ (cfgT m) c) (hA : dat.A 5 = V m c (Pipeline.arrRef spec0 5))
    (hafter : ∀ t, dat.after 5 t = iblk m c 5 t) (t : Fin (cfgT m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ (cfgT m) c) (hA : dat.A 6 = V m c (Pipeline.arrRef spec0 6))
    (hafter : ∀ t, dat.after 6 t = iblk m c 6 t) (t : Fin (cfgT m).N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ (cfgT m) c) (hA : dat.A 7 = V m c (Pipeline.arrRef spec0 7))
    (hafter : ∀ t, dat.after 7 t = iblk m c 7 t) (t : Fin (cfgT m).N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The outputs, held to predicates. -/
abbrev outs0 : Fin 11 → Bool := fun | 8 => true | 9 => true | 10 => true | _ => false

/-- The exact data of the inputs: each block left as found. Of the outputs nothing is named here. -/
def dats (c : Dev nD) : Dat τ (Elt F) Unit ℕ (UR sig nD τ) ℕ (cfgT m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Classical.arbitrary _
    | ⟨9, _⟩ => Classical.arbitrary _
    | ⟨10, _⟩ => Classical.arbitrary _
  Φ _ := iprop(Pipeline.ΦA spec0 c ∗ Pipeline.ΦT pre0 (lens m) c)
  q _ := fullShare
  owed _ := 0

theorem A_eq (c : Dev nD) (w : Fin (cfgT m).W) : (dats m c).A w = V m c (Pipeline.arrRef spec0 w) := by
  dsimp only [dats]
theorem after0_0 (c : Dev nD) (t : Fin (cfgT m).N) : (dats m c).after 0 t = iblk m c 0 t := by unfold dats; rfl
theorem after0_1 (c : Dev nD) (t : Fin (cfgT m).N) : (dats m c).after 1 t = iblk m c 1 t := by unfold dats; rfl
theorem after0_2 (c : Dev nD) (t : Fin (cfgT m).N) : (dats m c).after 2 t = iblk m c 2 t := by unfold dats; rfl
theorem after0_3 (c : Dev nD) (t : Fin (cfgT m).N) : (dats m c).after 3 t = iblk m c 3 t := by unfold dats; rfl
theorem after0_4 (c : Dev nD) (t : Fin (cfgT m).N) : (dats m c).after 4 t = iblk m c 4 t := by unfold dats; rfl
theorem after0_5 (c : Dev nD) (t : Fin (cfgT m).N) : (dats m c).after 5 t = iblk m c 5 t := by unfold dats; rfl
theorem after0_6 (c : Dev nD) (t : Fin (cfgT m).N) : (dats m c).after 6 t = iblk m c 6 t := by unfold dats; rfl
theorem after0_7 (c : Dev nD) (t : Fin (cfgT m).N) : (dats m c).after 7 t = iblk m c 7 t := by unfold dats; rfl
theorem before0_0 (c : Dev nD) (t : Fin (cfgT m).N) (d) : (dats m c).before 0 t d = iblk m c 0 t :=
  before0_0_of m (dats m c) (A_eq m c 0) (after0_0 m c) t d
theorem before0_1 (c : Dev nD) (t : Fin (cfgT m).N) (d) : (dats m c).before 1 t d = iblk m c 1 t :=
  before0_1_of m (dats m c) (A_eq m c 1) (after0_1 m c) t d
theorem before0_2 (c : Dev nD) (t : Fin (cfgT m).N) (d) : (dats m c).before 2 t d = iblk m c 2 t :=
  before0_2_of m (dats m c) (A_eq m c 2) (after0_2 m c) t d
theorem before0_3 (c : Dev nD) (t : Fin (cfgT m).N) (d) : (dats m c).before 3 t d = iblk m c 3 t :=
  before0_3_of m (dats m c) (A_eq m c 3) (after0_3 m c) t d
theorem before0_4 (c : Dev nD) (t : Fin (cfgT m).N) (d) : (dats m c).before 4 t d = iblk m c 4 t :=
  before0_4_of m (dats m c) (A_eq m c 4) (after0_4 m c) t d
theorem before0_5 (c : Dev nD) (t : Fin (cfgT m).N) (d) : (dats m c).before 5 t d = iblk m c 5 t :=
  before0_5_of m (dats m c) (A_eq m c 5) (after0_5 m c) t d
theorem before0_6 (c : Dev nD) (t : Fin (cfgT m).N) (d) : (dats m c).before 6 t d = iblk m c 6 t :=
  before0_6_of m (dats m c) (A_eq m c 6) (after0_6 m c) t d
theorem before0_7 (c : Dev nD) (t : Fin (cfgT m).N) (d) : (dats m c).before 7 t d = iblk m c 7 t :=
  before0_7_of m (dats m c) (A_eq m c 7) (after0_7 m c) t d

variable (R8 : Dev nD → Fin (cfgT m).N → Vec F S1x128x16x128 .fp8e4m3 → Prop) (R9 R10 : Dev nD → Fin (cfgT m).N → Vec F S1x128x16 .f32 → Prop)

/-- The predicates, window by window. -/
def Rl (c : Dev nD) : (w : Fin (cfgT m).W) → Fin (cfgT m).N → (((cfgT m).win w).block.Idx → Elt F ((cfgT m).win w).elt) → Prop :=
  fun w t X => match w, X with
    | ⟨8, _⟩, X => R8 c t X
    | ⟨9, _⟩, X => R9 c t X
    | ⟨10, _⟩, X => R10 c t X
    | _, _ => True

/-- The body at point `t`, on what the pipeline calls it with. -/
abbrev bodyAt0 (t : Fin (cfgT m).N) : Prog (TpuEff nD τ sig (Elt F) Λ₀ .tc) PUnit :=
  cc0_mla_attn (grid0.coords t) (Memref.whole main_arg6) (Memref.isWhole_whole _) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)) (spec0_8.stage ((cfgT m).slots t 8)) (hstage0_8 (((cfgT m).slots t 8).cast nbuf0_8)) (spec0_9.stage ((cfgT m).slots t 9)) (hstage0_9 (((cfgT m).slots t 9).cast nbuf0_9)) (spec0_10.stage ((cfgT m).slots t 10)) (hstage0_10 (((cfgT m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

/-- The stores of every point meet the predicates. -/
abbrev Meets : Prop := ∀ (c : Dev nD) (t : Fin (cfgT m).N),
  BodySpec (F := F) (grid0.coords t) (Memref.whole main_arg6) (Memref.isWhole_whole _) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)) (spec0_8.stage ((cfgT m).slots t 8)) (hstage0_8 (((cfgT m).slots t 8).cast nbuf0_8)) (spec0_9.stage ((cfgT m).slots t 9)) (hstage0_9 (((cfgT m).slots t 9).cast nbuf0_9)) (spec0_10.stage ((cfgT m).slots t 10)) (hstage0_10 (((cfgT m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    (lens m 0) (iblk m c 0 t) (iblk m c 1 t) (iblk m c 2 t) (iblk m c 3 t) (iblk m c 4 t) (iblk m c 5 t) (iblk m c 6 t) (iblk m c 7 t) (R8 c t) (R9 c t) (R10 c t)

def bodyPre (c : Dev nD) (t : Fin (cfgT m).N) : sProp 𝕄G :=
  iprop((dats m c).Φ t.castSucc ∗ (dats m c).owesAt () t.castSucc
    ∗ (∃ d, owns (c : Thread nD τ) (spec0_0.stage ((cfgT m).slots t 0)) fullShare ((dats m c).before 0 t d))
    ∗ (∃ d, owns (c : Thread nD τ) (spec0_1.stage ((cfgT m).slots t 1)) fullShare ((dats m c).before 1 t d))
    ∗ (∃ d, owns (c : Thread nD τ) (spec0_2.stage ((cfgT m).slots t 2)) fullShare ((dats m c).before 2 t d))
    ∗ (∃ d, owns (c : Thread nD τ) (spec0_3.stage ((cfgT m).slots t 3)) fullShare ((dats m c).before 3 t d))
    ∗ (∃ d, owns (c : Thread nD τ) (spec0_4.stage ((cfgT m).slots t 4)) fullShare ((dats m c).before 4 t d))
    ∗ (∃ d, owns (c : Thread nD τ) (spec0_5.stage ((cfgT m).slots t 5)) fullShare ((dats m c).before 5 t d))
    ∗ (∃ d, owns (c : Thread nD τ) (spec0_6.stage ((cfgT m).slots t 6)) fullShare ((dats m c).before 6 t d))
    ∗ (∃ d, owns (c : Thread nD τ) (spec0_7.stage ((cfgT m).slots t 7)) fullShare ((dats m c).before 7 t d))
    ∗ (∃ Y, ⌜((dats m c).toRRel outs0 (Rl m R8 R9 R10 c)).Finds 8 t Y⌝ ∗ owns (c : Thread nD τ) (spec0_8.stage ((cfgT m).slots t 8)) fullShare Y)
    ∗ (∃ Y, ⌜((dats m c).toRRel outs0 (Rl m R8 R9 R10 c)).Finds 9 t Y⌝ ∗ owns (c : Thread nD τ) (spec0_9.stage ((cfgT m).slots t 9)) fullShare Y)
    ∗ (∃ Y, ⌜((dats m c).toRRel outs0 (Rl m R8 R9 R10 c)).Finds 10 t Y⌝ ∗ owns (c : Thread nD τ) (spec0_10.stage ((cfgT m).slots t 10)) fullShare Y))

def bodyPost (c : Dev nD) (t : Fin (cfgT m).N) : sProp 𝕄G :=
  iprop((dats m c).Φ t.succ ∗ (dats m c).owesAt () t.succ
    ∗ owns (c : Thread nD τ) (spec0_0.stage ((cfgT m).slots t 0)) fullShare ((dats m c).after 0 t)
    ∗ owns (c : Thread nD τ) (spec0_1.stage ((cfgT m).slots t 1)) fullShare ((dats m c).after 1 t)
    ∗ owns (c : Thread nD τ) (spec0_2.stage ((cfgT m).slots t 2)) fullShare ((dats m c).after 2 t)
    ∗ owns (c : Thread nD τ) (spec0_3.stage ((cfgT m).slots t 3)) fullShare ((dats m c).after 3 t)
    ∗ owns (c : Thread nD τ) (spec0_4.stage ((cfgT m).slots t 4)) fullShare ((dats m c).after 4 t)
    ∗ owns (c : Thread nD τ) (spec0_5.stage ((cfgT m).slots t 5)) fullShare ((dats m c).after 5 t)
    ∗ owns (c : Thread nD τ) (spec0_6.stage ((cfgT m).slots t 6)) fullShare ((dats m c).after 6 t)
    ∗ owns (c : Thread nD τ) (spec0_7.stage ((cfgT m).slots t 7)) fullShare ((dats m c).after 7 t)
    ∗ (∃ X, ⌜R8 c t X⌝ ∗ owns (c : Thread nD τ) (spec0_8.stage ((cfgT m).slots t 8)) fullShare X)
    ∗ (∃ X, ⌜R9 c t X⌝ ∗ owns (c : Thread nD τ) (spec0_9.stage ((cfgT m).slots t 9)) fullShare X)
    ∗ (∃ X, ⌜R10 c t X⌝ ∗ owns (c : Thread nD τ) (spec0_10.stage ((cfgT m).slots t 10)) fullShare X))

theorem prefHeld_one (c : Dev nD) (q : PosShare TreeShare) (v : pre0.Contents (Elt F)) :
    (Pipeline.prefHeld (Ix := Unit) (Name := ℕ) (U := UR sig nD τ) (Lvl := ℕ) pre0 c (fun _ => q) v : sProp 𝕄G)
      = ((Memref.whole main_arg6).view.loc (c : Thread nD τ) ↦[(Memref.whole main_arg6).view.set]{q} v 0) := by
  unfold Pipeline.prefHeld
  rw [bigSep_univ_eq_bigSepL [(0 : Fin 1)] (by decide) (by decide)]
  simp only [View.set_whole]
  rfl

set_option maxHeartbeats 4000000 in
theorem sound_body (hR : Meets m R8 R9 R10) (c : Dev nD) (t : Fin (cfgT m).N) :
    bodyPre m R8 R9 R10 c t ⊢ wp frame (wpE (defs₀ (F := F)) Variants.none c none) Set.univ (bodyAt0 m t) (fun _ => bodyPost m R8 R9 R10 c t) := by
  unfold bodyPre bodyPost bodyAt0
  simp only [before0_0, before0_1, before0_2, before0_3, before0_4, before0_5, before0_6, before0_7]
  rw [show (dats m c).Φ t.succ = (dats m c).Φ t.castSucc from rfl,
    show (dats m c).owesAt () t.succ = (dats m c).owesAt () t.castSucc from rfl,
    after0_0, after0_1, after0_2, after0_3, after0_4, after0_5, after0_6, after0_7,
    show (dats m c).Φ t.castSucc = iprop(Pipeline.ΦA spec0 c ∗ Pipeline.ΦT pre0 (lens m) c) from rfl]
  unfold Pipeline.ΦA Pipeline.ΦT
  rw [scopedRest0_eq, prefHeld_one]
  iintro ⟨⟨⟨⟨S0, S1, S2, S3, S4, S5, S6⟩, Hp⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩, ⟨%d9, -, H9⟩, ⟨%d10, -, H10⟩⟩
  ihave Hw := (sound_kernel c Set.univ fullShare.right (grid0.coords t) (Memref.whole main_arg6) (Memref.isWhole_whole _) (spec0_0.stage ((cfgT m).slots t 0)) (hstage0_0 (((cfgT m).slots t 0).cast nbuf0_0)) (spec0_1.stage ((cfgT m).slots t 1)) (hstage0_1 (((cfgT m).slots t 1).cast nbuf0_1)) (spec0_2.stage ((cfgT m).slots t 2)) (hstage0_2 (((cfgT m).slots t 2).cast nbuf0_2)) (spec0_3.stage ((cfgT m).slots t 3)) (hstage0_3 (((cfgT m).slots t 3).cast nbuf0_3)) (spec0_4.stage ((cfgT m).slots t 4)) (hstage0_4 (((cfgT m).slots t 4).cast nbuf0_4)) (spec0_5.stage ((cfgT m).slots t 5)) (hstage0_5 (((cfgT m).slots t 5).cast nbuf0_5)) (spec0_6.stage ((cfgT m).slots t 6)) (hstage0_6 (((cfgT m).slots t 6).cast nbuf0_6)) (spec0_7.stage ((cfgT m).slots t 7)) (hstage0_7 (((cfgT m).slots t 7).cast nbuf0_7)) (spec0_8.stage ((cfgT m).slots t 8)) (hstage0_8 (((cfgT m).slots t 8).cast nbuf0_8)) (spec0_9.stage ((cfgT m).slots t 9)) (hstage0_9 (((cfgT m).slots t 9).cast nbuf0_9)) (spec0_10.stage ((cfgT m).slots t 10)) (hstage0_10 (((cfgT m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)
    (lens m 0) (iblk m c 0 t) (iblk m c 1 t) (iblk m c 2 t) (iblk m c 3 t) (iblk m c 4 t) (iblk m c 5 t) (iblk m c 6 t) (iblk m c 7 t) (R8 c t) (R9 c t) (R10 c t) (hR c t)) $$ [HT H0 H1 H2 H3 H4 H5 H6 H7 H8 H9 H10 S0 S1 S2 S3 S4 S5 S6]
  · simp only [View.set_whole]
    isplitl [HT]; · iexact HT
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [S0]; · iexact S0
    isplitl [S1]; · iexact S1
    isplitl [S2]; · iexact S2
    isplitl [S3]; · iexact S3
    isplitl [S4]; · iexact S4
    isplitl [S5]; · iexact S5
    iexact S6
  iapply (wp_wand frame (wpE (defs₀ (F := F)) Variants.none (c : Thread nD τ) none) Set.univ) $$ Hw
  simp only [View.set_whole]
  iintro %a ⟨HT, H0, H1, H2, H3, H4, H5, H6, H7, H8, H9, H10, S0, S1, S2, S3, S4, S5, S6⟩
  isplitl [HT S0 S1 S2 S3 S4 S5 S6 Hp]
  · isplitr [HT]
    · isplitr [Hp]
      · isplitl [S0]; · iexact S0
        isplitl [S1]; · iexact S1
        isplitl [S2]; · iexact S2
        isplitl [S3]; · iexact S3
        isplitl [S4]; · iexact S4
        isplitl [S5]; · iexact S5
        iexact S6
      · iexact Hp
    · iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin (cfgT m).N) :
    defs₀ (F := F) .tc (cfgT m).body ((cfgT m).bodyArgs t ((cfgT m).slots t)) = bodyAt0 m t := by
  unfold defs₀; rw [Defs.onTc_tc]

theorem body_obligation (hR : Meets m R8 R9 R10) (c : Dev nD) :
    BodyObligationRel (dats m c) (defs₀ (F := F)) Variants.none () Set.univ outs0 (Rl m R8 R9 R10 c) := fun t => by
  rw [bigSep_W0, bigSep_W0, defs₀_row]
  exact triple_restated (sound_body m R8 R9 R10 hR c t) rfl .rfl fun _ => .rfl

/-! ## The run -/

/-- The relational proof data of the call. -/
abbrev rdat (c : Dev nD) : RDat τ (Elt F) Unit ℕ (UR sig nD τ) ℕ (cfgT m) c := (dats m c).toRRel outs0 (Rl m R8 R9 R10 c)

set_option backward.isDefEq.respectTransparency.types false in
set_option maxHeartbeats 800000 in
/-- Every execution terminates, every array stands in its relation, every buffer the call does not write is as the call found it,
    and every semaphore counter is zero. -/
theorem run_main (hR : Meets m R8 R9 R10) : θ_run defs (onTc (τ := τ) (main (F := F))) (s₀ m ρ)
    (fun r => RDat.FramePost (cfgT m) (rdat m R8 R9 R10) (V m) r ∧ r.2.sem = fun _ => 0) :=
  Pipeline.RDat.θ_run_frameP (Q' := _) pcfgs (tbls m) (0 : Fin 1) launch0 defs₀ Variants.none (rdat m R8 R9 R10) m ρ main
    (hbody := fun c => (body_obligation m R8 R9 R10 hR c).toRRel)
    (hshare := fun c => (dats m c).share_full fun _ => rfl)
    (howed := fun _ _ => rfl) (V := V m) (hmain := hmain m Variants.none) (hA := A_eq m) (hpf := lens_eq m) (hΦ := fun _ _ => rfl)
    (hQ' := fun _ h => h)

end Cert.KernelIdeal.Gen
-- ==== Proof.FrameIdeal.lean ====
/-
  The frame of the call: every execution terminates, the arguments end as they began, and every semaphore counter ends
  at zero.
-/
module

public import proofs.«01_k».proof.Proof.LaunchIdeal

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
variable (m : (ℓ : Loc nD τ sig) → Buf (Elt F) ℓ) (ρ : Dev nD → PrngReg)

/-- The arguments of `main` end as they began. -/
abbrev ArgsKept (r : PUnit × MemSt nD τ sig (Elt F)) (c : Dev nD) : Prop :=
r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)

variable (R8 : Dev nD → Fin (cfgT m).N → Vec F S1x128x16x128 .fp8e4m3 → Prop) (R9 R10 : Dev nD → Fin (cfgT m).N → Vec F S1x128x16 .f32 → Prop)

/-- What the launch leaves keeps the arguments, whatever is said of the outputs. -/
theorem argsKept_of {r : PUnit × MemSt nD τ sig (Elt F)} (h : Pipeline.RDat.FramePost (cfgT m) (rdat m R8 R9 R10) (V m) r)
    (c : Dev nD) : ArgsKept m r c := by
  refine ⟨?_, ?_, ?_, ?_, ?_, ?_, ?_, ?_, ?_⟩
  · exact (Pipeline.RDat.FramePost.arr_in h c 0 rfl).trans ((A_eq m c 0).trans (V_main_arg0 m c))
  · exact (Pipeline.RDat.FramePost.arr_in h c 1 rfl).trans ((A_eq m c 1).trans (V_main_arg1 m c))
  · exact (Pipeline.RDat.FramePost.arr_in h c 2 rfl).trans ((A_eq m c 2).trans (V_main_arg2 m c))
  · exact (Pipeline.RDat.FramePost.arr_in h c 3 rfl).trans ((A_eq m c 3).trans (V_main_arg3 m c))
  · exact ((h c).2 main_arg4 (Pipeline.mem_restRefs_of main_arg4 (by decide) (show ∀ w : Fin 11, (spec0 w).arr.view.ref ≠ main_arg4 by decide))).trans (V_main_arg4 m c)
  · exact ((h c).2 main_arg5 (Pipeline.mem_restRefs_of main_arg5 (by decide) (show ∀ w : Fin 11, (spec0 w).arr.view.ref ≠ main_arg5 by decide))).trans (V_main_arg5 m c)
  · exact ((h c).2 main_arg6 (Pipeline.mem_restRefs_of main_arg6 (by decide) (show ∀ w : Fin 11, (spec0 w).arr.view.ref ≠ main_arg6 by decide))).trans (V_main_arg6 m c)
  · exact (Pipeline.RDat.FramePost.arr_in h c 6 rfl).trans ((A_eq m c 6).trans (V_main_arg7 m c))
  · exact (Pipeline.RDat.FramePost.arr_in h c 7 rfl).trans ((A_eq m c 7).trans (V_main_arg8 m c))

/-- The frame: every execution terminates, the arguments end as they began, the counters end at zero. -/
theorem frame : θ_run defs (onTc (τ := τ) (main (F := F))) ⟨m, fun _ => 0, ρ⟩ (fun r => (∀ c : Dev nD, ArgsKept m r c) ∧ r.2.sem = fun _ => 0) :=
  (θ_run defs _ _).mono (fun _ h => ⟨argsKept_of m _ _ _ h.1, h.2⟩)
    (run_main m ρ (fun _ _ _ => True) (fun _ _ _ => True) (fun _ _ _ => True)
      fun c t => ⟨by intros; exact ⟨trivial, trivial, trivial⟩, by intros; exact ⟨trivial, trivial, trivial⟩⟩)

end Cert.KernelIdeal.Gen
-- ==== Proof.Softmax.lean ====
/-
  Softmax sums on the extended reals: the running maximum, the rescaled sums that go with it, and the normalised weights.
-/
module

public import Idealize.ShloMosaic.PureOps.Ideal

@[expose] public section

noncomputable section

namespace Cert.MlaPrompt

open Idealize.ShloMosaic

/-! ## Exponentials -/

theorem exp2_nonneg (x : EReal) : 0 ≤ Ideal.exp2 x := by
  induction x with
  | bot => exact le_refl _
  | top => exact le_top
  | coe r => exact EReal.coe_nonneg.mpr (Real.rpow_nonneg (by norm_num) r)

theorem exp2_add (x y : ℝ) : Ideal.exp2 (x : EReal) * Ideal.exp2 (y : EReal) = Ideal.exp2 ((x + y : ℝ) : EReal) := by
  simp only [Ideal.exp2_coe]
  rw [← EReal.coe_mul]
  exact congrArg _ (Real.rpow_add (by norm_num) x y).symm

/-- A weight taken against an old maximum, rescaled to a new one. -/
theorem exp2_rescale {s m m' : EReal} (h : s ≤ m) (h' : m ≤ m') :
    Ideal.exp2 (s - m) * Ideal.exp2 (m - m') = Ideal.exp2 (s - m') := by
  induction m with
  | bot =>
    have : s = ⊥ := le_bot_iff.mp h
    subst this
    simp
  | top =>
    have : m' = ⊤ := top_le_iff.mp h'
    subst this
    simp [sub_eq_add_neg]
  | coe m =>
    induction m' with
    | bot => exact absurd (le_bot_iff.mp h') (EReal.coe_ne_bot m)
    | top => simp [sub_eq_add_neg]
    | coe m' =>
      induction s with
      | bot => simp
      | top => exact absurd (top_le_iff.mp h) (EReal.coe_ne_top m)
      | coe s =>
        rw [← EReal.coe_sub, ← EReal.coe_sub, ← EReal.coe_sub, exp2_add]
        congr 2; ring

/-- Rescaling factors are non-negative reals. -/
theorem exp2_sub_real {m m' : EReal} (h : m ≤ m') : ∃ r : ℝ, 0 ≤ r ∧ Ideal.exp2 (m - m') = (r : EReal) := by
  induction m with
  | bot => exact ⟨0, le_refl _, by simp⟩
  | top =>
    have : m' = ⊤ := top_le_iff.mp h
    subst this
    exact ⟨0, le_refl _, by simp [sub_eq_add_neg]⟩
  | coe m =>
    induction m' with
    | bot => exact absurd (le_bot_iff.mp h) (EReal.coe_ne_bot m)
    | top => exact ⟨0, le_refl _, by simp [sub_eq_add_neg]⟩
    | coe m' => exact ⟨(2 : ℝ) ^ (m - m'), Real.rpow_nonneg (by norm_num) _, by rw [← EReal.coe_sub]; rfl⟩

/-- A sum times a non-negative real. -/
theorem sum_mul_real {ι : Type} (A : Finset ι) (f : ι → EReal) {r : ℝ} (hr : 0 ≤ r) :
    (∑ j ∈ A, f j) * (r : EReal) = ∑ j ∈ A, f j * (r : EReal) := by
  classical
  induction A using Finset.induction_on with
  | empty => simp
  | insert a A ha ih =>
    rw [Finset.sum_insert ha, Finset.sum_insert ha, ← ih, mul_comm, EReal.left_distrib_of_nonneg_of_ne_top (EReal.coe_nonneg.mpr hr) (EReal.coe_ne_top r)]
    rw [mul_comm (r : EReal) (f a), mul_comm (r : EReal)]

theorem add_mul_real (x y : EReal) {r : ℝ} (hr : 0 ≤ r) : (x + y) * (r : EReal) = x * r + y * r := by
  rw [mul_comm, EReal.left_distrib_of_nonneg_of_ne_top (EReal.coe_nonneg.mpr hr) (EReal.coe_ne_top r), mul_comm x, mul_comm y]

/-- A maximum times a positive real. -/
theorem max_mul_real (x y : EReal) {r : ℝ} (hr : 0 ≤ r) : max x y * (r : EReal) = max (x * r) (y * r) :=
  Monotone.map_max (f := fun x : EReal => x * (r : EReal)) (fun a b h => mul_le_mul_of_nonneg_right h (EReal.coe_nonneg.mpr hr))

theorem bot_mul_real {r : ℝ} (hr : 0 < r) : (⊥ : EReal) * (r : EReal) = ⊥ := EReal.bot_mul_coe_of_pos hr

theorem sup_mul_real {ι : Type} (A : Finset ι) (f : ι → EReal) {r : ℝ} (hr : 0 < r) :
    A.sup f * (r : EReal) = A.sup fun j => f j * (r : EReal) := by
  classical
  induction A using Finset.induction_on with
  | empty => rw [Finset.sup_empty, Finset.sup_empty, bot_mul_real hr]
  | insert a A ha ih => rw [Finset.sup_insert, Finset.sup_insert, ← ih]; exact max_mul_real _ _ hr.le

/-! ## The running sums -/

/-- The sum of `w` weighted by the exponentials of the scores `s` against `m`. -/
def wsum {ι : Type} (A : Finset ι) (s : ι → EReal) (m : EReal) (w : ι → EReal) : EReal :=
  ∑ j ∈ A, Ideal.exp2 (s j - m) * w j

theorem wsum_rescale {ι : Type} (A : Finset ι) (s w : ι → EReal) {m m' : EReal} (hs : ∀ j ∈ A, s j ≤ m) (h : m ≤ m') :
    wsum A s m w * Ideal.exp2 (m - m') = wsum A s m' w := by
  obtain ⟨r, hr, he⟩ := exp2_sub_real h
  unfold wsum
  rw [he, sum_mul_real A _ hr]
  refine Finset.sum_congr rfl fun j hj => ?_
  rw [← exp2_rescale (hs j hj) h, he, mul_assoc, mul_assoc, mul_comm (w j)]

theorem sup_range_add (s : ℕ → EReal) (n k : ℕ) :
    (Finset.range (n + k)).sup s = max ((Finset.range n).sup s) (Finset.univ.sup fun j : Fin k => s (n + j.val)) := by
  apply le_antisymm
  · refine Finset.sup_le fun j hj => ?_
    rcases lt_or_ge j n with h | h
    · exact le_max_of_le_left (Finset.le_sup (f := s) (Finset.mem_range.mpr h))
    · have hk : j - n < k := by have := Finset.mem_range.mp hj; omega
      refine le_max_of_le_right ?_
      have := Finset.le_sup (f := fun j : Fin k => s (n + j.val)) (Finset.mem_univ ⟨j - n, hk⟩)
      rwa [show n + (⟨j - n, hk⟩ : Fin k).val = j from by show n + (j - n) = j; omega] at this
  · refine max_le (Finset.sup_mono (Finset.range_subset_range.mpr (Nat.le_add_right n k))) (Finset.sup_le fun j _ => ?_)
    exact Finset.le_sup (f := s) (Finset.mem_range.mpr (by have := j.isLt; omega))

theorem wsum_range_add (s w : ℕ → EReal) (m : EReal) (n k : ℕ) :
    wsum (Finset.range (n + k)) s m w
      = wsum (Finset.range n) s m w + ∑ j : Fin k, Ideal.exp2 (s (n + j.val) - m) * w (n + j.val) := by
  unfold wsum
  rw [Finset.sum_range_add, Finset.sum_range (f := fun x => Ideal.exp2 (s (n + x) - m) * w (n + x))]

/-- The maximum of the first `n` scores. -/
def runMax (s : ℕ → EReal) (n : ℕ) : EReal := (Finset.range n).sup s

/-- The weighted sum of the first `n` keys against the maximum of their scores. -/
def runSum (s w : ℕ → EReal) (n : ℕ) : EReal := wsum (Finset.range n) s (runMax s n) w

theorem runMax_add (s : ℕ → EReal) (n k : ℕ) :
    runMax s (n + k) = max (runMax s n) (Finset.univ.sup fun j : Fin k => s (n + j.val)) := sup_range_add s n k

theorem runSum_add (s w : ℕ → EReal) (n k : ℕ) :
    runSum s w (n + k) = runSum s w n * Ideal.exp2 (runMax s n - runMax s (n + k))
      + ∑ j : Fin k, Ideal.exp2 (s (n + j.val) - runMax s (n + k)) * w (n + j.val) := by
  unfold runSum
  rw [wsum_range_add, wsum_rescale (m := runMax s n) (m' := runMax s (n + k)) _ s w (fun j hj => Finset.le_sup (f := s) hj)]
  exact Finset.sup_mono (Finset.range_subset_range.mpr (Nat.le_add_right n k))

/-- The keys past `n` carry nothing when their scores are `⊥`. -/
theorem runMax_tail (s : ℕ → EReal) {n N : ℕ} (h : n ≤ N) (hs : ∀ j, n ≤ j → s j = ⊥) : runMax s n = runMax s N := by
  apply le_antisymm (Finset.sup_mono (Finset.range_subset_range.mpr h))
  refine Finset.sup_le fun j hj => ?_
  rcases lt_or_ge j n with hj' | hj'
  · exact Finset.le_sup (f := s) (Finset.mem_range.mpr hj')
  · rw [hs j hj']; exact bot_le

theorem runSum_tail (s w : ℕ → EReal) {n N : ℕ} (h : n ≤ N) (hs : ∀ j, n ≤ j → s j = ⊥) : runSum s w n = runSum s w N := by
  unfold runSum wsum
  rw [runMax_tail s h hs]
  refine Finset.sum_subset (Finset.range_subset_range.mpr h) fun j _ hj => ?_
  rw [hs j (by simpa using hj)]
  simp

/-! ## The normalised weights -/

/-- `2 ^ (x log₂ e) = e ^ x`. -/
theorem exp2_mul_log2e (x : EReal) : Ideal.exp2 (x * (((Real.log 2)⁻¹ : ℝ) : EReal)) = Ideal.exp x := by
  have h2 : (0 : ℝ) < Real.log 2 := Real.log_pos (by norm_num)
  induction x with
  | bot => rw [bot_mul_real (inv_pos.mpr h2)]; rfl
  | top => rw [EReal.top_mul_coe_of_pos (inv_pos.mpr h2)]; rfl
  | coe x =>
    rw [← EReal.coe_mul]
    simp only [Ideal.exp2_coe, Ideal.exp_coe]
    congr 1
    show (2 : ℝ) ^ (x * (Real.log 2)⁻¹) = Real.exp x
    rw [Real.rpow_def_of_pos (by norm_num)]
    congr 1
    field_simp

theorem sub_mul_real (x y : EReal) {r : ℝ} (hr : 0 ≤ r) : (x - y) * (r : EReal) = x * r - y * r := by
  rw [sub_eq_add_neg, add_mul_real _ _ hr, EReal.neg_mul, sub_eq_add_neg]

section
variable {ι : Type} (A : Finset ι) (t w : ι → EReal)

/-- The logarithm of the sum of the exponentials, as written: the maximum and the logarithm of the rest. -/
def lse : EReal := A.sup t + Ideal.log (∑ j ∈ A, Ideal.exp (t j - A.sup t))

theorem lse_bot (h : ∀ j ∈ A, Ideal.exp (t j - A.sup t) = 0) : lse A t = ⊥ := by
  unfold lse
  rw [Finset.sum_eq_zero h]
  have : Ideal.log 0 = ⊥ := by rw [← EReal.coe_zero, Ideal.log_coe, if_pos (le_refl _)]
  rw [this, EReal.add_bot]

theorem coe_sum (p : ι → ℝ) : ((∑ j ∈ A, p j : ℝ) : EReal) = ∑ j ∈ A, (p j : EReal) := by
  classical
  induction A using Finset.induction_on with
  | empty => simp
  | insert a A ha ih => rw [Finset.sum_insert ha, Finset.sum_insert ha, ← ih, EReal.coe_add]

theorem exp_toReal_nonneg (x : EReal) : 0 ≤ (Ideal.exp x).toReal := by
  induction x with
  | bot => exact le_of_eq (by simp)
  | top => exact le_of_eq (by simp)
  | coe r => rw [Ideal.exp_coe, EReal.toReal_coe]; exact (Real.exp_pos _).le

theorem exp_sub_real {x : EReal} {m : ℝ} (h : x ≤ (m : EReal)) : Ideal.exp (x - m) = ((Ideal.exp (x - m)).toReal : EReal) := by
  induction x with
  | bot => simp
  | top => exact absurd h (not_le.mpr (EReal.coe_lt_top m))
  | coe r => rw [← EReal.coe_sub, Ideal.exp_coe, EReal.toReal_coe]

/-- Against a real maximum the weights are non-negative reals, and they add up to at least one. -/
theorem weights_real {m : ℝ} (hm : A.sup t = (m : EReal)) :
    ∃ p : ι → ℝ, (∀ j, 0 ≤ p j) ∧ (∀ j ∈ A, Ideal.exp (t j - (m : EReal)) = (p j : EReal)) ∧ 1 ≤ ∑ j ∈ A, p j := by
  refine ⟨fun j => (Ideal.exp (t j - (m : EReal))).toReal, fun j => exp_toReal_nonneg _,
    fun j hj => exp_sub_real (hm ▸ Finset.le_sup (f := t) hj), ?_⟩
  have hne : A.Nonempty := by
    rcases A.eq_empty_or_nonempty with h | h
    · subst h; rw [Finset.sup_empty] at hm; exact absurd hm.symm (EReal.coe_ne_bot m)
    · exact h
  obtain ⟨j, hj, he⟩ := Finset.exists_mem_eq_sup A hne t
  refine le_trans (le_of_eq ?_) (Finset.single_le_sum (f := fun j => (Ideal.exp (t j - (m : EReal))).toReal) (fun i _ => exp_toReal_nonneg _) hj)
  show 1 = (Ideal.exp (t j - (m : EReal))).toReal
  rw [← he, hm, ← EReal.coe_sub, sub_self, Ideal.exp_coe, EReal.toReal_coe, Real.exp_zero]

/-- The sum against the maximum, divided by the sum of the weights, is the sum of the normalised weights. -/
theorem normalised :
    (∑ j ∈ A, Ideal.exp (t j - A.sup t) * w j) * Ideal.div 1 (∑ j ∈ A, Ideal.exp (t j - A.sup t))
      = ∑ j ∈ A, (if lse A t = ⊥ then 0 else Ideal.exp (t j - lse A t)) * w j := by
  have zero (h : ∀ j ∈ A, Ideal.exp (t j - A.sup t) = 0) :
      (∑ j ∈ A, Ideal.exp (t j - A.sup t) * w j) * Ideal.div 1 (∑ j ∈ A, Ideal.exp (t j - A.sup t))
        = ∑ j ∈ A, (if lse A t = ⊥ then 0 else Ideal.exp (t j - lse A t)) * w j := by
    rw [lse_bot A t h, Finset.sum_eq_zero (fun j hj => by rw [h j hj, zero_mul]), zero_mul]
    exact (Finset.sum_eq_zero fun j _ => by rw [if_pos rfl, zero_mul]).symm
  rcases hm : A.sup t with _ | _ | m
  · exact hm ▸ zero fun j hj => by
      have : t j ≤ A.sup t := Finset.le_sup hj
      rw [show A.sup t = ⊥ from hm] at this ⊢
      rw [le_bot_iff.mp this]; simp
  · exact hm ▸ zero fun j hj => by
      rw [show A.sup t = ⊤ from hm]; simp [sub_eq_add_neg]
  · obtain ⟨p, hp0, hp, hp1⟩ := weights_real A t hm
    have hl : (∑ j ∈ A, Ideal.exp (t j - ((m : ℝ) : EReal))) = ((∑ j ∈ A, p j : ℝ) : EReal) := by
      rw [coe_sum]; exact Finset.sum_congr rfl hp
    have hpos : 0 < ∑ j ∈ A, p j := lt_of_lt_of_le one_pos hp1
    have hlse : lse A t = ((m + Real.log (∑ j ∈ A, p j) : ℝ) : EReal) := by
      unfold lse
      rw [hm]
      show ((m : ℝ) : EReal) + Ideal.log (∑ j ∈ A, Ideal.exp (t j - ((m : ℝ) : EReal))) = _
      rw [hl, Ideal.log_coe, if_neg (not_le.mpr hpos), EReal.coe_add]
    have hdiv : Ideal.div 1 ((∑ j ∈ A, p j : ℝ) : EReal) = (((∑ j ∈ A, p j)⁻¹ : ℝ) : EReal) := by
      unfold Ideal.div
      rw [if_neg (by exact_mod_cast hpos.ne'), one_mul, EReal.coe_inv]
    show (∑ j ∈ A, Ideal.exp (t j - ((m : ℝ) : EReal)) * w j) * Ideal.div 1 (∑ j ∈ A, Ideal.exp (t j - ((m : ℝ) : EReal))) = _
    rw [hl, hdiv, sum_mul_real A _ (inv_nonneg.mpr hpos.le)]
    refine Finset.sum_congr rfl fun j hj => ?_
    rw [hlse, if_neg (EReal.coe_ne_bot _)]
    rw [mul_assoc, mul_comm (w j), ← mul_assoc]
    congr 1
    rcases ht : t j with _ | _ | x
    · show Ideal.exp (⊥ - ((m : ℝ) : EReal)) * _ = Ideal.exp (⊥ - _); simp
    · have h : t j ≤ A.sup t := Finset.le_sup hj
      rw [hm, ht] at h
      exact absurd h (not_le.mpr (EReal.coe_lt_top m))
    · show Ideal.exp (((x : ℝ) : EReal) - ((m : ℝ) : EReal)) * _ = Ideal.exp (((x : ℝ) : EReal) - _)
      rw [← EReal.coe_sub, ← EReal.coe_sub]
      simp only [Ideal.exp_coe]
      rw [← EReal.coe_mul]
      congr 1
      rw [show x - (m + Real.log (∑ j ∈ A, p j)) = (x - m) + -Real.log (∑ j ∈ A, p j) by ring, Real.exp_add, Real.exp_neg,
        Real.exp_log hpos]
end

end Cert.MlaPrompt
-- ==== Proof.Score.lean ====
/-
  The scaled scores: a score taken on keys and queries divided by their scales, and scaled back, is the plain score.
-/
module

public import proofs.«01_k».proof.Proof.Softmax

@[expose] public section

noncomputable section

namespace Cert.MlaPrompt

open Idealize.ShloMosaic

theorem div_real (x : EReal) {r : ℝ} (hr : 0 < r) : Ideal.div x (r : EReal) = x * ((r⁻¹ : ℝ) : EReal) := by
  unfold Ideal.div
  rw [if_neg (by exact_mod_cast hr.ne'), EReal.coe_inv]

theorem score_scaled {ι : Type} [Fintype ι] (L : EReal) (x y : ι → EReal) (a b s c : ℝ) (ha : 0 < a) (hb : 0 < b) :
    ((L + ∑ d, Ideal.div (x d) a * Ideal.div (y d) b) * (b : EReal)) * ((a : EReal) * ((s * c : ℝ) : EReal))
      = ((L * (a : EReal) * (b : EReal) + ∑ d, x d * y d) * (s : EReal)) * (c : EReal) := by
  have h1 : ∀ d, Ideal.div (x d) a * Ideal.div (y d) b = (x d * y d) * ((a⁻¹ * b⁻¹ : ℝ) : EReal) := fun d => by
    rw [div_real _ ha, div_real _ hb, EReal.coe_mul, mul_mul_mul_comm]
  have hab : (0 : ℝ) ≤ a⁻¹ * b⁻¹ := mul_nonneg (inv_pos.mpr ha).le (inv_pos.mpr hb).le
  have h2 : (∑ d, Ideal.div (x d) a * Ideal.div (y d) b) = (∑ d, x d * y d) * ((a⁻¹ * b⁻¹ : ℝ) : EReal) := by
    rw [sum_mul_real _ _ hab]
    exact Finset.sum_congr rfl fun d _ => h1 d
  have h3 : (L + (∑ d, x d * y d) * ((a⁻¹ * b⁻¹ : ℝ) : EReal)) * ((a * b : ℝ) : EReal) = L * ((a * b : ℝ) : EReal) + ∑ d, x d * y d := by
    rw [add_mul_real _ _ (mul_pos ha hb).le, mul_assoc, ← EReal.coe_mul,
      show a⁻¹ * b⁻¹ * (a * b) = 1 by field_simp, EReal.coe_one, mul_one]
  have h4 : (b : EReal) * ((a : EReal) * ((s * c : ℝ) : EReal)) = ((a * b : ℝ) : EReal) * ((s : EReal) * (c : EReal)) := by
    rw [← EReal.coe_mul, ← EReal.coe_mul, ← EReal.coe_mul, ← EReal.coe_mul, show b * (a * (s * c)) = a * b * (s * c) by ring]
  rw [h2, mul_assoc, h4, ← mul_assoc, h3, EReal.coe_mul, ← mul_assoc, ← mul_assoc]

section
variable (t w : ℕ → EReal) (N : ℕ)

/-- Two to the score in units of `log 2`. -/
def log2e : ℝ := (Real.log 2)⁻¹

theorem log2e_pos : 0 < log2e := inv_pos.mpr (Real.log_pos (by norm_num))

theorem runMax_scaled : runMax (fun j => t j * (log2e : EReal)) N = (Finset.range N).sup t * (log2e : EReal) :=
  (sup_mul_real _ t log2e_pos).symm

theorem runSum_scaled :
    runSum (fun j => t j * (log2e : EReal)) w N = ∑ j ∈ Finset.range N, Ideal.exp (t j - (Finset.range N).sup t) * w j := by
  unfold runSum wsum
  rw [runMax_scaled]
  refine Finset.sum_congr rfl fun j _ => ?_
  rw [← sub_mul_real _ _ log2e_pos.le]
  exact congrArg (· * w j) (exp2_mul_log2e _)

theorem runSum_one :
    runSum (fun j => t j * (log2e : EReal)) (fun _ => 1) N = ∑ j ∈ Finset.range N, Ideal.exp (t j - (Finset.range N).sup t) := by
  rw [runSum_scaled]
  exact Finset.sum_congr rfl fun j _ => mul_one _

/-- The accumulator over the sum of the weights is the sum of the normalised weights. -/
theorem output_eq :
    runSum (fun j => t j * (log2e : EReal)) w N * Ideal.div 1 (runSum (fun j => t j * (log2e : EReal)) (fun _ => 1) N)
      = ∑ j ∈ Finset.range N, (if lse (Finset.range N) t = ⊥ then 0 else Ideal.exp (t j - lse (Finset.range N) t)) * w j := by
  rw [runSum_one, runSum_scaled]
  exact normalised _ t w

/-- The kernel's logarithm of the sum, kept in base two and rescaled at the end. -/
theorem lse_eq :
    (runMax (fun j => t j * (log2e : EReal)) N + Ideal.log (runSum (fun j => t j * (log2e : EReal)) (fun _ => 1) N) * (log2e : EReal))
      * ((Real.log 2 : ℝ) : EReal) = lse (Finset.range N) t := by
  have h : (0 : ℝ) < Real.log 2 := Real.log_pos (by norm_num)
  rw [runSum_one, runMax_scaled, ← add_mul_real _ _ log2e_pos.le, mul_assoc, ← EReal.coe_mul]
  rw [show log2e * Real.log 2 = 1 from inv_mul_cancel₀ h.ne', EReal.coe_one, mul_one]
  rfl

end

end Cert.MlaPrompt

end
-- ==== Proof.Tile.lean ====
module

public import proofs.«01_k».proof.Proof.RunIdeal
public import proofs.«01_k».proof.Proof.Score
public import Idealize.ShloMosaic.Lib.Pointwise
public import Idealize.ShloMosaic.Lib.WritesUnit

@[expose] public section

set_option maxRecDepth 16384
set_option maxHeartbeats 4000000

noncomputable section

namespace Cert.KernelIdeal.Gen

open Idealize.ShloMosaic

section Tiles
variable {F : FTy → Type} [FloatOps F] [Named F]

/-- The scaled scores of one tile of 256 query rows against 512 keys, before the query's own scale. -/
def tU (k : FVec F S512x512 .fp8e4m3) (kr : FVec F S512x64 .bf16) (cs : FVec F S1x512 .f32) (q : Vec F S256x512 .fp8e4m3) (qr : Vec F S256x64 .bf16) : FVec F S256x512 .f32 :=
  mulf (addf (matmul dot_S256x512_S512x512_S256x512_1_1_0_0_n_n none q k (constant S256x512 .f32 0x00000000#32))
    (matmul dot_S256x64_S512x64_S256x512_1_1_0_0_n_n none qr kr (constant S256x512 .f32 0x00000000#32))) (broadcastTo S256x512 cs broadcasts_S1x512_S256x512)

/-- The token, counted within the block, of each of a tile's rows: the row's number over sixteen. -/
def tTok (r0 : BitVec 32) : IVec S256x512 32 :=
  have v106 : IVec S256x512 32 := addi (broadcast S256x512 r0) (iota .tc S256x512 32 [0] iota_S256x512_d0_w32)
  have v108 : IVec S256x512 32 := divsi v106 (broadcast S256x512 16#32)
  have v115 : IVec S256x512 32 := subi (extui 32 (cmpi .sgt v106 (broadcast S256x512 0#32)) natLt_1_32) (extui 32 (cmpi .slt v106 (broadcast S256x512 0#32)) natLt_1_32)
  have v121 : IVec S256x512 32 := broadcast S256x512 (Scalar.subi (Scalar.extui (Scalar.cmpi .sgt 16#32 0#32)) (Scalar.extui (Scalar.cmpi .slt 16#32 0#32)))
  select (andi (cmpi .ne v115 v121) (cmpi .ne (remsi v106 (broadcast S256x512 16#32)) (broadcast S256x512 0#32))) (subi v108 (broadcast S256x512 1#32)) v108

/-- The scores with every key after the row's token masked. -/
def tMask (key tok0 r0 : BitVec 32) (u : FVec F S256x512 .f32) : FVec F S256x512 .f32 :=
  select (cmpi .sle (addi (broadcast S256x512 key) (iota .tc S256x512 32 [1] iota_S256x512_d1_w32)) (addi (broadcast S256x512 tok0) (tTok r0))) u
    (broadcast S256x512 (Named.named κ "mask" 0xF149F2CA#32))

/-- The new running maximum. -/
def tM (u : FVec F S256x512 .f32) (aq m : Vec F S256x128 .f32) : FVec F S256x128 .f32 :=
  maximumf m (mulf (broadcastTo S256x128 (shapeCast S256x1 (multiReduction .maximumf [1] S256 u 0xFF800000#32 reduces_S256x512_S256 (.inl rfl) rfl) shapeCasts_S256_S256x1) broadcasts_S256x1_S256x128) aq)

/-- What the old running values are scaled by. -/
def tA (m mn : FVec F S256x128 .f32) : FVec F S256x128 .f32 := exp2 (subf m mn)

/-- The weights of the tile's keys. -/
def tP (u : FVec F S256x512 .f32) (aq mn : Vec F S256x128 .f32) : FVec F S256x512 .f32 :=
  exp2 (subf (mulf u (broadcastTo S256x512 (extractStridedSlice S256x1 ![0, 0] aq slices_S256x128_o0_0_S256x1) broadcasts_S256x1_S256x512))
    (broadcastTo S256x512 (extractStridedSlice S256x1 ![0, 0] mn slices_S256x128_o0_0_S256x1) broadcasts_S256x1_S256x512))

/-- The new running sum. -/
def tL (l al : FVec F S256x128 .f32) (p : FVec F S256x512 .f32) : FVec F S256x128 .f32 :=
  addf (mulf l al) (broadcastTo S256x128 (shapeCast S256x1 (multiReduction .add [1] S256 p 0x00000000#32 reduces_S256x512_S256 (.inl rfl) rfl) shapeCasts_S256_S256x1) broadcasts_S256x1_S256x128)

/-- The tile's weighted sum of the scaled keys. -/
def tPV (p : FVec F S256x512 .f32) (cs : FVec F S1x512 .f32) (k : FVec F S512x512 .fp8e4m3) : FVec F S256x512 .f32 :=
  matmul dot_S256x512_S512x512_S256x512_1_0_0_1_n_n none (truncf .bf16 (mulf p (broadcastTo S256x512 cs broadcasts_S1x512_S256x512)) bitsLt_bf16_f32) k (constant S256x512 .f32 0x00000000#32)

/-- A column block of the new running output. -/
def tO (o : Vec F S1x256x128 .f32) (al x : FVec F S256x128 .f32) : FVec F S1x256x128 .f32 :=
  shapeCast S1x256x128 (addf (mulf (shapeCast S256x128 o shapeCasts_S1x256x128_S256x128) al) x) shapeCasts_S256x128_S1x256x128

end Tiles

theorem tU_apply (k : FVec Ideal S512x512 .fp8e4m3) (kr : FVec Ideal S512x64 .bf16) (cs : FVec Ideal S1x512 .f32) (q : Vec Ideal S256x512 .fp8e4m3) (qr : Vec Ideal S256x64 .bf16) (x : Fin 256) (j : Fin 512) :
    tU k kr cs q qr (ix2 x j) = ((∑ d : Fin 512, q (ix2 x d) * k (ix2 j d)) + ∑ d : Fin 64, qr (ix2 x d) * kr (ix2 j d)) * cs (ix2 0 j) := by
  pointwise [tU]

theorem tM_apply (u : FVec Ideal S256x512 .f32) (aq m : Vec Ideal S256x128 .f32) (x : Fin 256) (l : Fin 128) :
    tM u aq m (ix2 x l) = max (m (ix2 x l)) ((Finset.univ.sup fun j : Fin 512 => u (ix2 x j)) * aq (ix2 x l)) := by
  pointwise [tM]
  rfl

theorem tA_apply (m mn : FVec Ideal S256x128 .f32) (x : Fin 256) (l : Fin 128) :
    tA m mn (ix2 x l) = Ideal.exp2 (m (ix2 x l) - mn (ix2 x l)) := by
  pointwise [tA]
  try rfl

theorem tP_apply (u : FVec Ideal S256x512 .f32) (aq mn : Vec Ideal S256x128 .f32) (x : Fin 256) (j : Fin 512) :
    tP u aq mn (ix2 x j) = Ideal.exp2 (u (ix2 x j) * aq (ix2 x 0) - mn (ix2 x 0)) := by
  pointwise [tP]
  try rfl

theorem tL_apply (l al : FVec Ideal S256x128 .f32) (p : FVec Ideal S256x512 .f32) (x : Fin 256) (j : Fin 128) :
    tL l al p (ix2 x j) = l (ix2 x j) * al (ix2 x j) + ∑ y : Fin 512, p (ix2 x y) := by
  pointwise [tL]

theorem tPV_apply (p : FVec Ideal S256x512 .f32) (cs : FVec Ideal S1x512 .f32) (k : FVec Ideal S512x512 .fp8e4m3) (x : Fin 256) (d : Fin 512) :
    tPV p cs k (ix2 x d) = ∑ j : Fin 512, p (ix2 x j) * cs (ix2 0 j) * k (ix2 j d) := by
  pointwise [tPV]

theorem tO_apply (o : Vec Ideal S1x256x128 .f32) (al y : FVec Ideal S256x128 .f32) (x : Fin 256) (l : Fin 128) :
    tO o al y (ix3 0 x l) = o (ix3 0 x l) * al (ix2 x l) + y (ix2 x l) := by
  pointwise [tO]

/-- A row's token within the block, as the words compute it. -/
theorem tok_word : ∀ R : Fin 2048,
    (Scalar.select
            (IntOp.andi
              (IntOp.cmpi CmpIPredicate.ne
                (IntOp.subi
                  (BitVec.setWidth 32 (IntOp.cmpi CmpIPredicate.sgt (BitVec.ofNat 32 R.val) 0#32))
                  (BitVec.setWidth 32 (IntOp.cmpi CmpIPredicate.slt (BitVec.ofNat 32 R.val) 0#32)))
                (Scalar.subi (Scalar.extui (Scalar.cmpi CmpIPredicate.sgt 16#32 0#32))
                  (Scalar.extui (Scalar.cmpi CmpIPredicate.slt 16#32 0#32))))
              (IntOp.cmpi CmpIPredicate.ne (IntOp.remsi ArithUnit.vector (BitVec.ofNat 32 R.val) 16#32)
                0#32))
            (IntOp.subi (IntOp.divsi ArithUnit.vector (BitVec.ofNat 32 R.val) 16#32) 1#32)
            (IntOp.divsi ArithUnit.vector (BitVec.ofNat 32 R.val) 16#32)) = BitVec.ofNat 32 (R.val / 16) := by
  decide +kernel

theorem mask_bot : (Named.named κ "mask" 0xF149F2CA#32 : Ideal .f32) = (⊥ : EReal) :=
  IdealRules.named_const.ideal_named_scalar _ _ _ _ rfl

theorem addi_ofNat (a b : ℕ) : IntOp.addi (BitVec.ofNat 32 a) (BitVec.ofNat 32 b) = BitVec.ofNat 32 (a + b) := (BitVec.ofNat_add a b).symm

theorem select_sle {α : Type} (a b : ℕ) (ha : a < 2 ^ 31) (hb : b < 2 ^ 31) (x y : α) :
    Scalar.select (IntOp.cmpi .sle (BitVec.ofNat 32 a) (BitVec.ofNat 32 b)) x y = if a ≤ b then x else y := by
  have h : (BitVec.ofNat 32 a).sle (BitVec.ofNat 32 b) = decide (a ≤ b) := by
    rw [BitVec.sle_eq_decide, BitVec.toInt_ofNat', BitVec.toInt_ofNat']
    simp only [Int.bmod_def]
    congr 1
    apply propext
    omega
  unfold Scalar.select
  show (if (BitVec.ofBool ((BitVec.ofNat 32 a).sle (BitVec.ofNat 32 b))) = 1#1 then x else y) = _
  rw [h]
  by_cases hab : a ≤ b <;> simp [hab]

theorem tMask_apply (key tok0 r0 : ℕ) (hk : key < 2 ^ 20) (ht : tok0 < 2 ^ 20) (hr : r0 + 256 ≤ 2048) (u : FVec Ideal S256x512 .f32) (x : Fin 256) (j : Fin 512) :
    tMask (BitVec.ofNat 32 key) (BitVec.ofNat 32 tok0) (BitVec.ofNat 32 r0) u (ix2 x j) = if key + j.val ≤ tok0 + (r0 + x.val) / 16 then u (ix2 x j) else (⊥ : EReal) := by
  pointwise [tMask, tTok]
  simp only [addi_ofNat]
  have h := tok_word ⟨r0 + x.val, by omega⟩
  rw [h, addi_ofNat, select_sle _ _ (by omega) (by have := x.isLt; omega), mask_bot]

/-! ## The tile's values against the rows' running sums -/

section Rows
open Cert.MlaPrompt

variable (S : ℕ → ℕ → EReal) (W : ℕ → ℕ → EReal)

/-- The three running values of every row, after `n r` keys of row `r` (and of column block `c` for the output). -/
structure St (n : ℕ → ℕ) (g17 : S2048x128.Idx → EReal) (g18 : S2048x128.Idx → EReal) (g19 : S4x2048x128.Idx → EReal) : Prop where
  m : ∀ (r : Fin 2048) (l : Fin 128), g17 (ix2 r l) = runMax (S r.val) (n r.val)
  l : ∀ (r : Fin 2048) (l : Fin 128), g18 (ix2 r l) = runSum (S r.val) (fun _ => 1) (n r.val)
  o : ∀ (c : Fin 4) (r : Fin 2048) (l : Fin 128), g19 (ix3 c r l) = runSum (S r.val) (W (128 * c.val + l.val)) (n r.val)

/-- What a tile's blocks hold: rows `r0 …` against keys `n …`. -/
structure TileIn (r0 n : ℕ) (u : FVec Ideal S256x512 .f32) (aq : Vec Ideal S256x128 .f32) (cs : FVec Ideal S1x512 .f32) (k : FVec Ideal S512x512 .fp8e4m3) : Prop where
  a : ∀ x : Fin 256, ∃ a : ℝ, 0 < a ∧ ∀ l : Fin 128, aq (ix2 x l) = (a : EReal)
  u : ∀ (x : Fin 256) (j : Fin 512), u (ix2 x j) * aq (ix2 x 0) = S (r0 + x.val) (n + j.val)
  w : ∀ (j d : Fin 512), cs (ix2 0 j) * k (ix2 j d) = W d.val (n + j.val)

variable {S W} {r0 n : ℕ} {u : FVec Ideal S256x512 .f32} {aq : Vec Ideal S256x128 .f32} {cs : FVec Ideal S1x512 .f32} {k : FVec Ideal S512x512 .fp8e4m3} (h : TileIn S W r0 n u aq cs k)
include h

theorem tM_run {m : Vec Ideal S256x128 .f32} (hm : ∀ (x : Fin 256) (l : Fin 128), m (ix2 x l) = runMax (S (r0 + x.val)) n) (x : Fin 256) (l : Fin 128) :
    tM u aq m (ix2 x l) = runMax (S (r0 + x.val)) (n + 512) := by
  obtain ⟨a, ha, e⟩ := h.a x
  rw [tM_apply, hm, e l, sup_mul_real _ _ ha, runMax_add]
  simp only [← h.u x, e 0]

theorem tP_run {m : Vec Ideal S256x128 .f32} (hm : ∀ (x : Fin 256) (l : Fin 128), m (ix2 x l) = runMax (S (r0 + x.val)) n) (x : Fin 256) (j : Fin 512) :
    tP u aq (tM u aq m) (ix2 x j) = Ideal.exp2 (S (r0 + x.val) (n + j.val) - runMax (S (r0 + x.val)) (n + 512)) := by
  rw [tP_apply, tM_run h hm, h.u x]

theorem tL_run {m l : Vec Ideal S256x128 .f32} (hm : ∀ (x : Fin 256) (l : Fin 128), m (ix2 x l) = runMax (S (r0 + x.val)) n)
    (hl : ∀ (x : Fin 256) (y : Fin 128), l (ix2 x y) = runSum (S (r0 + x.val)) (fun _ => 1) n) (x : Fin 256) (y : Fin 128) :
    tL l (tA m (tM u aq m)) (tP u aq (tM u aq m)) (ix2 x y) = runSum (S (r0 + x.val)) (fun _ => 1) (n + 512) := by
  rw [tL_apply, hl, tA_apply, hm, tM_run h hm, runSum_add]
  simp only [tP_run h hm, mul_one]

theorem tPV_run {m : Vec Ideal S256x128 .f32} (hm : ∀ (x : Fin 256) (l : Fin 128), m (ix2 x l) = runMax (S (r0 + x.val)) n) (x : Fin 256) (d : Fin 512) :
    tPV (tP u aq (tM u aq m)) cs k (ix2 x d)
      = ∑ j : Fin 512, Ideal.exp2 (S (r0 + x.val) (n + j.val) - runMax (S (r0 + x.val)) (n + 512)) * W d.val (n + j.val) := by
  rw [tPV_apply]
  simp only [tP_run h hm, mul_assoc, h.w]

theorem tO_run {m : Vec Ideal S256x128 .f32} (hm : ∀ (x : Fin 256) (l : Fin 128), m (ix2 x l) = runMax (S (r0 + x.val)) n) (d : ℕ) {o : Vec Ideal S1x256x128 .f32} {y : FVec Ideal S256x128 .f32}
    (ho : ∀ (x : Fin 256) (l : Fin 128), o (ix3 0 x l) = runSum (S (r0 + x.val)) (W (d + l.val)) n)
    (hy : ∀ (x : Fin 256) (l : Fin 128), ∃ e : Fin 512, e.val = d + l.val ∧ y (ix2 x l) = tPV (tP u aq (tM u aq m)) cs k (ix2 x e)) (x : Fin 256) (l : Fin 128) :
    tO o (tA m (tM u aq m)) y (ix3 0 x l) = runSum (S (r0 + x.val)) (W (d + l.val)) (n + 512) := by
  obtain ⟨e, he, hy⟩ := hy x l
  rw [tO_apply, ho, tA_apply, hm, tM_run h hm, hy, tPV_run h hm, runSum_add, he]

end Rows

/-! ## Stores of a tile into the scratch buffers -/

section Stores
variable {sig : RefSig} {κ : Kind} {sp : Space}

theorem push2 (v : View sig κ sp S2048x128 .f32) (f : v.ty.Contents (Elt Ideal)) (L : List (View.Piece (Elt Ideal) S2048x128 .f32)) (r0 : ℕ)
    (inb : ∀ a, (![r0, 0] : Fin 2 → ℕ) a + S256x128.size a ≤ S2048x128.size a) (p : Vec Ideal S256x128 .f32) (A B : ℕ → EReal)
    (hA : ∀ (r : Fin 2048) (l : Fin 128), v.read (Elt Ideal) (v.writes (Elt Ideal) f L) (ix2 r l) = A r.val)
    (hp : ∀ (x : Fin 256) (l : Fin 128), p (ix2 x l) = B (r0 + x.val)) (r : Fin 2048) (l : Fin 128) :
    v.read (Elt Ideal) (v.writes (Elt Ideal) f (⟨Rect.unit (s := S2048x128) ![r0, 0] S256x128.size inb, p⟩ :: L)) (ix2 r l) = if r0 ≤ r.val ∧ r.val < r0 + 256 then B r.val else A r.val := by
  by_cases hr : r0 ≤ r.val ∧ r.val < r0 + 256
  · rw [if_pos hr, View.read_writes_cons_unit_of_mem v f inb p L (ix2 r l) (ix2 ⟨r.val - r0, by omega⟩ l) rfl, hp]
    · congr 1
      show r0 + (r.val - r0) = r.val
      omega
    · intro a
      match a with
      | 0 => show r.val = r0 + (r.val - r0); omega
      | 1 => show l.val = 0 + l.val; omega
  · rw [if_neg hr, View.read_writes_cons_unit_of_not_mem v f inb p L (ix2 r l) rfl 0, hA]
    show r.val < r0 ∨ r0 + 256 ≤ r.val
    omega

theorem push3 (v : View sig κ sp S4x2048x128 .f32) (f : v.ty.Contents (Elt Ideal)) (L : List (View.Piece (Elt Ideal) S4x2048x128 .f32)) (c0 r0 : ℕ)
    (inb : ∀ a, (![c0, r0, 0] : Fin 3 → ℕ) a + S1x256x128.size a ≤ S4x2048x128.size a) (p : Vec Ideal S1x256x128 .f32) (A B : ℕ → ℕ → ℕ → EReal)
    (hA : ∀ (c : Fin 4) (r : Fin 2048) (l : Fin 128), v.read (Elt Ideal) (v.writes (Elt Ideal) f L) (ix3 c r l) = A c.val r.val l.val)
    (hp : ∀ (x : Fin 256) (l : Fin 128), p (ix3 0 x l) = B c0 (r0 + x.val) l.val) (c : Fin 4) (r : Fin 2048) (l : Fin 128) :
    v.read (Elt Ideal) (v.writes (Elt Ideal) f (⟨Rect.unit (s := S4x2048x128) ![c0, r0, 0] S1x256x128.size inb, p⟩ :: L)) (ix3 c r l)
      = if c.val = c0 ∧ r0 ≤ r.val ∧ r.val < r0 + 256 then B c.val r.val l.val else A c.val r.val l.val := by
  by_cases hr : c.val = c0 ∧ r0 ≤ r.val ∧ r.val < r0 + 256
  · rw [if_pos hr, View.read_writes_cons_unit_of_mem v f inb p L (ix3 c r l) (ix3 0 ⟨r.val - r0, by omega⟩ l) rfl, hp]
    · rw [hr.1]
      congr 1
      show r0 + (r.val - r0) = r.val
      omega
    · intro a
      match a with
      | 0 => show c.val = c0 + 0; omega
      | 1 => show r.val = r0 + (r.val - r0); omega
      | 2 => show l.val = 0 + l.val; omega
  · rw [if_neg hr]
    by_cases hc : c.val = c0
    · rw [View.read_writes_cons_unit_of_not_mem v f inb p L (ix3 c r l) rfl 1, hA]
      show r.val < r0 ∨ r0 + 256 ≤ r.val
      omega
    · rw [View.read_writes_cons_unit_of_not_mem v f inb p L (ix3 c r l) rfl 0, hA]
      show c.val < c0 ∨ c0 + 1 ≤ c.val
      omega

/-- A load of a tile's rows. -/
theorem load2 {N M T R : ℕ} {e : EltTy} (v : View sig κ sp ⟨2, ![N, M]⟩ e) (f : v.ty.Contents (Elt Ideal)) (r0 : ℕ)
    (inb : ∀ a, (![r0, 0] : Fin 2 → ℕ) a + (![T, R] : Fin 2 → ℕ) a ≤ (![N, M] : Fin 2 → ℕ) a) (x : Fin T) (l : Fin R) (hx : r0 + x.val < N) (hl : l.val < M) :
    v.readAt (Elt Ideal) (Rect.unit (s := ⟨2, ![N, M]⟩) ![r0, 0] ![T, R] inb).toLoadRect f (ix2 x l) = v.read (Elt Ideal) f (ix2 ⟨r0 + x.val, hx⟩ ⟨l.val, hl⟩) := by
  rw [View.readAt_apply]
  congr 1
  funext a
  match a with
  | 0 => exact Fin.ext (show r0 + 1 * x.val = r0 + x.val by omega)
  | 1 => exact Fin.ext (show 0 + 1 * l.val = l.val by omega)

theorem load3 {C N M B T R : ℕ} {e : EltTy} (v : View sig κ sp ⟨3, ![C, N, M]⟩ e) (f : v.ty.Contents (Elt Ideal)) (c0 r0 : ℕ)
    (inb : ∀ a, (![c0, r0, 0] : Fin 3 → ℕ) a + (![B, T, R] : Fin 3 → ℕ) a ≤ (![C, N, M] : Fin 3 → ℕ) a) (c : Fin B) (x : Fin T) (l : Fin R) (hc : c0 + c.val < C) (hx : r0 + x.val < N) (hl : l.val < M) :
    v.readAt (Elt Ideal) (Rect.unit (s := ⟨3, ![C, N, M]⟩) ![c0, r0, 0] ![B, T, R] inb).toLoadRect f (ix3 c x l) = v.read (Elt Ideal) f (ix3 ⟨c0 + c.val, hc⟩ ⟨r0 + x.val, hx⟩ ⟨l.val, hl⟩) := by
  rw [View.readAt_apply]
  congr 1
  funext a
  match a with
  | 0 => exact Fin.ext (show c0 + 1 * c.val = c0 + c.val by omega)
  | 1 => exact Fin.ext (show r0 + 1 * x.val = r0 + x.val by omega)
  | 2 => exact Fin.ext (show 0 + 1 * l.val = l.val by omega)

theorem skip3 (v : View sig κ sp S4x2048x128 .f32) (f : v.ty.Contents (Elt Ideal)) (L : List (View.Piece (Elt Ideal) S4x2048x128 .f32)) (c0 r0 : ℕ)
    (inb : ∀ a, (![c0, r0, 0] : Fin 3 → ℕ) a + S1x256x128.size a ≤ S4x2048x128.size a) (p : Vec Ideal S1x256x128 .f32) (c : Fin 4) (r : Fin 2048) (l : Fin 128) (hc : c.val ≠ c0) :
    v.read (Elt Ideal) (v.writes (Elt Ideal) f (⟨Rect.unit (s := S4x2048x128) ![c0, r0, 0] S1x256x128.size inb, p⟩ :: L)) (ix3 c r l)
      = v.read (Elt Ideal) (v.writes (Elt Ideal) f L) (ix3 c r l) := by
  rw [View.read_writes_cons_unit_of_not_mem v f inb p L (ix3 c r l) rfl 0]
  show c.val < c0 ∨ c0 + 1 ≤ c.val
  omega

theorem cast2 (x : FVec Ideal S256x128 .f32) (h) : shapeCast S256x128 x h = x := by
  funext j
  rw [eq_ix2 j]
  pointwise []

theorem slice0 (x : FVec Ideal S256x512 .f32) (h) (r : Fin 256) (l : Fin 128) : extractStridedSlice S256x128 ![0, 0] x h (ix2 r l) = x (ix2 r ⟨l.val, by omega⟩) := by
  pointwise []
theorem slice1 (x : FVec Ideal S256x512 .f32) (h) (r : Fin 256) (l : Fin 128) : extractStridedSlice S256x128 ![0, 128] x h (ix2 r l) = x (ix2 r ⟨128 + l.val, by omega⟩) := by
  pointwise []
theorem slice2 (x : FVec Ideal S256x512 .f32) (h) (r : Fin 256) (l : Fin 128) : extractStridedSlice S256x128 ![0, 256] x h (ix2 r l) = x (ix2 r ⟨256 + l.val, by omega⟩) := by
  pointwise []
theorem slice3 (x : FVec Ideal S256x512 .f32) (h) (r : Fin 256) (l : Fin 128) : extractStridedSlice S256x128 ![0, 384] x h (ix2 r l) = x (ix2 r ⟨384 + l.val, by omega⟩) := by
  pointwise []

section Push
open Cert.MlaPrompt
variable {S W : ℕ → ℕ → EReal} {n : ℕ → ℕ} {N : ℕ}
variable (v17 : View sig κ sp S2048x128 .f32) (f17 : v17.ty.Contents (Elt Ideal)) (L17 : List (View.Piece (Elt Ideal) S2048x128 .f32))
variable (v18 : View sig κ sp S2048x128 .f32) (f18 : v18.ty.Contents (Elt Ideal)) (L18 : List (View.Piece (Elt Ideal) S2048x128 .f32))
variable (v19 : View sig κ sp S4x2048x128 .f32) (f19 : v19.ty.Contents (Elt Ideal)) (L19 : List (View.Piece (Elt Ideal) S4x2048x128 .f32))

/-- A tile's six stores advance its rows by the tile's keys. -/
theorem St.push (r0 : ℕ) (h : St S W n (v17.read (Elt Ideal) (v17.writes (Elt Ideal) f17 L17)) (v18.read (Elt Ideal) (v18.writes (Elt Ideal) f18 L18)) (v19.read (Elt Ideal) (v19.writes (Elt Ideal) f19 L19)))
    (u : FVec Ideal S256x512 .f32) (aq : Vec Ideal S256x128 .f32) (cs : FVec Ideal S1x512 .f32) (k : FVec Ideal S512x512 .fp8e4m3) (T : TileIn S W r0 N u aq cs k)
    (m l : Vec Ideal S256x128 .f32) (o0 o1 o2 o3 : Vec Ideal S1x256x128 .f32)
    (hm : ∀ (x : Fin 256) (l : Fin 128), m (ix2 x l) = runMax (S (r0 + x.val)) N)
    (hl : ∀ (x : Fin 256) (y : Fin 128), l (ix2 x y) = runSum (S (r0 + x.val)) (fun _ => 1) N)
    (ho0 : ∀ (x : Fin 256) (l : Fin 128), o0 (ix3 0 x l) = runSum (S (r0 + x.val)) (W (0 + l.val)) N)
    (ho1 : ∀ (x : Fin 256) (l : Fin 128), o1 (ix3 0 x l) = runSum (S (r0 + x.val)) (W (128 + l.val)) N)
    (ho2 : ∀ (x : Fin 256) (l : Fin 128), o2 (ix3 0 x l) = runSum (S (r0 + x.val)) (W (256 + l.val)) N)
    (ho3 : ∀ (x : Fin 256) (l : Fin 128), o3 (ix3 0 x l) = runSum (S (r0 + x.val)) (W (384 + l.val)) N)
    (inb17 : ∀ a, (![r0, 0] : Fin 2 → ℕ) a + S256x128.size a ≤ S2048x128.size a)
    (inb0 : ∀ a, (![0, r0, 0] : Fin 3 → ℕ) a + S1x256x128.size a ≤ S4x2048x128.size a) (inb1 : ∀ a, (![1, r0, 0] : Fin 3 → ℕ) a + S1x256x128.size a ≤ S4x2048x128.size a)
    (inb2 : ∀ a, (![2, r0, 0] : Fin 3 → ℕ) a + S1x256x128.size a ≤ S4x2048x128.size a) (inb3 : ∀ a, (![3, r0, 0] : Fin 3 → ℕ) a + S1x256x128.size a ≤ S4x2048x128.size a) :
    St S W (fun r => if r0 ≤ r ∧ r < r0 + 256 then N + 512 else n r)
      (v17.read (Elt Ideal) (v17.writes (Elt Ideal) f17 (⟨Rect.unit (s := S2048x128) ![r0, 0] S256x128.size inb17, shapeCast S256x128 (tM u aq m) shapeCasts_S256x128_S256x128⟩ :: L17)))
      (v18.read (Elt Ideal) (v18.writes (Elt Ideal) f18 (⟨Rect.unit (s := S2048x128) ![r0, 0] S256x128.size inb17, shapeCast S256x128 (tL l (tA m (tM u aq m)) (tP u aq (tM u aq m))) shapeCasts_S256x128_S256x128⟩ :: L18)))
      (v19.read (Elt Ideal) (v19.writes (Elt Ideal) f19
        (⟨Rect.unit (s := S4x2048x128) ![3, r0, 0] S1x256x128.size inb3, tO o3 (tA m (tM u aq m)) (extractStridedSlice S256x128 ![0, 384] (tPV (tP u aq (tM u aq m)) cs k) slices_S256x512_o0_384_S256x128)⟩
        :: ⟨Rect.unit (s := S4x2048x128) ![2, r0, 0] S1x256x128.size inb2, tO o2 (tA m (tM u aq m)) (extractStridedSlice S256x128 ![0, 256] (tPV (tP u aq (tM u aq m)) cs k) slices_S256x512_o0_256_S256x128)⟩
        :: ⟨Rect.unit (s := S4x2048x128) ![1, r0, 0] S1x256x128.size inb1, tO o1 (tA m (tM u aq m)) (extractStridedSlice S256x128 ![0, 128] (tPV (tP u aq (tM u aq m)) cs k) slices_S256x512_o0_128_S256x128)⟩
        :: ⟨Rect.unit (s := S4x2048x128) ![0, r0, 0] S1x256x128.size inb0, tO o0 (tA m (tM u aq m)) (extractStridedSlice S256x128 ![0, 0] (tPV (tP u aq (tM u aq m)) cs k) slices_S256x512_o0_0_S256x128)⟩ :: L19))) := by
  constructor
  · intro r l
    rw [push2 v17 f17 L17 r0 inb17 _ (fun r => runMax (S r) (n r)) (fun r => runMax (S r) (N + 512)) h.m (fun x l => by rw [cast2]; exact tM_run T hm x l)]
    split <;> rfl
  · intro r l
    rw [push2 v18 f18 L18 r0 inb17 _ (fun r => runSum (S r) (fun _ => 1) (n r)) (fun r => runSum (S r) (fun _ => 1) (N + 512)) h.l (fun x l => by rw [cast2]; exact tL_run T hm hl x l)]
    split <;> rfl
  · intro c r l
    have e0 := push3 v19 f19 L19 0 r0 inb0 _ (fun c r l => runSum (S r) (W (128 * c + l)) (n r)) (fun c r l => runSum (S r) (W (128 * c + l)) (N + 512)) h.o
      (fun x l => tO_run T hm 0 ho0 (fun x l => ⟨⟨l.val, by omega⟩, by simp, slice0 _ slices_S256x512_o0_0_S256x128 x l⟩) x l)
    have e1 := push3 v19 f19 _ 1 r0 inb1 _ (fun c r l => (if c = 0 ∧ r0 ≤ r ∧ r < r0 + 256 then runSum (S r) (W (128 * c + l)) (N + 512) else runSum (S r) (W (128 * c + l)) (n r))) (fun c r l => runSum (S r) (W (128 * c + l)) (N + 512)) e0
      (fun x l => tO_run T hm 128 ho1 (fun x l => ⟨⟨128 + l.val, by omega⟩, rfl, slice1 _ slices_S256x512_o0_128_S256x128 x l⟩) x l)
    have e2 := push3 v19 f19 _ 2 r0 inb2 _ (fun c r l => (if c = 1 ∧ r0 ≤ r ∧ r < r0 + 256 then runSum (S r) (W (128 * c + l)) (N + 512) else (if c = 0 ∧ r0 ≤ r ∧ r < r0 + 256 then runSum (S r) (W (128 * c + l)) (N + 512) else runSum (S r) (W (128 * c + l)) (n r)))) (fun c r l => runSum (S r) (W (128 * c + l)) (N + 512)) e1
      (fun x l => tO_run T hm 256 ho2 (fun x l => ⟨⟨256 + l.val, by omega⟩, rfl, slice2 _ slices_S256x512_o0_256_S256x128 x l⟩) x l)
    have e3 := push3 v19 f19 _ 3 r0 inb3 _ (fun c r l => (if c = 2 ∧ r0 ≤ r ∧ r < r0 + 256 then runSum (S r) (W (128 * c + l)) (N + 512) else (if c = 1 ∧ r0 ≤ r ∧ r < r0 + 256 then runSum (S r) (W (128 * c + l)) (N + 512) else (if c = 0 ∧ r0 ≤ r ∧ r < r0 + 256 then runSum (S r) (W (128 * c + l)) (N + 512) else runSum (S r) (W (128 * c + l)) (n r))))) (fun c r l => runSum (S r) (W (128 * c + l)) (N + 512)) e2
      (fun x l => tO_run T hm 384 ho3 (fun x l => ⟨⟨384 + l.val, by omega⟩, rfl, slice3 _ slices_S256x512_o0_384_S256x128 x l⟩) x l)
    rw [e3 c r l]
    have hc := c.isLt
    by_cases hr : r0 ≤ r.val ∧ r.val < r0 + 256
    · rw [if_pos hr]
      split_ifs <;> first | rfl | omega
    · simp only [hr, and_false, if_false]

theorem St.congr {n' : ℕ → ℕ} {g17 g18 g19} (h : St S W n g17 g18 g19) (e : ∀ r < 2048, n r = n' r) : St S W n' g17 g18 g19 := by
  refine ⟨fun r l => ?_, fun r l => ?_, fun c r l => ?_⟩
  · rw [h.m, e _ r.isLt]
  · rw [h.l, e _ r.isLt]
  · rw [h.o, e _ r.isLt]

/-- The same, the tile's old values loaded from the buffers as they were before any of the step's stores. -/
theorem St.push_base (h : St S W n (v17.read (Elt Ideal) (v17.writes (Elt Ideal) f17 L17)) (v18.read (Elt Ideal) (v18.writes (Elt Ideal) f18 L18)) (v19.read (Elt Ideal) (v19.writes (Elt Ideal) f19 L19)))
    (B : St S W (fun _ => N) (v17.read (Elt Ideal) f17) (v18.read (Elt Ideal) f18) (v19.read (Elt Ideal) f19))
    (r0 : ℕ) (hr0 : r0 + 256 ≤ 2048) (u : FVec Ideal S256x512 .f32) (aq : Vec Ideal S256x128 .f32) (cs : FVec Ideal S1x512 .f32) (k : FVec Ideal S512x512 .fp8e4m3) (T : TileIn S W r0 N u aq cs k)
    (inb17 : ∀ a, (![r0, 0] : Fin 2 → ℕ) a + S256x128.size a ≤ S2048x128.size a)
    (inb0 : ∀ a, (![0, r0, 0] : Fin 3 → ℕ) a + S1x256x128.size a ≤ S4x2048x128.size a) (inb1 : ∀ a, (![1, r0, 0] : Fin 3 → ℕ) a + S1x256x128.size a ≤ S4x2048x128.size a)
    (inb2 : ∀ a, (![2, r0, 0] : Fin 3 → ℕ) a + S1x256x128.size a ≤ S4x2048x128.size a) (inb3 : ∀ a, (![3, r0, 0] : Fin 3 → ℕ) a + S1x256x128.size a ≤ S4x2048x128.size a)
    (m l : Vec Ideal S256x128 .f32) (o0 o1 o2 o3 : Vec Ideal S1x256x128 .f32)
    (em : m = v17.readAt (Elt Ideal) (Rect.unit (s := S2048x128) ![r0, 0] S256x128.size inb17).toLoadRect (f17)) (el : l = v18.readAt (Elt Ideal) (Rect.unit (s := S2048x128) ![r0, 0] S256x128.size inb17).toLoadRect (f18))
    (e0 : o0 = v19.readAt (Elt Ideal) (Rect.unit (s := S4x2048x128) ![0, r0, 0] S1x256x128.size inb0).toLoadRect (f19)) (e1 : o1 = v19.readAt (Elt Ideal) (Rect.unit (s := S4x2048x128) ![1, r0, 0] S1x256x128.size inb1).toLoadRect (f19)) (e2 : o2 = v19.readAt (Elt Ideal) (Rect.unit (s := S4x2048x128) ![2, r0, 0] S1x256x128.size inb2).toLoadRect (f19)) (e3 : o3 = v19.readAt (Elt Ideal) (Rect.unit (s := S4x2048x128) ![3, r0, 0] S1x256x128.size inb3).toLoadRect (f19)) :
    St S W (fun r => if r0 ≤ r ∧ r < r0 + 256 then N + 512 else n r)
      (v17.read (Elt Ideal) (v17.writes (Elt Ideal) f17 (⟨Rect.unit (s := S2048x128) ![r0, 0] S256x128.size inb17, shapeCast S256x128 (tM u aq m) shapeCasts_S256x128_S256x128⟩ :: L17)))
      (v18.read (Elt Ideal) (v18.writes (Elt Ideal) f18 (⟨Rect.unit (s := S2048x128) ![r0, 0] S256x128.size inb17, shapeCast S256x128 (tL l (tA m (tM u aq m)) (tP u aq (tM u aq m))) shapeCasts_S256x128_S256x128⟩ :: L18)))
      (v19.read (Elt Ideal) (v19.writes (Elt Ideal) f19
        (⟨Rect.unit (s := S4x2048x128) ![3, r0, 0] S1x256x128.size inb3, tO o3 (tA m (tM u aq m)) (extractStridedSlice S256x128 ![0, 384] (tPV (tP u aq (tM u aq m)) cs k) slices_S256x512_o0_384_S256x128)⟩
        :: ⟨Rect.unit (s := S4x2048x128) ![2, r0, 0] S1x256x128.size inb2, tO o2 (tA m (tM u aq m)) (extractStridedSlice S256x128 ![0, 256] (tPV (tP u aq (tM u aq m)) cs k) slices_S256x512_o0_256_S256x128)⟩
        :: ⟨Rect.unit (s := S4x2048x128) ![1, r0, 0] S1x256x128.size inb1, tO o1 (tA m (tM u aq m)) (extractStridedSlice S256x128 ![0, 128] (tPV (tP u aq (tM u aq m)) cs k) slices_S256x512_o0_128_S256x128)⟩
        :: ⟨Rect.unit (s := S4x2048x128) ![0, r0, 0] S1x256x128.size inb0, tO o0 (tA m (tM u aq m)) (extractStridedSlice S256x128 ![0, 0] (tPV (tP u aq (tM u aq m)) cs k) slices_S256x512_o0_0_S256x128)⟩ :: L19))) := by
  have ho : ∀ (c : ℕ) (hc : c < 4) (inb) (x : Fin 256) (l : Fin 128), v19.readAt (Elt Ideal) (Rect.unit (s := S4x2048x128) ![c, r0, 0] S1x256x128.size inb).toLoadRect f19 (ix3 0 x l)
      = runSum (S (r0 + x.val)) (W (128 * c + l.val)) N := fun c hc inb x l => by
    rw [load3 (C := 4) (N := 2048) (M := 128) (B := 1) (T := 256) (R := 128) v19 f19 c r0 inb 0 x l (by simpa using hc) (by omega) l.isLt]
    exact B.o ⟨c, hc⟩ ⟨r0 + x.val, by omega⟩ l
  subst em el e0 e1 e2 e3
  refine St.push v17 f17 L17 v18 f18 L18 v19 f19 L19 r0 h u aq cs k T _ _ _ _ _ _ (fun x l => ?_) (fun x l => ?_) (ho 0 (by omega) _) (ho 1 (by omega) _) (ho 2 (by omega) _) (ho 3 (by omega) _) inb17 inb0 inb1 inb2 inb3
  · rw [load2 (N := 2048) (M := 128) (T := 256) (R := 128) v17 f17 r0 inb17 x l (by omega) l.isLt]
    exact B.m ⟨r0 + x.val, by omega⟩ l
  · rw [load2 (N := 2048) (M := 128) (T := 256) (R := 128) v18 f18 r0 inb17 x l (by omega) l.isLt]
    exact B.l ⟨r0 + x.val, by omega⟩ l

/-- The same, the tile's old values loaded from the buffers as the stores so far have left them. -/
theorem St.push_here (h : St S W n (v17.read (Elt Ideal) (v17.writes (Elt Ideal) f17 L17)) (v18.read (Elt Ideal) (v18.writes (Elt Ideal) f18 L18)) (v19.read (Elt Ideal) (v19.writes (Elt Ideal) f19 L19)))
    (r0 : ℕ) (hr0 : r0 + 256 ≤ 2048) (hn : ∀ r, r0 ≤ r → r < r0 + 256 → n r = N) (u : FVec Ideal S256x512 .f32) (aq : Vec Ideal S256x128 .f32) (cs : FVec Ideal S1x512 .f32) (k : FVec Ideal S512x512 .fp8e4m3) (T : TileIn S W r0 N u aq cs k)
    (inb17 : ∀ a, (![r0, 0] : Fin 2 → ℕ) a + S256x128.size a ≤ S2048x128.size a)
    (inb0 : ∀ a, (![0, r0, 0] : Fin 3 → ℕ) a + S1x256x128.size a ≤ S4x2048x128.size a) (inb1 : ∀ a, (![1, r0, 0] : Fin 3 → ℕ) a + S1x256x128.size a ≤ S4x2048x128.size a)
    (inb2 : ∀ a, (![2, r0, 0] : Fin 3 → ℕ) a + S1x256x128.size a ≤ S4x2048x128.size a) (inb3 : ∀ a, (![3, r0, 0] : Fin 3 → ℕ) a + S1x256x128.size a ≤ S4x2048x128.size a)
    (m l : Vec Ideal S256x128 .f32) (o0 o1 o2 o3 : Vec Ideal S1x256x128 .f32)
    (em : m = v17.readAt (Elt Ideal) (Rect.unit (s := S2048x128) ![r0, 0] S256x128.size inb17).toLoadRect (v17.writes (Elt Ideal) f17 L17)) (el : l = v18.readAt (Elt Ideal) (Rect.unit (s := S2048x128) ![r0, 0] S256x128.size inb17).toLoadRect (v18.writes (Elt Ideal) f18 L18))
    (e0 : o0 = v19.readAt (Elt Ideal) (Rect.unit (s := S4x2048x128) ![0, r0, 0] S1x256x128.size inb0).toLoadRect (v19.writes (Elt Ideal) f19 L19))
    (e1 : o1 = v19.readAt (Elt Ideal) (Rect.unit (s := S4x2048x128) ![1, r0, 0] S1x256x128.size inb1).toLoadRect (v19.writes (Elt Ideal) f19 (⟨Rect.unit (s := S4x2048x128) ![0, r0, 0] S1x256x128.size inb0, tO o0 (tA m (tM u aq m)) (extractStridedSlice S256x128 ![0, 0] (tPV (tP u aq (tM u aq m)) cs k) slices_S256x512_o0_0_S256x128)⟩ :: L19)))
    (e2 : o2 = v19.readAt (Elt Ideal) (Rect.unit (s := S4x2048x128) ![2, r0, 0] S1x256x128.size inb2).toLoadRect (v19.writes (Elt Ideal) f19 (⟨Rect.unit (s := S4x2048x128) ![1, r0, 0] S1x256x128.size inb1, tO o1 (tA m (tM u aq m)) (extractStridedSlice S256x128 ![0, 128] (tPV (tP u aq (tM u aq m)) cs k) slices_S256x512_o0_128_S256x128)⟩ :: ⟨Rect.unit (s := S4x2048x128) ![0, r0, 0] S1x256x128.size inb0, tO o0 (tA m (tM u aq m)) (extractStridedSlice S256x128 ![0, 0] (tPV (tP u aq (tM u aq m)) cs k) slices_S256x512_o0_0_S256x128)⟩ :: L19)))
    (e3 : o3 = v19.readAt (Elt Ideal) (Rect.unit (s := S4x2048x128) ![3, r0, 0] S1x256x128.size inb3).toLoadRect (v19.writes (Elt Ideal) f19 (⟨Rect.unit (s := S4x2048x128) ![2, r0, 0] S1x256x128.size inb2, tO o2 (tA m (tM u aq m)) (extractStridedSlice S256x128 ![0, 256] (tPV (tP u aq (tM u aq m)) cs k) slices_S256x512_o0_256_S256x128)⟩ :: ⟨Rect.unit (s := S4x2048x128) ![1, r0, 0] S1x256x128.size inb1, tO o1 (tA m (tM u aq m)) (extractStridedSlice S256x128 ![0, 128] (tPV (tP u aq (tM u aq m)) cs k) slices_S256x512_o0_128_S256x128)⟩ :: ⟨Rect.unit (s := S4x2048x128) ![0, r0, 0] S1x256x128.size inb0, tO o0 (tA m (tM u aq m)) (extractStridedSlice S256x128 ![0, 0] (tPV (tP u aq (tM u aq m)) cs k) slices_S256x512_o0_0_S256x128)⟩ :: L19))) :
    St S W (fun r => if r0 ≤ r ∧ r < r0 + 256 then N + 512 else n r)
      (v17.read (Elt Ideal) (v17.writes (Elt Ideal) f17 (⟨Rect.unit (s := S2048x128) ![r0, 0] S256x128.size inb17, shapeCast S256x128 (tM u aq m) shapeCasts_S256x128_S256x128⟩ :: L17)))
      (v18.read (Elt Ideal) (v18.writes (Elt Ideal) f18 (⟨Rect.unit (s := S2048x128) ![r0, 0] S256x128.size inb17, shapeCast S256x128 (tL l (tA m (tM u aq m)) (tP u aq (tM u aq m))) shapeCasts_S256x128_S256x128⟩ :: L18)))
      (v19.read (Elt Ideal) (v19.writes (Elt Ideal) f19
        (⟨Rect.unit (s := S4x2048x128) ![3, r0, 0] S1x256x128.size inb3, tO o3 (tA m (tM u aq m)) (extractStridedSlice S256x128 ![0, 384] (tPV (tP u aq (tM u aq m)) cs k) slices_S256x512_o0_384_S256x128)⟩
        :: ⟨Rect.unit (s := S4x2048x128) ![2, r0, 0] S1x256x128.size inb2, tO o2 (tA m (tM u aq m)) (extractStridedSlice S256x128 ![0, 256] (tPV (tP u aq (tM u aq m)) cs k) slices_S256x512_o0_256_S256x128)⟩
        :: ⟨Rect.unit (s := S4x2048x128) ![1, r0, 0] S1x256x128.size inb1, tO o1 (tA m (tM u aq m)) (extractStridedSlice S256x128 ![0, 128] (tPV (tP u aq (tM u aq m)) cs k) slices_S256x512_o0_128_S256x128)⟩
        :: ⟨Rect.unit (s := S4x2048x128) ![0, r0, 0] S1x256x128.size inb0, tO o0 (tA m (tM u aq m)) (extractStridedSlice S256x128 ![0, 0] (tPV (tP u aq (tM u aq m)) cs k) slices_S256x512_o0_0_S256x128)⟩ :: L19))) := by
  have ho : ∀ (c : Fin 4) (x : Fin 256) (l : Fin 128), v19.read (Elt Ideal) (v19.writes (Elt Ideal) f19 L19) (ix3 c ⟨r0 + x.val, by omega⟩ l)
      = runSum (S (r0 + x.val)) (W (128 * c.val + l.val)) N := fun c x l => by
    rw [h.o c ⟨r0 + x.val, by omega⟩ l]
    dsimp only
    rw [hn (r0 + x.val) (by omega) (by omega)]
  have ld : ∀ (c : ℕ) (hc : c < 4) (inb) (g) (x : Fin 256) (l : Fin 128), v19.readAt (Elt Ideal) (Rect.unit (s := S4x2048x128) ![c, r0, 0] S1x256x128.size inb).toLoadRect g (ix3 0 x l)
      = v19.read (Elt Ideal) g (ix3 (⟨c, hc⟩ : Fin 4) (⟨r0 + x.val, by omega⟩ : Fin 2048) l) := fun c hc inb g x l =>
    load3 (C := 4) (N := 2048) (M := 128) (B := 1) (T := 256) (R := 128) v19 g c r0 inb 0 x l (by simpa using hc) (by omega) l.isLt
  refine St.push v17 f17 L17 v18 f18 L18 v19 f19 L19 r0 h u aq cs k T m l o0 o1 o2 o3 (fun x l => ?_) (fun x l => ?_) (fun x l => ?_) (fun x l => ?_) (fun x l => ?_) (fun x l => ?_) inb17 inb0 inb1 inb2 inb3
  · rw [em, load2 (N := 2048) (M := 128) (T := 256) (R := 128) v17 _ r0 inb17 x l (by omega) l.isLt]
    refine (h.m ⟨r0 + x.val, by omega⟩ l).trans ?_
    dsimp only
    rw [hn (r0 + x.val) (by omega) (by omega)]
  · rw [el, load2 (N := 2048) (M := 128) (T := 256) (R := 128) v18 _ r0 inb17 x l (by omega) l.isLt]
    refine (h.l ⟨r0 + x.val, by omega⟩ l).trans ?_
    dsimp only
    rw [hn (r0 + x.val) (by omega) (by omega)]
  · rw [e0, ld 0 (by omega)]
    exact ho 0 x l
  · rw [e1, ld 1 (by omega), skip3 v19 f19 _ 0 r0 inb0 _ _ _ _ (by simp)]
    exact ho 1 x l
  · rw [e2, ld 2 (by omega), skip3 v19 f19 _ 1 r0 inb1 _ _ _ _ (by simp), skip3 v19 f19 _ 0 r0 inb0 _ _ _ _ (by simp)]
    exact ho 2 x l
  · rw [e3, ld 3 (by omega), skip3 v19 f19 _ 2 r0 inb2 _ _ _ _ (by simp), skip3 v19 f19 _ 1 r0 inb1 _ _ _ _ (by simp), skip3 v19 f19 _ 0 r0 inb0 _ _ _ _ (by simp)]
    exact ho 3 x l

end Push

end Stores

end Cert.KernelIdeal.Gen
-- ==== Proof.Trip.lean ====
module

public import proofs.«01_k».proof.Proof.Tile

@[expose] public section

set_option maxRecDepth 16384
set_option maxHeartbeats 4000000

noncomputable section

namespace Cert.KernelIdeal.Gen

open Idealize.ShloMosaic Idealize.ShloMosaic.TcCoe Idealize.SL Idealize.SL.Sem Cert.MlaPrompt

/-- One trip of the loop over the keys advances every row by the trip's keys. -/
theorem trip_run (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (v73 : BitVec 32) (c1_i32_38 : BitVec 32) (c0_i32_39 : BitVec 32) (c0_i32_40 : BitVec 32) (v78 : BitVec 32) (X_arg6 : BufTy.Contents (Elt Ideal) arg6.view.ty) (X_arg7 : BufTy.Contents (Elt Ideal) arg7.view.ty) (X_arg8 : BufTy.Contents (Elt Ideal) arg8.view.ty) (X_arg14 : BufTy.Contents (Elt Ideal) arg14.view.ty) (X_arg15 : BufTy.Contents (Elt Ideal) arg15.view.ty) (X_arg16 : BufTy.Contents (Elt Ideal) arg16.view.ty) (k : Fin (k0_t1_loop i).trips) (f_arg17 : BufTy.Contents (Elt Ideal) arg17.view.ty) (f_arg18 : BufTy.Contents (Elt Ideal) arg18.view.ty) (f_arg19 : BufTy.Contents (Elt Ideal) arg19.view.ty) (S W : ℕ → ℕ → EReal) (N : ℕ)
    (B : St S W (fun _ => N) (arg17.view.read (Elt Ideal) f_arg17) (arg18.view.read (Elt Ideal) f_arg18) (arg19.view.read (Elt Ideal) f_arg19))
    (T : ∀ (r0 : ℕ) (inb14 : ∀ a, (![r0, 0] : Fin 2 → ℕ) a + S256x512.size a ≤ S2048x512.size a) (inb15 : ∀ a, (![r0, 0] : Fin 2 → ℕ) a + S256x64.size a ≤ S2048x64.size a) (inb16 : ∀ a, (![r0, 0] : Fin 2 → ℕ) a + S256x128.size a ≤ S2048x128.size a),
      TileIn S W r0 N (tU (k0_pay7 (View.readAt (Elt Ideal) arg6.view (Rect.unit (s := S1x15360x512) (k0_off2 i k) S1x512x512.size (k0_off2_inb i k)).toLoadRect X_arg6))
        (k0_pay8 (View.readAt (Elt Ideal) arg8.view (Rect.unit (s := S1x15360x64) (k0_off3 i k) S1x512x64.size (k0_off3_inb i k)).toLoadRect X_arg8))
        (k0_pay9 (View.readAt (Elt Ideal) arg7.view (Rect.unit (s := S1x1x15360) (k0_off4 i k) S1x1x512.size (k0_off4_inb i k)).toLoadRect X_arg7))
        (View.readAt (Elt Ideal) arg14.view (Rect.unit (s := S2048x512) ![r0, 0] S256x512.size inb14).toLoadRect X_arg14)
        (View.readAt (Elt Ideal) arg15.view (Rect.unit (s := S2048x64) ![r0, 0] S256x64.size inb15).toLoadRect X_arg15))
        (View.readAt (Elt Ideal) arg16.view (Rect.unit (s := S2048x128) ![r0, 0] S256x128.size inb16).toLoadRect X_arg16)
        (k0_pay9 (View.readAt (Elt Ideal) arg7.view (Rect.unit (s := S1x1x15360) (k0_off4 i k) S1x1x512.size (k0_off4_inb i k)).toLoadRect X_arg7))
        (k0_pay7 (View.readAt (Elt Ideal) arg6.view (Rect.unit (s := S1x15360x512) (k0_off2 i k) S1x512x512.size (k0_off2_inb i k)).toLoadRect X_arg6))) :
    St S W (fun _ => N + 512) (arg17.view.read (Elt Ideal) (arg17.view.writes (Elt Ideal) f_arg17 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v73 c1_i32_38 c0_i32_39 c0_i32_40 v78 X_arg6 X_arg7 X_arg8 X_arg14 X_arg15 X_arg16 k).1 f_arg17 f_arg18 f_arg19)))
      (arg18.view.read (Elt Ideal) (arg18.view.writes (Elt Ideal) f_arg18 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v73 c1_i32_38 c0_i32_39 c0_i32_40 v78 X_arg6 X_arg7 X_arg8 X_arg14 X_arg15 X_arg16 k).2.1 f_arg17 f_arg18 f_arg19)))
      (arg19.view.read (Elt Ideal) (arg19.view.writes (Elt Ideal) f_arg19 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v73 c1_i32_38 c0_i32_39 c0_i32_40 v78 X_arg6 X_arg7 X_arg8 X_arg14 X_arg15 X_arg16 k).2.2.1 f_arg17 f_arg18 f_arg19))) := by
  have h0 := St.push_base arg17.view f_arg17 _ arg18.view f_arg18 _ arg19.view f_arg19 _ (show St S W (fun _ => N) (arg17.view.read (Elt Ideal) (arg17.view.writes (Elt Ideal) f_arg17 [])) (arg18.view.read (Elt Ideal) (arg18.view.writes (Elt Ideal) f_arg18 [])) (arg19.view.read (Elt Ideal) (arg19.view.writes (Elt Ideal) f_arg19 [])) from B) B 0 (by norm_num) _ _ _ _ (T 0 inb_S2048x512_S256x512_0_0 inb_S2048x64_S256x64_0_0 inb_S2048x128_S256x128_0_0)
    inb_S2048x128_S256x128_0_0 inb_S4x2048x128_S1x256x128_0_0_0 inb_S4x2048x128_S1x256x128_1_0_0 inb_S4x2048x128_S1x256x128_2_0_0 inb_S4x2048x128_S1x256x128_3_0_0 _ _ _ _ _ _ rfl rfl rfl rfl rfl rfl
  have h1 := St.push_base arg17.view f_arg17 _ arg18.view f_arg18 _ arg19.view f_arg19 _ h0 B 256 (by norm_num) _ _ _ _ (T 256 inb_S2048x512_S256x512_256_0 inb_S2048x64_S256x64_256_0 inb_S2048x128_S256x128_256_0)
    inb_S2048x128_S256x128_256_0 inb_S4x2048x128_S1x256x128_0_256_0 inb_S4x2048x128_S1x256x128_1_256_0 inb_S4x2048x128_S1x256x128_2_256_0 inb_S4x2048x128_S1x256x128_3_256_0 _ _ _ _ _ _ rfl rfl rfl rfl rfl rfl
  have h2 := St.push_base arg17.view f_arg17 _ arg18.view f_arg18 _ arg19.view f_arg19 _ h1 B 512 (by norm_num) _ _ _ _ (T 512 inb_S2048x512_S256x512_512_0 inb_S2048x64_S256x64_512_0 inb_S2048x128_S256x128_512_0)
    inb_S2048x128_S256x128_512_0 inb_S4x2048x128_S1x256x128_0_512_0 inb_S4x2048x128_S1x256x128_1_512_0 inb_S4x2048x128_S1x256x128_2_512_0 inb_S4x2048x128_S1x256x128_3_512_0 _ _ _ _ _ _ rfl rfl rfl rfl rfl rfl
  have h3 := St.push_base arg17.view f_arg17 _ arg18.view f_arg18 _ arg19.view f_arg19 _ h2 B 768 (by norm_num) _ _ _ _ (T 768 inb_S2048x512_S256x512_768_0 inb_S2048x64_S256x64_768_0 inb_S2048x128_S256x128_768_0)
    inb_S2048x128_S256x128_768_0 inb_S4x2048x128_S1x256x128_0_768_0 inb_S4x2048x128_S1x256x128_1_768_0 inb_S4x2048x128_S1x256x128_2_768_0 inb_S4x2048x128_S1x256x128_3_768_0 _ _ _ _ _ _ rfl rfl rfl rfl rfl rfl
  have h4 := St.push_base arg17.view f_arg17 _ arg18.view f_arg18 _ arg19.view f_arg19 _ h3 B 1024 (by norm_num) _ _ _ _ (T 1024 inb_S2048x512_S256x512_1024_0 inb_S2048x64_S256x64_1024_0 inb_S2048x128_S256x128_1024_0)
    inb_S2048x128_S256x128_1024_0 inb_S4x2048x128_S1x256x128_0_1024_0 inb_S4x2048x128_S1x256x128_1_1024_0 inb_S4x2048x128_S1x256x128_2_1024_0 inb_S4x2048x128_S1x256x128_3_1024_0 _ _ _ _ _ _ rfl rfl rfl rfl rfl rfl
  have h5 := St.push_base arg17.view f_arg17 _ arg18.view f_arg18 _ arg19.view f_arg19 _ h4 B 1280 (by norm_num) _ _ _ _ (T 1280 inb_S2048x512_S256x512_1280_0 inb_S2048x64_S256x64_1280_0 inb_S2048x128_S256x128_1280_0)
    inb_S2048x128_S256x128_1280_0 inb_S4x2048x128_S1x256x128_0_1280_0 inb_S4x2048x128_S1x256x128_1_1280_0 inb_S4x2048x128_S1x256x128_2_1280_0 inb_S4x2048x128_S1x256x128_3_1280_0 _ _ _ _ _ _ rfl rfl rfl rfl rfl rfl
  have h6 := St.push_base arg17.view f_arg17 _ arg18.view f_arg18 _ arg19.view f_arg19 _ h5 B 1536 (by norm_num) _ _ _ _ (T 1536 inb_S2048x512_S256x512_1536_0 inb_S2048x64_S256x64_1536_0 inb_S2048x128_S256x128_1536_0)
    inb_S2048x128_S256x128_1536_0 inb_S4x2048x128_S1x256x128_0_1536_0 inb_S4x2048x128_S1x256x128_1_1536_0 inb_S4x2048x128_S1x256x128_2_1536_0 inb_S4x2048x128_S1x256x128_3_1536_0 _ _ _ _ _ _ rfl rfl rfl rfl rfl rfl
  have h7 := St.push_base arg17.view f_arg17 _ arg18.view f_arg18 _ arg19.view f_arg19 _ h6 B 1792 (by norm_num) _ _ _ _ (T 1792 inb_S2048x512_S256x512_1792_0 inb_S2048x64_S256x64_1792_0 inb_S2048x128_S256x128_1792_0)
    inb_S2048x128_S256x128_1792_0 inb_S4x2048x128_S1x256x128_0_1792_0 inb_S4x2048x128_S1x256x128_1_1792_0 inb_S4x2048x128_S1x256x128_2_1792_0 inb_S4x2048x128_S1x256x128_3_1792_0 _ _ _ _ _ _ rfl rfl rfl rfl rfl rfl
  have h8 := h7.congr (n' := fun _ => N + 512) (by intro r hr; split_ifs <;> first | rfl | omega)
  unfold trip_k0_t1
  exact h8

end Cert.KernelIdeal.Gen
-- ==== Proof.Masked.lean ====
module

public import proofs.«01_k».proof.Proof.Trip

@[expose] public section

set_option maxRecDepth 16384
set_option maxHeartbeats 4000000

noncomputable section

namespace Cert.KernelIdeal.Gen

open Idealize.ShloMosaic Idealize.ShloMosaic.TcCoe Idealize.SL Idealize.SL.Sem Cert.MlaPrompt

/-- The last step over the keys, masked, advances every row by the step's keys. -/
theorem masked_run (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (S W : ℕ → ℕ → EReal) (N : ℕ)
    (B : St S W (fun _ => N) (arg17.view.read (Elt Ideal) (arg17.view.writes (Elt Ideal) arg17.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) (Scf.trips (k0_t1_loop i).lb (k0_t1_loop i).ub (k0_t1_loop i).st)).1 ++ (runLive.sl.H17_1 (F := Ideal)))))
      (arg18.view.read (Elt Ideal) (arg18.view.writes (Elt Ideal) arg18.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) (Scf.trips (k0_t1_loop i).lb (k0_t1_loop i).ub (k0_t1_loop i).st)).2.1 ++ (runLive.sl.H18_1 (F := Ideal)))))
      (arg19.view.read (Elt Ideal) (arg19.view.writes (Elt Ideal) arg19.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) (Scf.trips (k0_t1_loop i).lb (k0_t1_loop i).ub (k0_t1_loop i).st)).2.2 ++ (runLive.sl.H19_1 (F := Ideal))))))
    (T : ∀ (r0 : ℕ) (inb14 : ∀ a, (![r0, 0] : Fin 2 → ℕ) a + S256x512.size a ≤ S2048x512.size a) (inb15 : ∀ a, (![r0, 0] : Fin 2 → ℕ) a + S256x64.size a ≤ S2048x64.size a) (inb16 : ∀ a, (![r0, 0] : Fin 2 → ℕ) a + S256x128.size a ≤ S2048x128.size a),
      TileIn S W r0 N (tMask (runLive.sl.v83 i) (Scalar.muli (BitVec.ofNat 32 (i 1).val) 128#32) (BitVec.ofNat 32 r0) (tU (runLive.sl.v87 (F := Ideal) i arg6 X6) (runLive.sl.v90 (F := Ideal) i arg8 X8) (runLive.sl.v93 (F := Ideal) i arg7 X7)
        (View.readCov arg14.view (runLive.sl.H14_1 (F := Ideal) arg3 X3) (Rect.unit (s := S2048x512) ![r0, 0] S256x512.size inb14).toLoadRect)
        (View.readCov arg15.view (runLive.sl.H15_1 (F := Ideal) arg4 arg5 X4 X5) (Rect.unit (s := S2048x64) ![r0, 0] S256x64.size inb15).toLoadRect)))
        (View.readCov arg16.view (runLive.sl.H16_1 (F := Ideal) arg4 X4) (Rect.unit (s := S2048x128) ![r0, 0] S256x128.size inb16).toLoadRect) (runLive.sl.v93 (F := Ideal) i arg7 X7) (runLive.sl.v87 (F := Ideal) i arg6 X6)) :
    St S W (fun _ => N + 512) (arg17.view.read (Elt Ideal) (arg17.view.writes (Elt Ideal) arg17.view.junk (runLive.sl.H17_8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8)))
      (arg18.view.read (Elt Ideal) (arg18.view.writes (Elt Ideal) arg18.view.junk (runLive.sl.H18_8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8)))
      (arg19.view.read (Elt Ideal) (arg19.view.writes (Elt Ideal) arg19.view.junk (runLive.sl.H19_32 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8))) := by
  have h0 := St.push_here arg17.view arg17.view.junk _ arg18.view arg18.view.junk _ arg19.view arg19.view.junk _ B 0 (by norm_num) (by intro r h1 h2; rfl) _ _ _ _ (T 0 inb_S2048x512_S256x512_0_0 inb_S2048x64_S256x64_0_0 inb_S2048x128_S256x128_0_0)
    inb_S2048x128_S256x128_0_0 inb_S4x2048x128_S1x256x128_0_0_0 inb_S4x2048x128_S1x256x128_1_0_0 inb_S4x2048x128_S1x256x128_2_0_0 inb_S4x2048x128_S1x256x128_3_0_0 _ _ _ _ _ _ rfl rfl rfl rfl rfl rfl
  have h1 := St.push_here arg17.view arg17.view.junk _ arg18.view arg18.view.junk _ arg19.view arg19.view.junk _ h0 256 (by norm_num) (by intro r h1 h2; split_ifs <;> first | rfl | omega) _ _ _ _ (T 256 inb_S2048x512_S256x512_256_0 inb_S2048x64_S256x64_256_0 inb_S2048x128_S256x128_256_0)
    inb_S2048x128_S256x128_256_0 inb_S4x2048x128_S1x256x128_0_256_0 inb_S4x2048x128_S1x256x128_1_256_0 inb_S4x2048x128_S1x256x128_2_256_0 inb_S4x2048x128_S1x256x128_3_256_0 _ _ _ _ _ _ rfl rfl rfl rfl rfl rfl
  have h2 := St.push_here arg17.view arg17.view.junk _ arg18.view arg18.view.junk _ arg19.view arg19.view.junk _ h1 512 (by norm_num) (by intro r h1 h2; split_ifs <;> first | rfl | omega) _ _ _ _ (T 512 inb_S2048x512_S256x512_512_0 inb_S2048x64_S256x64_512_0 inb_S2048x128_S256x128_512_0)
    inb_S2048x128_S256x128_512_0 inb_S4x2048x128_S1x256x128_0_512_0 inb_S4x2048x128_S1x256x128_1_512_0 inb_S4x2048x128_S1x256x128_2_512_0 inb_S4x2048x128_S1x256x128_3_512_0 _ _ _ _ _ _ rfl rfl rfl rfl rfl rfl
  have h3 := St.push_here arg17.view arg17.view.junk _ arg18.view arg18.view.junk _ arg19.view arg19.view.junk _ h2 768 (by norm_num) (by intro r h1 h2; split_ifs <;> first | rfl | omega) _ _ _ _ (T 768 inb_S2048x512_S256x512_768_0 inb_S2048x64_S256x64_768_0 inb_S2048x128_S256x128_768_0)
    inb_S2048x128_S256x128_768_0 inb_S4x2048x128_S1x256x128_0_768_0 inb_S4x2048x128_S1x256x128_1_768_0 inb_S4x2048x128_S1x256x128_2_768_0 inb_S4x2048x128_S1x256x128_3_768_0 _ _ _ _ _ _ rfl rfl rfl rfl rfl rfl
  have h4 := St.push_here arg17.view arg17.view.junk _ arg18.view arg18.view.junk _ arg19.view arg19.view.junk _ h3 1024 (by norm_num) (by intro r h1 h2; split_ifs <;> first | rfl | omega) _ _ _ _ (T 1024 inb_S2048x512_S256x512_1024_0 inb_S2048x64_S256x64_1024_0 inb_S2048x128_S256x128_1024_0)
    inb_S2048x128_S256x128_1024_0 inb_S4x2048x128_S1x256x128_0_1024_0 inb_S4x2048x128_S1x256x128_1_1024_0 inb_S4x2048x128_S1x256x128_2_1024_0 inb_S4x2048x128_S1x256x128_3_1024_0 _ _ _ _ _ _ rfl rfl rfl rfl rfl rfl
  have h5 := St.push_here arg17.view arg17.view.junk _ arg18.view arg18.view.junk _ arg19.view arg19.view.junk _ h4 1280 (by norm_num) (by intro r h1 h2; split_ifs <;> first | rfl | omega) _ _ _ _ (T 1280 inb_S2048x512_S256x512_1280_0 inb_S2048x64_S256x64_1280_0 inb_S2048x128_S256x128_1280_0)
    inb_S2048x128_S256x128_1280_0 inb_S4x2048x128_S1x256x128_0_1280_0 inb_S4x2048x128_S1x256x128_1_1280_0 inb_S4x2048x128_S1x256x128_2_1280_0 inb_S4x2048x128_S1x256x128_3_1280_0 _ _ _ _ _ _ rfl rfl rfl rfl rfl rfl
  have h6 := St.push_here arg17.view arg17.view.junk _ arg18.view arg18.view.junk _ arg19.view arg19.view.junk _ h5 1536 (by norm_num) (by intro r h1 h2; split_ifs <;> first | rfl | omega) _ _ _ _ (T 1536 inb_S2048x512_S256x512_1536_0 inb_S2048x64_S256x64_1536_0 inb_S2048x128_S256x128_1536_0)
    inb_S2048x128_S256x128_1536_0 inb_S4x2048x128_S1x256x128_0_1536_0 inb_S4x2048x128_S1x256x128_1_1536_0 inb_S4x2048x128_S1x256x128_2_1536_0 inb_S4x2048x128_S1x256x128_3_1536_0 _ _ _ _ _ _ rfl rfl rfl rfl rfl rfl
  have h7 := St.push_here arg17.view arg17.view.junk _ arg18.view arg18.view.junk _ arg19.view arg19.view.junk _ h6 1792 (by norm_num) (by intro r h1 h2; split_ifs <;> first | rfl | omega) _ _ _ _ (T 1792 inb_S2048x512_S256x512_1792_0 inb_S2048x64_S256x64_1792_0 inb_S2048x128_S256x128_1792_0)
    inb_S2048x128_S256x128_1792_0 inb_S4x2048x128_S1x256x128_0_1792_0 inb_S4x2048x128_S1x256x128_1_1792_0 inb_S4x2048x128_S1x256x128_2_1792_0 inb_S4x2048x128_S1x256x128_3_1792_0 _ _ _ _ _ _ rfl rfl rfl rfl rfl rfl
  have h8 := h7.congr (n' := fun _ => N + 512) (by intro r hr; split_ifs <;> first | rfl | omega)
  exact h8

end Cert.KernelIdeal.Gen
-- ==== Proof.Quant.lean ====
/-
  The quantiser's exponent on the extended reals: counting the powers of two up to a number gives the floor of its logarithm.
-/
module

public import Idealize.ShloMosaic.PureOps.Ideal

@[expose] public section

noncomputable section

namespace Cert.MlaPrompt

open Idealize.ShloMosaic

/-- The word of the bit pattern with exponent field `n`. -/
def stepWord (n : ℕ) : BitVec 32 := BitVec.ofNat 32 n <<< (23#32)

theorem stepWord_fields : ∀ n : Fin 256, (stepWord n.val).extractLsb' 31 1 = 0#1 ∧ ((stepWord n.val).extractLsb' 23 8).toNat = n.val
    ∧ ((stepWord n.val).extractLsb' 0 23).toNat = 0 := by decide +kernel

theorem ieee_normal (b : BitVec 32) (n : ℕ) (h1 : 1 ≤ n) (h2 : n ≤ 254) (ha : b.extractLsb' 31 1 = 0#1) (hb : (b.extractLsb' 23 8).toNat = n)
    (hc : (b.extractLsb' 0 23).toNat = 0) : Ideal.ieee 8 23 b = (((2 : ℝ) ^ ((n : ℤ) - 127) : ℝ) : EReal) := by
  have e1 : ¬ n = 2 ^ 8 - 1 := by omega
  have e2 : ¬ n = 0 := by omega
  have e3 : (0#1 == 1#1) = false := by decide
  simp only [Ideal.ieee, Nat.reduceAdd, ha, hb, hc, e1, e2, e3, if_false]
  refine congrArg _ ?_
  rw [show ((n : ℤ) - 127 : ℤ) = 23 + ((n : ℤ) - 127 - 23) by ring, zpow_add₀ (by norm_num : (2 : ℝ) ≠ 0)]
  norm_num

theorem stepWord_normal (n : ℕ) (h1 : 1 ≤ n) (h2 : n ≤ 254) : Ideal.ofBits .f32 (stepWord n) = (((2 : ℝ) ^ ((n : ℤ) - 127) : ℝ) : EReal) := by
  obtain ⟨ha, hb, hc⟩ := stepWord_fields ⟨n, by omega⟩
  exact ieee_normal (stepWord n) n h1 h2 ha hb hc

theorem stepWord_zero : Ideal.ofBits .f32 (stepWord 0) = 0 := by
  obtain ⟨ha, hb, hc⟩ := stepWord_fields 0
  show Ideal.ieee 8 23 (stepWord 0) = _
  unfold Ideal.ieee
  simp only [Fin.val_zero] at ha hb hc
  norm_num [ha, hb, hc]

theorem stepWord_last : Ideal.ofBits .f32 (stepWord 255) = ⊤ := by
  obtain ⟨ha, hb, hc⟩ := stepWord_fields 255
  show Ideal.ieee 8 23 (stepWord 255) = _
  unfold Ideal.ieee
  simp only [show ((255 : Fin 256)).val = 255 from rfl] at ha hb hc
  norm_num [ha, hb, hc]

/-- How many of the 256 exponents have their power of two at most `x`. -/
def countLe (x : EReal) : ℕ := (Finset.univ.filter fun j : Fin 256 => Ideal.ofBits .f32 (stepWord j.val) ≤ x).card

theorem card_below (T : ℕ) (hT : T ≤ 256) : (Finset.univ.filter fun j : Fin 256 => j.val < T).card = T := by
  rw [Finset.card_filter, Fin.sum_univ_eq_sum_range (fun j => if j < T then 1 else 0) 256, ← Finset.card_filter]
  have : (Finset.range 256).filter (fun j => j < T) = Finset.range T := by
    ext j; simp only [Finset.mem_filter, Finset.mem_range]; omega
  rw [this, Finset.card_range]

theorem pow_le_iff (k : ℤ) {x : ℝ} (hx : 0 < x) : (2 : ℝ) ^ k ≤ x ↔ k ≤ ⌊Real.log x * (Real.log 2)⁻¹⌋ := by
  have h2 : (0 : ℝ) < Real.log 2 := Real.log_pos (by norm_num)
  rw [Int.le_floor, ← Real.log_le_log_iff (zpow_pos (by norm_num) k) hx, Real.log_zpow, ← div_eq_mul_inv, le_div_iff₀ h2]

theorem countLe_real {x : ℝ} (hx : 0 < x) :
    countLe (x : EReal) = (max 0 (min 254 (⌊Real.log x * (Real.log 2)⁻¹⌋ + 127))).toNat + 1 := by
  unfold countLe
  rw [← card_below ((max 0 (min 254 (⌊Real.log x * (Real.log 2)⁻¹⌋ + 127))).toNat + 1) (by omega)]
  congr 1
  ext j
  simp only [Finset.mem_filter, Finset.mem_univ, true_and]
  have hj := j.isLt
  by_cases h0 : j.val = 0
  · rw [h0, stepWord_zero]
    exact ⟨fun _ => by omega, fun _ => EReal.coe_nonneg.mpr hx.le⟩
  by_cases h1 : j.val = 255
  · rw [h1, stepWord_last]
    exact ⟨fun h => absurd h (not_le.mpr (EReal.coe_lt_top x)), fun h => by omega⟩
  · rw [stepWord_normal _ (by omega) (by omega), EReal.coe_le_coe_iff, pow_le_iff _ hx]
    omega

theorem countLe_top : countLe ⊤ = 256 := by
  unfold countLe
  simp

/-- The exponent the count gives is the clipped floor of the logarithm, plus one. -/
theorem exponent_spec {x : EReal} (hx : 0 < x) : ∃ e : ℤ, -126 ≤ e ∧ e ≤ 126
    ∧ IntOp.minsi (BitVec.ofNat 32 (countLe x) - 127#32) 126#32 = BitVec.ofInt 32 e
    ∧ min ((126 : ℝ) : EReal) (max ((-126 : ℝ) : EReal) (Ideal.liftRound Int.floor (Ideal.log x * (((Real.log 2)⁻¹ : ℝ) : EReal)) + 1)) = ((e : ℝ) : EReal) := by
  have h2 : (0 : ℝ) < (Real.log 2)⁻¹ := inv_pos.mpr (Real.log_pos (by norm_num))
  have words : ∀ n : Fin 257, 1 ≤ n.val → IntOp.minsi (BitVec.ofNat 32 n.val - 127#32) 126#32 = BitVec.ofInt 32 (min ((n.val : ℤ) - 127) 126) := by
    decide +kernel
  induction x with
  | bot => exact absurd hx (by simp)
  | top =>
    refine ⟨126, by norm_num, le_refl _, by rw [countLe_top]; decide, ?_⟩
    rw [Ideal.log_top, EReal.top_mul_coe_of_pos h2, Ideal.liftRound_top, show (⊤ : EReal) + 1 = ⊤ from EReal.top_add_coe 1, max_eq_right le_top, min_eq_left le_top]
    norm_num
  | coe x =>
    have hx : 0 < x := EReal.coe_pos.mp hx
    set L := ⌊Real.log x * (Real.log 2)⁻¹⌋ with hL
    refine ⟨max (-126) (min 126 (L + 1)), le_max_left _ _, max_le (by norm_num) (min_le_left _ _), ?_, ?_⟩
    · have hc := countLe_real hx
      rw [← hL] at hc
      have := words ⟨countLe (x : EReal), by omega⟩ (by dsimp only; omega)
      dsimp only at this
      rw [this]
      congr 1
      omega
    · rw [Ideal.log_coe, if_neg (not_le.mpr hx), ← EReal.coe_mul, Ideal.liftRound_coe, ← hL, ← EReal.coe_one, ← EReal.coe_add,
        ← EReal.coe_strictMono.monotone.map_max, ← EReal.coe_strictMono.monotone.map_min]
      congr 1
      push_cast
      rw [max_min_distrib_left, max_eq_right (by norm_num : (-126 : ℝ) ≤ 126)]

/-- A power of two, spelled as the word with its exponent in the exponent field. -/
theorem word_pow2 (e : ℤ) (h1 : -126 ≤ e) (h2 : e ≤ 126) :
    Ideal.ofBits .f32 ((BitVec.ofInt 32 e + 127#32) <<< (23#32)) = Ideal.exp2 ((e : ℝ) : EReal) := by
  obtain ⟨n, hn⟩ : ∃ n : ℕ, (n : ℤ) = e + 127 := ⟨(e + 127).toNat, by omega⟩
  have hw : BitVec.ofInt 32 e + 127#32 = BitVec.ofNat 32 n := by
    obtain rfl : e = (n : ℤ) - 127 := by omega
    have : ∀ n : Fin 256, BitVec.ofInt 32 ((n.val : ℤ) - 127) + 127#32 = BitVec.ofNat 32 n.val := by decide +kernel
    exact this ⟨n, by omega⟩
  rw [hw]
  show Ideal.ofBits .f32 (stepWord n) = _
  rw [stepWord_normal n (by omega) (by omega), Ideal.exp2_coe, show (n : ℤ) - 127 = e by omega]
  congr 1
  exact (Real.rpow_intCast 2 e).symm

theorem word_neg (e : ℤ) (h1 : -126 ≤ e) (h2 : e ≤ 126) : 0#32 - BitVec.ofInt 32 e = BitVec.ofInt 32 (-e) := by
  rw [BitVec.zero_sub, BitVec.ofInt_neg]

end Cert.MlaPrompt

end
-- ==== Proof.Spec.lean ====
/-
  What the attention computes, as a formula of its inputs: masked scores, softmax weights, the latent output,
  its projection, and the quantised result.
-/
module

public import proofs.«01_k».proof.Proof.Score
public import proofs.«01_k».proof.Proof.Quant

@[expose] public section

noncomputable section

namespace Cert.MlaPrompt

open Idealize.ShloMosaic

/-- The inputs, by index: batch row, token, head, feature. -/
structure Inputs where
  q : Fin 2 → Fin 15360 → Fin 16 → Fin 512 → EReal
  qs : Fin 2 → Fin 15360 → Fin 16 → EReal
  qr : Fin 2 → Fin 15360 → Fin 16 → Fin 64 → EReal
  k : Fin 2 → Fin 15360 → Fin 512 → EReal
  cs : Fin 2 → Fin 15360 → EReal
  kr : Fin 2 → Fin 15360 → Fin 64 → EReal
  len : Fin 2 → BitVec 32
  w : Fin 16 → Fin 512 → Fin 128 → EReal
  ws : Fin 16 → Fin 128 → EReal

namespace Inputs
variable (I : Inputs) (b : Fin 2) (tok : Fin 15360) (h : Fin 16)

/-- The scales are positive reals. -/
structure Pos : Prop where
  qs : ∀ b tok h, ∃ a : ℝ, 0 < a ∧ I.qs b tok h = (a : EReal)
  cs : ∀ b j, ∃ a : ℝ, 0 < a ∧ I.cs b j = (a : EReal)

/-- The softmax scale. -/
def sm : ℝ := (Real.sqrt 192)⁻¹

/-- The score of a token's query against a key. -/
def score (j : Fin 15360) : EReal :=
  ((∑ d, I.q b tok h d * I.k b j d) * I.qs b tok h * I.cs b j + ∑ d, I.qr b tok h d * I.kr b j d) * (sm : EReal)

/-- The causal scores: later keys count as minus infinity. -/
def t (j : ℕ) : EReal := if j ≤ tok.val then I.score b tok h (Fin.ofNat 15360 j) else ⊥

/-- The log-sum-exp of a row. -/
def lse : EReal := MlaPrompt.lse (Finset.range 15360) (I.t b tok h)

/-- A key's value entry: code times scale. -/
def value (d : Fin 512) (j : ℕ) : EReal := I.cs b (Fin.ofNat 15360 j) * I.k b (Fin.ofNat 15360 j) d

/-- The latent output: weights against values. -/
def latent (d : Fin 512) : EReal :=
  ∑ j ∈ Finset.range 15360, (if I.lse b tok h = ⊥ then 0 else Ideal.exp (I.t b tok h j - I.lse b tok h)) * I.value b d j

/-- Whether the token lies within the prompt, as a one-bit word. -/
def valid : BitVec 1 := IntOp.cmpi .slt (BitVec.ofNat 32 tok.val) (I.len b)

/-- The projected output, zero past the prompt. -/
def out (l : Fin 128) : EReal :=
  Scalar.select (I.valid b tok) ((∑ d, I.latent b tok h d * I.w h d l) * I.ws h l) 0

/-- A row's largest magnitude. -/
def amax : EReal := Finset.univ.sup fun l => max (I.out b tok h l) (-I.out b tok h l)

/-- One over 448, as the nearest single-precision number. -/
def over448 : EReal := Ideal.ofBits .f32 0x3B124925#32

/-- The exponent of a row whose largest magnitude is `a`: the clipped floor of the logarithm of `a / 448`, plus one. -/
def expo (a : EReal) : EReal :=
  if a = 0 then 0 else min ((126 : ℝ) : EReal) (max ((-126 : ℝ) : EReal) (Ideal.liftRound Int.floor (Ideal.log (a * over448) * (log2e : EReal)) + 1))

/-- The row's scale. -/
def scale : EReal := Ideal.exp2 (expo (I.amax b tok h))

/-- The codes: the output over the scale, clipped. -/
def code (l : Fin 128) : EReal := min ((448 : ℝ) : EReal) (max ((-448 : ℝ) : EReal) (I.out b tok h l * Ideal.exp2 (0 - expo (I.amax b tok h))))

/-- The log-sum-exp, zero past the prompt. -/
def lseOut : EReal := Scalar.select (I.valid b tok) (I.lse b tok h) 0

end Inputs

end Cert.MlaPrompt
-- ==== Proof.Scores.lean ====
module

public import proofs.«01_k».proof.Proof.Masked
public import proofs.«01_k».proof.Proof.Spec

@[expose] public section

set_option maxRecDepth 16384
set_option maxHeartbeats 4000000

noncomputable section

namespace Cert.KernelIdeal.Gen

open Idealize.ShloMosaic Idealize.ShloMosaic.TcCoe Idealize.SL Idealize.SL.Sem Cert.MlaPrompt

/-! ## The blocks a run of the kernel reads -/

/-- Token `x` of the block that begins at `tok0`. -/
def tokAt (tok0 x : ℕ) : Fin 15360 := Fin.ofNat 15360 (tok0 + x)

/-- The blocks hold the inputs of batch row `b` and of the tokens from `tok0` on; the rotary keys come divided by the key scales. -/
structure BlockIn (I : Inputs) (b : Fin 2) (tok0 : ℕ) (x3 : Vec Ideal S1x128x16x512 .fp8e4m3) (x4 : Vec Ideal S1x128x16 .f32) (x5 : Vec Ideal S1x128x16x64 .bf16)
    (x6 : Vec Ideal S1x15360x512 .fp8e4m3) (x7 : Vec Ideal S1x1x15360 .f32) (x8 : Vec Ideal S1x15360x64 .bf16) : Prop where
  q : ∀ t h d, x3 (ix4 0 t h d) = I.q b (tokAt tok0 t.val) h d
  qs : ∀ t h, x4 (ix3 0 t h) = I.qs b (tokAt tok0 t.val) h
  qr : ∀ t h d, x5 (ix4 0 t h d) = I.qr b (tokAt tok0 t.val) h d
  k : ∀ j d, x6 (ix3 0 j d) = I.k b j d
  cs : ∀ j, x7 (ix3 0 0 j) = I.cs b j
  kr : ∀ j d, x8 (ix3 0 j d) = Ideal.div (I.kr b j d) (I.cs b j)

/-- Row `r`'s scores in base two: row `r` is head `r % 16` of token `r / 16`. -/
def rowScore (I : Inputs) (b : Fin 2) (tok0 r j : ℕ) : EReal := I.t b (tokAt tok0 (r / 16)) (Fin.ofNat 16 r) j * (log2e : EReal)

/-- The values, by feature. -/
def rowValue (I : Inputs) (b : Fin 2) (d j : ℕ) : EReal := I.value b (Fin.ofNat 512 d) j

theorem sm_log2e_val : (Named.named κ "sm_log2e" 0x3DD53B95#32 : Ideal .f32) = ((Inputs.sm * log2e : ℝ) : EReal) :=
  IdealRules.named_const.ideal_named_scalar _ _ _ _ rfl

/-- A scale column picked out of its lanes. -/
theorem pick (f : Fin 16 → EReal) (h : Fin 16) : ∑ x : Fin 16, Scalar.select (IntOp.cmpi .eq (BitVec.ofNat 32 h.val) (BitVec.ofNat 32 x.val)) (f x) (0 : EReal) = f h := by
  have e : ∀ h x : Fin 16, IntOp.cmpi .eq (BitVec.ofNat 32 h.val) (BitVec.ofNat 32 x.val) = if x = h then 1#1 else 0#1 := by decide +kernel
  rw [Finset.sum_eq_single h]
  · rw [e, if_pos rfl]; rfl
  · intro x _ hx; rw [e, if_neg hx]; rfl
  · intro hx; exact absurd (Finset.mem_univ h) hx

theorem pay217_apply (v : Vec Ideal S1x128x16x512 .fp8e4m3) (r : Fin 2048) (d : Fin 512) :
    k0_pay217 v (ix2 r d) = v (ix4 0 ⟨r.val / 16, by omega⟩ ⟨r.val % 16, by omega⟩ d) := by
  pointwise [k0_pay217]

theorem pay218_apply (v : Vec Ideal S1x128x16 .f32) (r : Fin 2048) : k0_pay218 v (ix2 r 0) = v (ix3 0 ⟨r.val / 16, by omega⟩ ⟨r.val % 16, by omega⟩) := by
  pointwise [k0_pay218]
  exact pick (fun x => v (ix3 0 ⟨r.val / 16, by omega⟩ x)) ⟨r.val % 16, by omega⟩

theorem pay219_apply (v : Vec Ideal S1x128x16 .f32) (r : Fin 2048) (l : Fin 128) :
    k0_pay219 v (ix2 r l) = v (ix3 0 ⟨r.val / 16, by omega⟩ ⟨r.val % 16, by omega⟩) * ((Inputs.sm * log2e : ℝ) : EReal) := by
  pointwise [k0_pay219]
  rw [pay218_apply, sm_log2e_val]

theorem pay220_apply (v : Vec Ideal S1x128x16 .f32) (w : Vec Ideal S1x128x16x64 .bf16) (r : Fin 2048) (d : Fin 64) :
    k0_pay220 v w (ix2 r d) = Ideal.div (w (ix4 0 ⟨r.val / 16, by omega⟩ ⟨r.val % 16, by omega⟩ d)) (v (ix3 0 ⟨r.val / 16, by omega⟩ ⟨r.val % 16, by omega⟩)) := by
  pointwise [k0_pay220]
  rw [pay218_apply]

/-! ## A tile's scores -/

theorem tile_score {I : Inputs} (hp : I.Pos) {b : Fin 2} {tok : ℕ → Fin 15360} {hd : ℕ → Fin 16} {n : ℕ}
    {k : FVec Ideal S512x512 .fp8e4m3} {kr : FVec Ideal S512x64 .bf16} {cs : FVec Ideal S1x512 .f32} {q : Vec Ideal S256x512 .fp8e4m3} {qr : Vec Ideal S256x64 .bf16} {aq : Vec Ideal S256x128 .f32}
    (hq : ∀ x d, q (ix2 x d) = I.q b (tok x.val) (hd x.val) d)
    (hqr : ∀ x d, qr (ix2 x d) = Ideal.div (I.qr b (tok x.val) (hd x.val) d) (I.qs b (tok x.val) (hd x.val)))
    (ha : ∀ x l, aq (ix2 x l) = I.qs b (tok x.val) (hd x.val) * ((Inputs.sm * log2e : ℝ) : EReal))
    (hk : ∀ j d, k (ix2 j d) = I.k b (Fin.ofNat 15360 (n + j.val)) d)
    (hc : ∀ j, cs (ix2 0 j) = I.cs b (Fin.ofNat 15360 (n + j.val)))
    (hkr : ∀ j d, kr (ix2 j d) = Ideal.div (I.kr b (Fin.ofNat 15360 (n + j.val)) d) (I.cs b (Fin.ofNat 15360 (n + j.val)))) (x : Fin 256) (j : Fin 512) :
    tU k kr cs q qr (ix2 x j) * aq (ix2 x 0) = I.score b (tok x.val) (hd x.val) (Fin.ofNat 15360 (n + j.val)) * (log2e : EReal) := by
  obtain ⟨a, ha0, ea⟩ := hp.qs b (tok x.val) (hd x.val)
  obtain ⟨c, hc0, ec⟩ := hp.cs b (Fin.ofNat 15360 (n + j.val))
  rw [tU_apply, ha, hc, ea, ec]
  simp only [hq, hqr, hk, hkr, ea, ec]
  rw [score_scaled _ _ _ a c Inputs.sm log2e ha0 hc0, Inputs.score, ea, ec]

theorem aq_pos {I : Inputs} (hp : I.Pos) (b : Fin 2) (tok : Fin 15360) (h : Fin 16) :
    ∃ a : ℝ, 0 < a ∧ I.qs b tok h * ((Inputs.sm * log2e : ℝ) : EReal) = (a : EReal) := by
  obtain ⟨a, ha0, ea⟩ := hp.qs b tok h
  refine ⟨a * (Inputs.sm * log2e), mul_pos ha0 (mul_pos (inv_pos.mpr (Real.sqrt_pos.mpr (by norm_num))) log2e_pos), ?_⟩
  rw [ea, ← EReal.coe_mul]

/-- A tile whose keys all precede its tokens. -/
theorem tile_open {I : Inputs} (hp : I.Pos) {b : Fin 2} {tok0 r0 n : ℕ} (hn : n + 512 ≤ 15360) (hr : r0 + 256 ≤ 2048) (ht : tok0 + 128 ≤ 15360) (hle : n + 511 ≤ tok0)
    {k : FVec Ideal S512x512 .fp8e4m3} {kr : FVec Ideal S512x64 .bf16} {cs : FVec Ideal S1x512 .f32} {q : Vec Ideal S256x512 .fp8e4m3} {qr : Vec Ideal S256x64 .bf16} {aq : Vec Ideal S256x128 .f32}
    (hq : ∀ x d, q (ix2 x d) = I.q b (tokAt tok0 ((r0 + x.val) / 16)) (Fin.ofNat 16 (r0 + x.val)) d)
    (hqr : ∀ x d, qr (ix2 x d) = Ideal.div (I.qr b (tokAt tok0 ((r0 + x.val) / 16)) (Fin.ofNat 16 (r0 + x.val)) d) (I.qs b (tokAt tok0 ((r0 + x.val) / 16)) (Fin.ofNat 16 (r0 + x.val))))
    (ha : ∀ x l, aq (ix2 x l) = I.qs b (tokAt tok0 ((r0 + x.val) / 16)) (Fin.ofNat 16 (r0 + x.val)) * ((Inputs.sm * log2e : ℝ) : EReal))
    (hk : ∀ j d, k (ix2 j d) = I.k b (Fin.ofNat 15360 (n + j.val)) d)
    (hc : ∀ j, cs (ix2 0 j) = I.cs b (Fin.ofNat 15360 (n + j.val)))
    (hkr : ∀ j d, kr (ix2 j d) = Ideal.div (I.kr b (Fin.ofNat 15360 (n + j.val)) d) (I.cs b (Fin.ofNat 15360 (n + j.val)))) :
    TileIn (rowScore I b tok0) (rowValue I b) r0 n (tU k kr cs q qr) aq cs k where
  a x := by
    obtain ⟨a, h0, e⟩ := aq_pos hp b (tokAt tok0 ((r0 + x.val) / 16)) (Fin.ofNat 16 (r0 + x.val))
    exact ⟨a, h0, fun l => by rw [ha, e]⟩
  u x j := by
    have h : n + j.val ≤ (tokAt tok0 ((r0 + x.val) / 16)).val := by
      show n + j.val ≤ (tok0 + (r0 + x.val) / 16) % 15360
      omega
    rw [tile_score hp (tok := fun x => tokAt tok0 ((r0 + x) / 16)) (hd := fun x => Fin.ofNat 16 (r0 + x)) hq hqr ha hk hc hkr, rowScore, Inputs.t, if_pos h]
  w j d := by
    rw [hk, hc, rowValue, Inputs.value]
    congr 2
    exact Fin.ext (Nat.mod_eq_of_lt d.isLt).symm

/-- A tile whose keys may pass its tokens, masked. -/
theorem tile_masked {I : Inputs} (hp : I.Pos) {b : Fin 2} {tok0 r0 n : ℕ} (hn : n + 512 ≤ 15360) (hr : r0 + 256 ≤ 2048) (ht : tok0 + 128 ≤ 15360)
    {k : FVec Ideal S512x512 .fp8e4m3} {kr : FVec Ideal S512x64 .bf16} {cs : FVec Ideal S1x512 .f32} {q : Vec Ideal S256x512 .fp8e4m3} {qr : Vec Ideal S256x64 .bf16} {aq : Vec Ideal S256x128 .f32}
    (hq : ∀ x d, q (ix2 x d) = I.q b (tokAt tok0 ((r0 + x.val) / 16)) (Fin.ofNat 16 (r0 + x.val)) d)
    (hqr : ∀ x d, qr (ix2 x d) = Ideal.div (I.qr b (tokAt tok0 ((r0 + x.val) / 16)) (Fin.ofNat 16 (r0 + x.val)) d) (I.qs b (tokAt tok0 ((r0 + x.val) / 16)) (Fin.ofNat 16 (r0 + x.val))))
    (ha : ∀ x l, aq (ix2 x l) = I.qs b (tokAt tok0 ((r0 + x.val) / 16)) (Fin.ofNat 16 (r0 + x.val)) * ((Inputs.sm * log2e : ℝ) : EReal))
    (hk : ∀ j d, k (ix2 j d) = I.k b (Fin.ofNat 15360 (n + j.val)) d)
    (hc : ∀ j, cs (ix2 0 j) = I.cs b (Fin.ofNat 15360 (n + j.val)))
    (hkr : ∀ j d, kr (ix2 j d) = Ideal.div (I.kr b (Fin.ofNat 15360 (n + j.val)) d) (I.cs b (Fin.ofNat 15360 (n + j.val)))) :
    TileIn (rowScore I b tok0) (rowValue I b) r0 n (tMask (BitVec.ofNat 32 n) (BitVec.ofNat 32 tok0) (BitVec.ofNat 32 r0) (tU k kr cs q qr)) aq cs k where
  a x := by
    obtain ⟨a, h0, e⟩ := aq_pos hp b (tokAt tok0 ((r0 + x.val) / 16)) (Fin.ofNat 16 (r0 + x.val))
    exact ⟨a, h0, fun l => by rw [ha, e]⟩
  u x j := by
    have h : (tokAt tok0 ((r0 + x.val) / 16)).val = tok0 + (r0 + x.val) / 16 := by
      show (tok0 + (r0 + x.val) / 16) % 15360 = _
      omega
    rw [tMask_apply n tok0 r0 (by omega) (by omega) hr, rowScore, Inputs.t, h]
    split_ifs with hm
    · rw [tile_score hp (tok := fun x => tokAt tok0 ((r0 + x) / 16)) (hd := fun x => Fin.ofNat 16 (r0 + x)) hq hqr ha hk hc hkr]
    · obtain ⟨a, h0, e⟩ := aq_pos hp b (tokAt tok0 ((r0 + x.val) / 16)) (Fin.ofNat 16 (r0 + x.val))
      rw [ha, e, bot_mul_real h0, bot_mul_real log2e_pos]
  w j d := by
    rw [hk, hc, rowValue, Inputs.value]
    congr 2
    exact Fin.ext (Nat.mod_eq_of_lt d.isLt).symm

/-! ## Reading whole stores and blocks of keys -/

theorem whole2 {sig : RefSig} {κ' : Kind} {sp : Space} {N M : ℕ} {e : EltTy} (v : View sig κ' sp ⟨2, ![N, M]⟩ e) (f : v.ty.Contents (Elt Ideal))
    (inb : ∀ a, (![0, 0] : Fin 2 → ℕ) a + (![N, M] : Fin 2 → ℕ) a ≤ (![N, M] : Fin 2 → ℕ) a) (p : Vec Ideal ⟨2, ![N, M]⟩ e) (r : Fin N) (l : Fin M) :
    v.read (Elt Ideal) (v.writes (Elt Ideal) f [⟨Rect.unit (s := ⟨2, ![N, M]⟩) ![0, 0] ![N, M] inb, p⟩]) (ix2 r l) = p (ix2 r l) :=
  View.read_writes_cons_unit_of_mem v f inb p [] (ix2 r l) (ix2 r l) rfl (fun a => by
    match a with
    | 0 => exact (Nat.zero_add _).symm
    | 1 => exact (Nat.zero_add _).symm)

end Cert.KernelIdeal.Gen
-- ==== Proof.Stores.lean ====
module

public import proofs.«01_k».proof.Proof.Scores

@[expose] public section

set_option maxRecDepth 16384
set_option maxHeartbeats 4000000

noncomputable section

namespace Cert.KernelIdeal.Gen

open Idealize.ShloMosaic Idealize.ShloMosaic.TcCoe Idealize.SL Idealize.SL.Sem Cert.MlaPrompt

variable {sig : RefSig} {κ' : Kind} {sp : Space}

theorem ofNat_key {n j : ℕ} (h : n + j < 15360) : (⟨n + j, h⟩ : Fin 15360) = Fin.ofNat 15360 (n + j) := Fin.ext (Nat.mod_eq_of_lt h).symm

/-- Loading a block of keys. -/
theorem keys {M : ℕ} {e : EltTy} (v : View sig κ' sp ⟨3, ![1, 15360, M]⟩ e) (f : v.ty.Contents (Elt Ideal)) (off : Fin 3 → ℕ) (n : ℕ) (ho : off = ![0, n, 0]) (hn : n + 512 ≤ 15360)
    (inb : ∀ a, off a + (![1, 512, M] : Fin 3 → ℕ) a ≤ (![1, 15360, M] : Fin 3 → ℕ) a) (j : Fin 512) (d : Fin M) :
    v.readAt (Elt Ideal) (Rect.unit (s := ⟨3, ![1, 15360, M]⟩) off ![1, 512, M] inb).toLoadRect f (ix3 0 j d) = v.read (Elt Ideal) f (ix3 0 (Fin.ofNat 15360 (n + j.val)) d) := by
  subst ho
  rw [load3 v f 0 n inb 0 j d (by norm_num) (by omega) d.isLt, ofNat_key]
  rfl

/-- Loading a block of key scales. -/
theorem keyScales {e : EltTy} (v : View sig κ' sp ⟨3, ![1, 1, 15360]⟩ e) (f : v.ty.Contents (Elt Ideal)) (off : Fin 3 → ℕ) (n : ℕ) (ho : off = ![0, 0, n]) (hn : n + 512 ≤ 15360)
    (inb : ∀ a, off a + (![1, 1, 512] : Fin 3 → ℕ) a ≤ (![1, 1, 15360] : Fin 3 → ℕ) a) (j : Fin 512) :
    v.readAt (Elt Ideal) (Rect.unit (s := ⟨3, ![1, 1, 15360]⟩) off ![1, 1, 512] inb).toLoadRect f (ix3 0 0 j) = v.read (Elt Ideal) f (ix3 0 0 (Fin.ofNat 15360 (n + j.val))) := by
  subst ho
  rw [← ofNat_key (by omega), View.readAt_apply]
  congr 1
  funext a
  match a with
  | 0 => rfl
  | 1 => rfl
  | 2 => exact Fin.ext (show n + 1 * j.val = n + j.val by omega)

/-- Loading a whole store. -/
theorem all3 {N M K : ℕ} {e : EltTy} (v : View sig κ' sp ⟨3, ![N, M, K]⟩ e) (f : v.ty.Contents (Elt Ideal))
    (inb : ∀ a, (![0, 0, 0] : Fin 3 → ℕ) a + (![N, M, K] : Fin 3 → ℕ) a ≤ (![N, M, K] : Fin 3 → ℕ) a) (x : Fin N) (y : Fin M) (z : Fin K) :
    v.readAt (Elt Ideal) (Rect.unit (s := ⟨3, ![N, M, K]⟩) ![0, 0, 0] ![N, M, K] inb).toLoadRect f (ix3 x y z) = v.read (Elt Ideal) f (ix3 x y z) := by
  rw [View.readAt_apply]
  congr 1
  funext a
  match a with
  | 0 => exact Fin.ext (show 0 + 1 * x.val = x.val by omega)
  | 1 => exact Fin.ext (show 0 + 1 * y.val = y.val by omega)
  | 2 => exact Fin.ext (show 0 + 1 * z.val = z.val by omega)

theorem all4 {N M K J : ℕ} {e : EltTy} (v : View sig κ' sp ⟨4, ![N, M, K, J]⟩ e) (f : v.ty.Contents (Elt Ideal))
    (inb : ∀ a, (![0, 0, 0, 0] : Fin 4 → ℕ) a + (![N, M, K, J] : Fin 4 → ℕ) a ≤ (![N, M, K, J] : Fin 4 → ℕ) a) (x : Fin N) (y : Fin M) (z : Fin K) (w : Fin J) :
    v.readAt (Elt Ideal) (Rect.unit (s := ⟨4, ![N, M, K, J]⟩) ![0, 0, 0, 0] ![N, M, K, J] inb).toLoadRect f (ix4 x y z w) = v.read (Elt Ideal) f (ix4 x y z w) := by
  rw [View.readAt_apply]
  congr 1
  funext a
  match a with
  | 0 => exact Fin.ext (show 0 + 1 * x.val = x.val by omega)
  | 1 => exact Fin.ext (show 0 + 1 * y.val = y.val by omega)
  | 2 => exact Fin.ext (show 0 + 1 * z.val = z.val by omega)
  | 3 => exact Fin.ext (show 0 + 1 * w.val = w.val by omega)

theorem off2_eq (i : grid0.Coords) (k : Fin (k0_t1_loop i).trips) (hk : k.val < 30) : k0_off2 i k = ![0, 512 * k.val, 0] ∧ k0_off3 i k = ![0, 512 * k.val, 0] ∧ k0_off4 i k = ![0, 0, 512 * k.val] := by
  have h : ∀ k : Fin 30, (Scalar.indexCast (Scalar.muli (Scalar.addi 0#32 (Scalar.muli (Scf.iv 0#32 1#32 k.val) 1#32)) 512#32)).toNat = 512 * k.val := by decide +kernel
  exact ⟨congrArg (fun n => ![0, n, 0]) (h ⟨k.val, hk⟩), congrArg (fun n => ![0, n, 0]) (h ⟨k.val, hk⟩), congrArg (fun n => ![0, 0, n]) (h ⟨k.val, hk⟩)⟩

theorem off8_at : ∀ t : Fin grid0.N, k0_off8 (grid0.coords t) 1 = 512 * (t.val % 120 / 4) := by decide +kernel

theorem off8_eq (t : Fin grid0.N) : k0_off8 (grid0.coords t) = ![0, 512 * (t.val % 120 / 4), 0] ∧ k0_off9 (grid0.coords t) = ![0, 512 * (t.val % 120 / 4), 0]
    ∧ k0_off10 (grid0.coords t) = ![0, 0, 512 * (t.val % 120 / 4)] :=
  ⟨congrArg (fun n => ![0, n, 0]) (off8_at t), congrArg (fun n => ![0, n, 0]) (off8_at t), congrArg (fun n => ![0, 0, n]) (off8_at t)⟩

theorem key_word : ∀ t : Fin grid0.N, runLive.sl.v83 (grid0.coords t) = BitVec.ofNat 32 (512 * (t.val % 120 / 4)) := by decide +kernel

theorem tok_word0 : ∀ t : Fin grid0.N, Scalar.muli (BitVec.ofNat 32 ((grid0.coords t) 1).val) 128#32 = BitVec.ofNat 32 (128 * (t.val % 120)) := by decide +kernel

theorem trips_eq : ∀ t : Fin grid0.N, (k0_t1_loop (grid0.coords t)).trips = t.val % 120 / 4 := by decide +kernel

theorem pay7_apply (v : Vec Ideal S1x512x512 .fp8e4m3) (j d : Fin 512) : k0_pay7 v (ix2 j d) = v (ix3 0 j d) := by
  pointwise [k0_pay7]
theorem pay8_apply (v : Vec Ideal S1x512x64 .bf16) (j : Fin 512) (d : Fin 64) : k0_pay8 v (ix2 j d) = v (ix3 0 j d) := by
  pointwise [k0_pay8]
theorem pay9_apply (v : Vec Ideal S1x1x512 .f32) (j : Fin 512) : k0_pay9 v (ix2 0 j) = v (ix3 0 0 j) := by
  pointwise [k0_pay9]

section Stores
variable {I : Inputs} {b : Fin 2} {tok0 : ℕ}

theorem store14 {x4 : Vec Ideal S1x128x16 .f32} {x5 : Vec Ideal S1x128x16x64 .bf16} {x6 : Vec Ideal S1x15360x512 .fp8e4m3} {x7 : Vec Ideal S1x1x15360 .f32} {x8 : Vec Ideal S1x15360x64 .bf16}
    (arg3 : Memref Cert.KernelIdeal.sig .tc .vmem S1x128x16x512 .fp8e4m3) (X3 : BufTy.Contents (Elt Ideal) arg3.view.ty) (arg14 : Memref Cert.KernelIdeal.sig .tc .vmem S2048x512 .fp8e4m3)
    (D : BlockIn I b tok0 (arg3.view.read (Elt Ideal) X3) x4 x5 x6 x7 x8) (r : Fin 2048) (d : Fin 512) :
    arg14.view.read (Elt Ideal) (arg14.view.writes (Elt Ideal) arg14.view.junk (runLive.sl.H14_1 (F := Ideal) arg3 X3)) (ix2 r d)
      = I.q b (tokAt tok0 (r.val / 16)) (Fin.ofNat 16 r.val) d := by
  unfold runLive.sl.H14_1
  refine (whole2 arg14.view _ _ _ r d).trans ?_
  rw [pay217_apply]
  exact (all4 arg3.view X3 _ _ _ _ _).trans (D.q _ _ _)

theorem store15 {x3 : Vec Ideal S1x128x16x512 .fp8e4m3} {x6 : Vec Ideal S1x15360x512 .fp8e4m3} {x7 : Vec Ideal S1x1x15360 .f32} {x8 : Vec Ideal S1x15360x64 .bf16}
    (arg4 : Memref Cert.KernelIdeal.sig .tc .vmem S1x128x16 .f32) (X4 : BufTy.Contents (Elt Ideal) arg4.view.ty) (arg5 : Memref Cert.KernelIdeal.sig .tc .vmem S1x128x16x64 .bf16) (X5 : BufTy.Contents (Elt Ideal) arg5.view.ty)
    (arg15 : Memref Cert.KernelIdeal.sig .tc .vmem S2048x64 .bf16)
    (D : BlockIn I b tok0 x3 (arg4.view.read (Elt Ideal) X4) (arg5.view.read (Elt Ideal) X5) x6 x7 x8) (r : Fin 2048) (d : Fin 64) :
    arg15.view.read (Elt Ideal) (arg15.view.writes (Elt Ideal) arg15.view.junk (runLive.sl.H15_1 (F := Ideal) arg4 arg5 X4 X5)) (ix2 r d)
      = Ideal.div (I.qr b (tokAt tok0 (r.val / 16)) (Fin.ofNat 16 r.val) d) (I.qs b (tokAt tok0 (r.val / 16)) (Fin.ofNat 16 r.val)) := by
  unfold runLive.sl.H15_1
  refine (whole2 arg15.view _ _ _ r d).trans ?_
  rw [pay220_apply]
  exact congrArg₂ Ideal.div ((all4 arg5.view X5 _ _ _ _ _).trans (D.qr _ _ _)) ((all3 arg4.view X4 _ _ _ _).trans (D.qs _ _))

theorem store16 {x3 : Vec Ideal S1x128x16x512 .fp8e4m3} {x5 : Vec Ideal S1x128x16x64 .bf16} {x6 : Vec Ideal S1x15360x512 .fp8e4m3} {x7 : Vec Ideal S1x1x15360 .f32} {x8 : Vec Ideal S1x15360x64 .bf16}
    (arg4 : Memref Cert.KernelIdeal.sig .tc .vmem S1x128x16 .f32) (X4 : BufTy.Contents (Elt Ideal) arg4.view.ty) (arg16 : Memref Cert.KernelIdeal.sig .tc .vmem S2048x128 .f32)
    (D : BlockIn I b tok0 x3 (arg4.view.read (Elt Ideal) X4) x5 x6 x7 x8) (r : Fin 2048) (l : Fin 128) :
    arg16.view.read (Elt Ideal) (arg16.view.writes (Elt Ideal) arg16.view.junk (runLive.sl.H16_1 (F := Ideal) arg4 X4)) (ix2 r l)
      = I.qs b (tokAt tok0 (r.val / 16)) (Fin.ofNat 16 r.val) * ((Inputs.sm * log2e : ℝ) : EReal) := by
  unfold runLive.sl.H16_1
  refine (whole2 arg16.view _ _ _ r l).trans ?_
  rw [pay219_apply]
  exact congrArg (· * _) ((all3 arg4.view X4 _ _ _ _).trans (D.qs _ _))

/-- A row's sums do not change past its token. -/
theorem rowScore_tail {r j : ℕ} (hr : r < 2048) (ht : tok0 + 128 ≤ 15360) (hj : tok0 + 128 ≤ j) : rowScore I b tok0 r j = ⊥ := by
  have h : ¬ j ≤ (tokAt tok0 (r / 16)).val := by
    show ¬ j ≤ (tok0 + r / 16) % 15360
    omega
  rw [rowScore, Inputs.t, if_neg h, bot_mul_real log2e_pos]

end Stores

end Cert.KernelIdeal.Gen
-- ==== Proof.Loop.lean ====
module

public import proofs.«01_k».proof.Proof.Stores

@[expose] public section

set_option maxRecDepth 16384
set_option maxHeartbeats 4000000

noncomputable section

namespace Cert.KernelIdeal.Gen

open Idealize.ShloMosaic Idealize.ShloMosaic.TcCoe Idealize.SL Idealize.SL.Sem Cert.MlaPrompt

/-- Before any step the running maxima are minus infinity and the sums nil. -/
theorem loop_zero (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8)) :
    St (rowScore I b (128 * (t.val % 120))) (rowValue I b) (fun _ => 0) (arg17.view.read (Elt Ideal) (arg17.view.writes (Elt Ideal) arg17.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) 0).1 ++ (runLive.sl.H17_1 (F := Ideal)))))
      (arg18.view.read (Elt Ideal) (arg18.view.writes (Elt Ideal) arg18.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) 0).2.1 ++ (runLive.sl.H18_1 (F := Ideal)))))
      (arg19.view.read (Elt Ideal) (arg19.view.writes (Elt Ideal) arg19.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) 0).2.2 ++ (runLive.sl.H19_1 (F := Ideal))))) where
  m r l := by
    refine (whole2 arg17.view _ _ _ r l).trans ?_
    refine Eq.trans ?_ (mask_bot.trans (show (⊥ : EReal) = runMax _ 0 from rfl))
    pointwise [runLive.sl.v48, runLive.sl.v45]
    try rfl
  l r l := by
    refine (whole2 arg18.view _ _ _ r l).trans ?_
    refine Eq.trans ?_ (show (0 : EReal) = runSum _ _ 0 by simp [runSum, wsum])
    pointwise [runLive.sl.v52, runLive.sl.v49, runLive.sl.cst_22]
    try rfl
  o c r l := by
    refine (View.read_writes_cons_unit_of_mem arg19.view _ _ _ [] (ix3 c r l) (ix3 c r l) rfl (fun a => by
      match a with
      | 0 => exact (Nat.zero_add _).symm
      | 1 => exact (Nat.zero_add _).symm
      | 2 => exact (Nat.zero_add _).symm)).trans ?_
    refine Eq.trans ?_ (show (0 : EReal) = runSum _ _ 0 by simp [runSum, wsum])
    pointwise [runLive.sl.v56, runLive.sl.v53, runLive.sl.cst_22]
    try rfl

/-- One open step. -/
theorem loop_succ (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8)) (k : Fin (k0_t1_loop i).trips) (hk : k.val < t.val % 120 / 4)
    (B : St (rowScore I b (128 * (t.val % 120))) (rowValue I b) (fun _ => 512 * k.val) (arg17.view.read (Elt Ideal) (arg17.view.writes (Elt Ideal) arg17.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) k.val).1 ++ (runLive.sl.H17_1 (F := Ideal)))))
      (arg18.view.read (Elt Ideal) (arg18.view.writes (Elt Ideal) arg18.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) k.val).2.1 ++ (runLive.sl.H18_1 (F := Ideal)))))
      (arg19.view.read (Elt Ideal) (arg19.view.writes (Elt Ideal) arg19.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) k.val).2.2 ++ (runLive.sl.H19_1 (F := Ideal)))))) :
    St (rowScore I b (128 * (t.val % 120))) (rowValue I b) (fun _ => 512 * (k.val + 1)) (arg17.view.read (Elt Ideal) (arg17.view.writes (Elt Ideal) arg17.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) (k.val + 1)).1 ++ (runLive.sl.H17_1 (F := Ideal)))))
      (arg18.view.read (Elt Ideal) (arg18.view.writes (Elt Ideal) arg18.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) (k.val + 1)).2.1 ++ (runLive.sl.H18_1 (F := Ideal)))))
      (arg19.view.read (Elt Ideal) (arg19.view.writes (Elt Ideal) arg19.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) (k.val + 1)).2.2 ++ (runLive.sl.H19_1 (F := Ideal))))) := by
  have hq : t.val % 120 < 120 := Nat.mod_lt _ (by norm_num)
  obtain ⟨o2, o3, o4⟩ := off2_eq i k (by omega)
  have hT := trip_run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) k _ _ _ (rowScore I b (128 * (t.val % 120))) (rowValue I b) (512 * k.val)
    ((View.writes_append (Val := Elt Ideal) arg17.view arg17.view.junk _ _) ▸ (View.writes_append (Val := Elt Ideal) arg18.view arg18.view.junk _ _) ▸ (View.writes_append (Val := Elt Ideal) arg19.view arg19.view.junk _ _) ▸ B)
    (fun r0 inb14 inb15 inb16 => by
      have hr : r0 + 256 ≤ 2048 := inb14 0
      refine tile_open hp (b := b) (tok0 := 128 * (t.val % 120)) (by omega) hr (by omega) (by omega) ?_ ?_ ?_ ?_ ?_ ?_
      · intro x d; exact (load2 arg14.view _ r0 inb14 x d (by omega) (by omega)).trans (store14 arg3 X3 arg14 D _ _)
      · intro x d; exact (load2 arg15.view _ r0 inb15 x d (by omega) (by omega)).trans (store15 arg4 X4 arg5 X5 arg15 D _ _)
      · intro x l; exact (load2 arg16.view _ r0 inb16 x l (by omega) (by omega)).trans (store16 arg4 X4 arg16 D _ _)
      · intro j d; exact (pay7_apply _ _ _).trans ((keys arg6.view X6 _ _ o2 (by omega) _ j d).trans (D.k _ _))
      · intro j; exact (pay9_apply _ _).trans ((keyScales arg7.view X7 _ _ o4 (by omega) _ j).trans (D.cs _))
      · intro j d; exact (pay8_apply _ _ _).trans ((keys arg8.view X8 _ _ o3 (by omega) _ j d).trans (D.kr _ _)))
  rw [pb_k0_t1_succ]
  simp only [List.append_assoc]
  simp only [View.writes_append]
  exact hT

/-- All the open steps. -/
theorem loop_all (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8)) (n : ℕ) (hn : n ≤ t.val % 120 / 4) :
    St (rowScore I b (128 * (t.val % 120))) (rowValue I b) (fun _ => 512 * n) (arg17.view.read (Elt Ideal) (arg17.view.writes (Elt Ideal) arg17.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) n).1 ++ (runLive.sl.H17_1 (F := Ideal)))))
      (arg18.view.read (Elt Ideal) (arg18.view.writes (Elt Ideal) arg18.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) n).2.1 ++ (runLive.sl.H18_1 (F := Ideal)))))
      (arg19.view.read (Elt Ideal) (arg19.view.writes (Elt Ideal) arg19.view.junk ((pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (0#32) (1#32) (0#32) (0#32) (0#32) X6 X7 X8 (arg14.view.writes (Elt Ideal) arg14.view.junk (runLive.sl.H14_1 (F := Ideal) arg3 X3)) (arg15.view.writes (Elt Ideal) arg15.view.junk (runLive.sl.H15_1 (F := Ideal) arg4 arg5 X4 X5)) (arg16.view.writes (Elt Ideal) arg16.view.junk (runLive.sl.H16_1 (F := Ideal) arg4 X4)) (arg17.view.writes (Elt Ideal) arg17.view.junk (runLive.sl.H17_1 (F := Ideal))) (arg18.view.writes (Elt Ideal) arg18.view.junk (runLive.sl.H18_1 (F := Ideal))) (arg19.view.writes (Elt Ideal) arg19.view.junk (runLive.sl.H19_1 (F := Ideal))) n).2.2 ++ (runLive.sl.H19_1 (F := Ideal))))) := by
  induction n with
  | zero => exact loop_zero 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 I hp b t hi D
  | succ n ih =>
    have hk : n < (k0_t1_loop i).trips := by rw [hi, trips_eq]; omega
    exact loop_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 I hp b t hi D ⟨n, hk⟩ (by show n < _; omega) (ih (by omega))

/-- After the last, masked step the rows hold the sums over every key. -/
theorem loop_run (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8)) :
    St (rowScore I b (128 * (t.val % 120))) (rowValue I b) (fun _ => 15360) (arg17.view.read (Elt Ideal) (arg17.view.writes (Elt Ideal) arg17.view.junk (runLive.sl.H17_8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8)))
      (arg18.view.read (Elt Ideal) (arg18.view.writes (Elt Ideal) arg18.view.junk (runLive.sl.H18_8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8)))
      (arg19.view.read (Elt Ideal) (arg19.view.writes (Elt Ideal) arg19.view.junk (runLive.sl.H19_32 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8))) := by
  have hq : t.val % 120 < 120 := Nat.mod_lt _ (by norm_num)
  have B := loop_all 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 I hp b t hi D (k0_t1_loop i).trips (by rw [hi, trips_eq])
  have o8 : k0_off8 i = ![0, 512 * (t.val % 120 / 4), 0] := by rw [hi]; exact (off8_eq t).1
  have o9 : k0_off9 i = ![0, 512 * (t.val % 120 / 4), 0] := by rw [hi]; exact (off8_eq t).2.1
  have o10 : k0_off10 i = ![0, 0, 512 * (t.val % 120 / 4)] := by rw [hi]; exact (off8_eq t).2.2
  have hn : 512 * (k0_t1_loop i).trips = 512 * (t.val % 120 / 4) := by rw [hi, trips_eq]
  have M := masked_run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 (rowScore I b (128 * (t.val % 120))) (rowValue I b) (512 * (k0_t1_loop i).trips) B
    (fun r0 inb14 inb15 inb16 => by
      have hr : r0 + 256 ≤ 2048 := inb14 0
      have e1 : runLive.sl.v83 i = BitVec.ofNat 32 (512 * (t.val % 120 / 4)) := by rw [hi]; exact key_word t
      have e2 : Scalar.muli (BitVec.ofNat 32 (i 1).val) 128#32 = BitVec.ofNat 32 (128 * (t.val % 120)) := by rw [hi]; exact tok_word0 t
      rw [e1, e2, hn]
      refine tile_masked hp (b := b) (tok0 := 128 * (t.val % 120)) (by omega) hr (by omega) ?_ ?_ ?_ ?_ ?_ ?_
      · intro x d; exact (load2 arg14.view _ r0 inb14 x d (by omega) (by omega)).trans (store14 arg3 X3 arg14 D _ _)
      · intro x d; exact (load2 arg15.view _ r0 inb15 x d (by omega) (by omega)).trans (store15 arg4 X4 arg5 X5 arg15 D _ _)
      · intro x l; exact (load2 arg16.view _ r0 inb16 x l (by omega) (by omega)).trans (store16 arg4 X4 arg16 D _ _)
      · intro j d; exact (pay7_apply _ _ _).trans ((keys arg6.view X6 _ _ o8 (by omega) _ j d).trans (D.k _ _))
      · intro j; exact (pay9_apply _ _).trans ((keyScales arg7.view X7 _ _ o10 (by omega) _ j).trans (D.cs _))
      · intro j d; exact (pay8_apply _ _ _).trans ((keys arg8.view X8 _ _ o9 (by omega) _ j d).trans (D.kr _ _)))
  have tail : ∀ r < 2048, ∀ j, 512 * (k0_t1_loop i).trips + 512 ≤ j → rowScore I b (128 * (t.val % 120)) r j = ⊥ := fun r hr j hj =>
    rowScore_tail hr (by omega) (by omega)
  exact ⟨fun r l => (M.m r l).trans (runMax_tail (n := 512 * (k0_t1_loop i).trips + 512) (N := 15360) _ (by omega) (tail r.val r.isLt)),
    fun r l => (M.l r l).trans (runSum_tail (n := 512 * (k0_t1_loop i).trips + 512) (N := 15360) _ _ (by omega) (tail r.val r.isLt)),
    fun c r l => (M.o c r l).trans (runSum_tail (n := 512 * (k0_t1_loop i).trips + 512) (N := 15360) _ _ (by omega) (tail r.val r.isLt))⟩

end Cert.KernelIdeal.Gen
-- ==== Proof.Head.lean ====
/-
  One head's share of the last part of the kernel: the projected output, its quantised codes and scale, and its log-sum-exp.
-/
module

public import proofs.«01_k».proof.Proof.Loop

@[expose] public section

set_option maxRecDepth 16384
set_option maxHeartbeats 4000000

noncomputable section

namespace Cert.KernelIdeal.Gen

open Idealize.ShloMosaic Idealize.ShloMosaic.TcCoe Idealize.SL Idealize.SL.Sem Idealize.SL.RA Cert.MlaPrompt

section Head
variable {F : FTy → Type} [FloatOps F] [Named F]

/-- The head's output: the normalised latent rows against its weights, zero past the prompt. -/
def hOut (valid : IVec S128x128 1) (l o0 o1 o2 o3 : Vec F S128x128 .f32) (w : Vec F S1x512x128 .fp8e4m3) (ws : Vec F S1x128 .f32) : FVec F S128x128 .f32 :=
  have r : FVec F S128x128 .f32 := divf (broadcast S128x128 (Scalar.ofBits .f32 0x3F800000#32)) l
  have x : FVec F S128x512 .bf16 := concatenate S128x512 1 [⟨S128x128, truncf .bf16 (mulf o0 r) bitsLt_bf16_f32⟩, ⟨S128x128, truncf .bf16 (mulf o1 r) bitsLt_bf16_f32⟩,
    ⟨S128x128, truncf .bf16 (mulf o2 r) bitsLt_bf16_f32⟩, ⟨S128x128, truncf .bf16 (mulf o3 r) bitsLt_bf16_f32⟩] concatenates_S128x128_S128x128_S128x128_S128x128_S128x512_d1
  have y : FVec F S128x128 .f32 := matmul dot_S128x512_S512x128_S128x128_1_0_0_1_n_n none x (extf .bf16 (shapeCast S512x128 w shapeCasts_S1x512x128_S512x128) bitsLt_fp8e4m3_bf16) (constant S128x128 .f32 0x00000000#32)
  select valid (mulf y (broadcastTo S128x128 ws broadcasts_S1x128_S128x128)) (broadcast S128x128 (Scalar.ofBits .f32 0x00000000#32))

/-- Each row's largest magnitude over 448. -/
def hMax (v : FVec F S128x128 .f32) : FVec F S128x1 .f32 :=
  mulf (shapeCast S128x1 (multiReduction .maximumf [1] S128 (absf v) 0xFF800000#32 reduces_S128x128_S128 (.inl rfl) rfl) shapeCasts_S128_S128x1) (broadcast S128x1 (Scalar.ofBits .f32 0x3B124925#32))

/-- The powers of two not above it, counted, less the exponent's offset. -/
def hCount (a : FVec F S128x1 .f32) : IVec S128x1 32 :=
  subi (shapeCast S128x1 (multiReductionI .add [1] S128 (select (cmpf .ole (bitcastToFloat .f32 (shli (iota .tc S128x256 32 [1] iota_S128x256_d1_w32) (broadcast S128x256 23#32))) (broadcastTo S128x256 a broadcasts_S128x1_S128x256))
    (broadcast S128x256 1#32) (broadcast S128x256 0#32)) 0#32 reduces_S128x256_S128 rfl) shapeCasts_S128_S128x1) (broadcast S128x1 127#32)

/-- A lane's word is the head's. -/
def hLane (h : BitVec 32) : IVec S128x128 1 := cmpi .eq (iota .tc S128x128 32 [1] iota_S128x128_d1_w32) (broadcast S128x128 h)

/-- The head's codes. -/
def hCode (v : FVec F S128x128 .f32) : FVec F S128x128 .f32 := k0_pay369 v (hMax v) (hCount (hMax v))

/-- The head's scale put in its lane. -/
def hScale (h : BitVec 32) (v acc : FVec F S128x128 .f32) : FVec F S128x128 .f32 :=
  select (hLane h) (broadcastTo S128x128 (shapeCast S128x1 (bitcastToFloat .f32 (shli (addi (k0_pay368 (hMax v) (hCount (hMax v))) (broadcast S128x1 127#32)) (broadcast S128x1 23#32))) shapeCasts_S128x1_S128x1) broadcasts_S128x1_S128x128) acc

/-- The head's log-sum-exp put in its lane. -/
def hLse (h : BitVec 32) (l m acc : FVec F S128x128 .f32) : FVec F S128x128 .f32 :=
  select (hLane h) (mulf (addf m (mulf (log l) (broadcast S128x128 (Named.named κ "log2e" 0x3FB8AA3B#32)))) (broadcast S128x128 (Named.named κ "ln2" 0x3F317218#32))) acc

end Head

end Cert.KernelIdeal.Gen
-- ==== Proof.Epilogue.lean ====
module

public import proofs.«01_k».proof.Proof.Head

@[expose] public section

set_option maxRecDepth 16384
set_option maxHeartbeats 4000000

noncomputable section

namespace Cert.KernelIdeal.Gen

open Idealize.ShloMosaic Idealize.ShloMosaic.TcCoe Idealize.SL Idealize.SL.Sem Idealize.SL.RA Cert.MlaPrompt

/-- The rows of one head: every sixteenth. -/
def headRect (h : ℕ) (hh : h < 16) : Rect S2048x128 :=
  ⟨⟨![h, 0], S128x128.size, ![16, 1], fun a => Or.inr (by
    match a with
    | 0 => show h + 16 * (128 - 1) < 2048; omega
    | 1 => show 0 + 1 * (128 - 1) < 128; omega)⟩, spos_16_1⟩

/-- A head's running sums. -/
def headSum (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (h : ℕ) (hh : h < 16) : Vec Ideal S128x128 .f32 := View.readCov arg18.view (runLive.sl.H18_8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8) (headRect h hh).toLoadRect

/-- A head's running maxima. -/
def headMax (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (h : ℕ) (hh : h < 16) : Vec Ideal S128x128 .f32 := View.readCov arg17.view (runLive.sl.H17_8 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8) (headRect h hh).toLoadRect

/-- A head's output. -/
def headOut (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (h : ℕ) (hh : h < 16) : FVec Ideal S128x128 .f32 :=
  hOut (runLive.sl.v947 i arg2 X2) (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 h hh)
    (View.readAt (Elt Ideal) ((arg19.slice (Rect.unit (s := S4x2048x128) ![0, 0, 0] S1x2048x128.size inb_S4x2048x128_S1x2048x128_0_0_0) (fun _ => rfl)).squeeze S2048x128 squeezes_S1x2048x128_S2048x128).view (headRect h hh).toLoadRect (arg19.view.writes (Elt Ideal) arg19.view.junk (runLive.sl.H19_32 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8)))
    (View.readAt (Elt Ideal) ((arg19.slice (Rect.unit (s := S4x2048x128) ![1, 0, 0] S1x2048x128.size inb_S4x2048x128_S1x2048x128_1_0_0) (fun _ => rfl)).squeeze S2048x128 squeezes_S1x2048x128_S2048x128).view (headRect h hh).toLoadRect (arg19.view.writes (Elt Ideal) arg19.view.junk (runLive.sl.H19_32 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8)))
    (View.readAt (Elt Ideal) ((arg19.slice (Rect.unit (s := S4x2048x128) ![2, 0, 0] S1x2048x128.size inb_S4x2048x128_S1x2048x128_2_0_0) (fun _ => rfl)).squeeze S2048x128 squeezes_S1x2048x128_S2048x128).view (headRect h hh).toLoadRect (arg19.view.writes (Elt Ideal) arg19.view.junk (runLive.sl.H19_32 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8)))
    (View.readAt (Elt Ideal) ((arg19.slice (Rect.unit (s := S4x2048x128) ![3, 0, 0] S1x2048x128.size inb_S4x2048x128_S1x2048x128_3_0_0) (fun _ => rfl)).squeeze S2048x128 squeezes_S1x2048x128_S2048x128).view (headRect h hh).toLoadRect (arg19.view.writes (Elt Ideal) arg19.view.junk (runLive.sl.H19_32 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8)))
    (View.readAt (Elt Ideal) arg9.view (Rect.unit (s := S16x512x128) ![h, 0, 0] S1x512x128.size (fun a => by
      match a with
      | 0 => show h + 1 ≤ 16; omega
      | 1 => exact le_refl 512
      | 2 => exact le_refl 128)).toLoadRect X9)
    (View.readAt (Elt Ideal) arg10.view (Rect.unit (s := S16x128) ![h, 0] S1x128.size (fun a => by
      match a with
      | 0 => show h + 1 ≤ 16; omega
      | 1 => exact le_refl 128)).toLoadRect X10)

/-- The codes a live run leaves. -/
theorem live_codes (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (hc1 : ¬ k0_cond1 i (lensWord i arg2 X2) = 1#1) (hc2 : k0_cond2 i (lensWord i arg2 X2) = 1#1) :
    (runLive (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).1 = [⟨Rect.unit (s := S1x128x16x128) ![0, 0, 0, 0] S1x128x16x128.size inb_S1x128x16x128_S1x128x16x128_0_0_0_0, k0_pay4 (View.readAt (Elt Ideal) arg20.view (Rect.unit (s := S2048x128) ![0, 0] S2048x128.size inb_S2048x128_S2048x128_0_0).toLoadRect (arg20.view.writes (Elt Ideal) X20
      [⟨headRect 15 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 15 (by norm_num))⟩,
      ⟨headRect 14 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 14 (by norm_num))⟩,
      ⟨headRect 13 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 13 (by norm_num))⟩,
      ⟨headRect 12 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 12 (by norm_num))⟩,
      ⟨headRect 11 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 11 (by norm_num))⟩,
      ⟨headRect 10 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 10 (by norm_num))⟩,
      ⟨headRect 9 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 9 (by norm_num))⟩,
      ⟨headRect 8 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 8 (by norm_num))⟩,
      ⟨headRect 7 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 7 (by norm_num))⟩,
      ⟨headRect 6 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 6 (by norm_num))⟩,
      ⟨headRect 5 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 5 (by norm_num))⟩,
      ⟨headRect 4 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 4 (by norm_num))⟩,
      ⟨headRect 3 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 3 (by norm_num))⟩,
      ⟨headRect 2 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 2 (by norm_num))⟩,
      ⟨headRect 1 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 1 (by norm_num))⟩,
      ⟨headRect 0 (by norm_num), hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 0 (by norm_num))⟩]))⟩] := by
  unfold runLive
  rfl

/-- The scales a live run leaves. -/
theorem live_scales (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (hc1 : ¬ k0_cond1 i (lensWord i arg2 X2) = 1#1) (hc2 : k0_cond2 i (lensWord i arg2 X2) = 1#1) :
    (runLive (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.1 = [⟨Rect.unit (s := S1x128x16) ![0, 0, 0] S1x128x16.size inb_S1x128x16_S1x128x16_0_0_0, shapeCast S1x128x16 (extractStridedSlice S128x16 ![0, 0] (hScale 15#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 15 (by norm_num))
      (hScale 14#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 14 (by norm_num))
      (hScale 13#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 13 (by norm_num))
      (hScale 12#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 12 (by norm_num))
      (hScale 11#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 11 (by norm_num))
      (hScale 10#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 10 (by norm_num))
      (hScale 9#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 9 (by norm_num))
      (hScale 8#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 8 (by norm_num))
      (hScale 7#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 7 (by norm_num))
      (hScale 6#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 6 (by norm_num))
      (hScale 5#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 5 (by norm_num))
      (hScale 4#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 4 (by norm_num))
      (hScale 3#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 3 (by norm_num))
      (hScale 2#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 2 (by norm_num))
      (hScale 1#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 1 (by norm_num))
      (hScale 0#32 (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 0 (by norm_num))
      (broadcast S128x128 (Scalar.ofBits (F := Ideal) .f32 0x3F800000#32)))))))))))))))))) slices_S128x128_o0_0_S128x16) shapeCasts_S128x16_S1x128x16⟩] := by
  unfold runLive
  rfl

/-- The log-sum-exps a live run leaves. -/
theorem live_lse (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (hc1 : ¬ k0_cond1 i (lensWord i arg2 X2) = 1#1) (hc2 : k0_cond2 i (lensWord i arg2 X2) = 1#1) :
    (runLive (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.2.1 = [⟨Rect.unit (s := S1x128x16) ![0, 0, 0] S1x128x16.size inb_S1x128x16_S1x128x16_0_0_0, shapeCast S1x128x16 (extractStridedSlice S128x16 ![0, 0] (select (runLive.sl.v947 i arg2 X2) (hLse 15#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 15 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 15 (by norm_num))
      (hLse 14#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 14 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 14 (by norm_num))
      (hLse 13#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 13 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 13 (by norm_num))
      (hLse 12#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 12 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 12 (by norm_num))
      (hLse 11#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 11 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 11 (by norm_num))
      (hLse 10#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 10 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 10 (by norm_num))
      (hLse 9#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 9 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 9 (by norm_num))
      (hLse 8#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 8 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 8 (by norm_num))
      (hLse 7#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 7 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 7 (by norm_num))
      (hLse 6#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 6 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 6 (by norm_num))
      (hLse 5#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 5 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 5 (by norm_num))
      (hLse 4#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 4 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 4 (by norm_num))
      (hLse 3#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 3 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 3 (by norm_num))
      (hLse 2#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 2 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 2 (by norm_num))
      (hLse 1#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 1 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 1 (by norm_num))
      (hLse 0#32 (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 0 (by norm_num)) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 0 (by norm_num))
      (broadcast S128x128 (Scalar.ofBits (F := Ideal) .f32 0x00000000#32)))))))))))))))))) (broadcast S128x128 (Scalar.ofBits (F := Ideal) .f32 0x00000000#32))) slices_S128x128_o0_0_S128x16) shapeCasts_S128x16_S1x128x16⟩] := by
  unfold runLive
  rfl

end Cert.KernelIdeal.Gen
-- ==== Proof.QuantWord.lean ====
/-
  The quantiser on words: the counted exponent and the power of two it spells, against the specification's.
-/
module

public import proofs.«01_k».proof.Proof.Spec
public import Idealize.ShloMosaic.Lib.IndicatorCount

@[expose] public section

set_option maxRecDepth 16384

noncomputable section

namespace Cert.MlaPrompt

open Idealize.ShloMosaic

theorem bits_126 : Ideal.ofBits .f32 1123811328#32 = ((126 : ℝ) : EReal) := by
  have h : (BitVec.extractLsb' 31 1 1123811328#32 = 1#1) = False := by decide
  show Ideal.ieee 8 23 1123811328#32 = _
  norm_num [Ideal.ieee, Nat.shiftRight_eq_div_pow, h]
theorem bits_m126 : Ideal.ofBits .f32 3271294976#32 = ((-126 : ℝ) : EReal) := by
  have h : (BitVec.extractLsb' 31 1 3271294976#32 = 1#1) = True := by decide
  show Ideal.ieee 8 23 3271294976#32 = _
  norm_num [Ideal.ieee, Nat.shiftRight_eq_div_pow, h]
theorem bits_448 : Ideal.ofBits .f32 1138753536#32 = ((448 : ℝ) : EReal) := by
  have h : (BitVec.extractLsb' 31 1 1138753536#32 = 1#1) = False := by decide
  show Ideal.ieee 8 23 1138753536#32 = _
  norm_num [Ideal.ieee, Nat.shiftRight_eq_div_pow, h]
theorem bits_m448 : Ideal.ofBits .f32 3286237184#32 = ((-448 : ℝ) : EReal) := by
  have h : (BitVec.extractLsb' 31 1 3286237184#32 = 1#1) = True := by decide
  show Ideal.ieee 8 23 3286237184#32 = _
  norm_num [Ideal.ieee, Nat.shiftRight_eq_div_pow, h]
theorem bits_bot : Ideal.ofBits .f32 4286578688#32 = (⊥ : EReal) := by
  have h : (BitVec.extractLsb' 31 1 4286578688#32 = 1#1) = True := by decide
  show Ideal.ieee 8 23 4286578688#32 = _
  norm_num [Ideal.ieee, Nat.shiftRight_eq_div_pow, h]
theorem over448_pos : ∃ c : ℝ, 0 < c ∧ Inputs.over448 = (c : EReal) := by
  refine ⟨9586981 * (2 : ℝ) ^ (-32 : ℤ), by positivity, ?_⟩
  have h : (BitVec.extractLsb' 31 1 991054117#32 = 1#1) = False := by decide
  show Ideal.ieee 8 23 991054117#32 = _
  norm_num [Ideal.ieee, Nat.shiftRight_eq_div_pow, h]

/-- The count of powers of two as a folded sum of words. -/
theorem fold_count (x : EReal) :
    Finset.fold IntOp.addi (0#32) (fun j : Fin 256 => if Ideal.ofBits .f32 (IntOp.shli ArithUnit.vector (BitVec.ofNat 32 j.val) 23#32) ≤ x then 1#32 else 0#32) Finset.univ
      = BitVec.ofNat 32 (countLe x) := by
  classical
  have h := IndicatorCount.fold_addi_setWidth_eq_card (w := 32) (fun j : Fin 256 => if Ideal.ofBits .f32 (stepWord j.val) ≤ x then 1#1 else 0#1) Finset.univ
  have e1 : (fun j : Fin 256 => (if Ideal.ofBits .f32 (stepWord j.val) ≤ x then 1#1 else 0#1 : BitVec 1).setWidth 32)
      = fun j : Fin 256 => if Ideal.ofBits .f32 (IntOp.shli ArithUnit.vector (BitVec.ofNat 32 j.val) 23#32) ≤ x then 1#32 else 0#32 := funext fun j => by
    show _ = if Ideal.ofBits .f32 (stepWord j.val) ≤ x then 1#32 else 0#32
    split_ifs <;> rfl
  rw [e1] at h
  rw [h, countLe]
  congr 2
  refine Finset.filter_congr fun j _ => ?_
  split_ifs with hj <;> simp [hj]

/-- The exponent word against the specified exponent. -/
theorem expo_word {a : EReal} (ha : 0 ≤ a) : ∃ e : ℤ, -126 ≤ e ∧ e ≤ 126
    ∧ (if a * Inputs.over448 = 0 then 0#32 else IntOp.minsi (IntOp.subi (BitVec.ofNat 32 (countLe (a * Inputs.over448))) 127#32) 126#32) = BitVec.ofInt 32 e
    ∧ Inputs.expo a = ((e : ℝ) : EReal) := by
  obtain ⟨c, hc, ec⟩ := over448_pos
  by_cases h0 : a = 0
  · subst h0
    refine ⟨0, by norm_num, by norm_num, ?_, ?_⟩
    · rw [zero_mul, if_pos rfl]; rfl
    · rw [Inputs.expo, if_pos rfl]; simp
  · have hx : 0 < a * Inputs.over448 := by
      rw [ec]
      exact EReal.mul_pos (lt_of_le_of_ne ha (Ne.symm h0)) (EReal.coe_pos.mpr hc)
    obtain ⟨e, h1, h2, h3, h4⟩ := exponent_spec hx
    refine ⟨e, h1, h2, ?_, ?_⟩
    · rw [if_neg hx.ne']; exact h3
    · rw [Inputs.expo, if_neg h0]; exact h4

theorem scale_word {a : EReal} (ha : 0 ≤ a) :
    Ideal.ofBits .f32 (IntOp.shli ArithUnit.vector (IntOp.addi (if a * Inputs.over448 = 0 then 0#32 else IntOp.minsi (IntOp.subi (BitVec.ofNat 32 (countLe (a * Inputs.over448))) 127#32) 126#32) 127#32) 23#32)
      = Ideal.exp2 (Inputs.expo a) := by
  obtain ⟨e, h1, h2, h3, h4⟩ := expo_word ha
  rw [h3, h4]
  exact word_pow2 e h1 h2

theorem inv_word {a : EReal} (ha : 0 ≤ a) :
    Ideal.ofBits .f32 (IntOp.shli ArithUnit.vector (IntOp.addi (IntOp.subi (0#32) (if a * Inputs.over448 = 0 then 0#32 else IntOp.minsi (IntOp.subi (BitVec.ofNat 32 (countLe (a * Inputs.over448))) 127#32) 126#32)) 127#32) 23#32)
      = Ideal.exp2 (0 - Inputs.expo a) := by
  obtain ⟨e, h1, h2, h3, h4⟩ := expo_word ha
  rw [h3, h4, show IntOp.subi (0#32) (BitVec.ofInt 32 e) = BitVec.ofInt 32 (-e) from word_neg e h1 h2]
  refine (word_pow2 (-e) (by omega) (by omega)).trans ?_
  rw [zero_sub, ← EReal.coe_neg]
  push_cast
  rfl

theorem amax_nonneg (I : Inputs) (b : Fin 2) (tok : Fin 15360) (h : Fin 16) : 0 ≤ I.amax b tok h := by
  refine le_trans ?_ (Finset.le_sup (Finset.mem_univ (0 : Fin 128)))
  rcases le_total 0 (I.out b tok h 0) with hx | hx
  · exact le_max_of_le_left hx
  · exact le_max_of_le_right (EReal.neg_nonneg.mpr hx)

end Cert.MlaPrompt
-- ==== Proof.HeadValue.lean ====
module

public import proofs.«01_k».proof.Proof.Epilogue
public import proofs.«01_k».proof.Proof.QuantWord

@[expose] public section

set_option maxRecDepth 16384
set_option maxHeartbeats 4000000

noncomputable section

namespace Cert.KernelIdeal.Gen

open Idealize.ShloMosaic Idealize.ShloMosaic.TcCoe Idealize.SL Idealize.SL.Sem Idealize.SL.RA Cert.MlaPrompt

/-! ## A head's values at an index -/

theorem hOut_run (valid : IVec S128x128 1) (l o0 o1 o2 o3 : Vec Ideal S128x128 .f32) (w : Vec Ideal S1x512x128 .fp8e4m3) (ws : Vec Ideal S1x128 .f32) (x y : Fin 128) (g : ℕ → EReal)
    (h0 : ∀ z : Fin 128, o0 (ix2 x z) * Ideal.div 1 (l (ix2 x z)) = g z.val)
    (h1 : ∀ z : Fin 128, o1 (ix2 x z) * Ideal.div 1 (l (ix2 x z)) = g (128 + z.val))
    (h2 : ∀ z : Fin 128, o2 (ix2 x z) * Ideal.div 1 (l (ix2 x z)) = g (256 + z.val))
    (h3 : ∀ z : Fin 128, o3 (ix2 x z) * Ideal.div 1 (l (ix2 x z)) = g (384 + z.val)) :
    hOut valid l o0 o1 o2 o3 w ws (ix2 x y) = Scalar.select (valid (ix2 x y)) ((∑ d : Fin 512, g d.val * w (ix3 0 d y)) * ws (ix2 0 y)) (0 : EReal) := by
  pointwise [hOut]
  refine congrArg (fun s => Scalar.select (valid (ix2 x y)) (s * ws (ix2 0 y)) (0 : EReal)) (Finset.sum_congr rfl fun d _ => congrArg (· * w (ix3 0 d y)) ?_)
  by_cases a1 : d.val < 128
  · exact (dif_pos a1).trans (h0 ⟨_, a1⟩)
  · refine (dif_neg a1).trans ?_
    by_cases a2 : d.val - 128 < 128
    · exact (dif_pos a2).trans ((h1 ⟨_, a2⟩).trans (congrArg g (by show 128 + (d.val - 128) = d.val; omega)))
    · refine (dif_neg a2).trans ?_
      by_cases a3 : d.val - 128 - 128 < 128
      · exact (dif_pos a3).trans ((h2 ⟨_, a3⟩).trans (congrArg g (by show 256 + (d.val - 128 - 128) = d.val; omega)))
      · exact (dif_neg a3).trans ((h3 ⟨d.val - 128 - 128 - 128, by omega⟩).trans (congrArg g (by show 384 + (d.val - 128 - 128 - 128) = d.val; omega)))

/-- A row's largest magnitude. -/
def rowMax (v : FVec Ideal S128x128 .f32) (x : Fin 128) : EReal := Finset.univ.sup fun l : Fin 128 => max (v (ix2 x l)) (-(v (ix2 x l)))

theorem hMax_apply (v : FVec Ideal S128x128 .f32) (x : Fin 128) : hMax v (ix2 x 0) = rowMax v x * Inputs.over448 := by
  pointwise [hMax]
  rfl

theorem hCount_apply (a : FVec Ideal S128x1 .f32) (x : Fin 128) : hCount a (ix2 x 0) = IntOp.subi (BitVec.ofNat 32 (countLe (a (ix2 x 0)))) 127#32 := by
  pointwise [hCount]
  exact congrArg (fun w => IntOp.subi w 127#32) (fold_count _)

theorem hCode_apply (v : FVec Ideal S128x128 .f32) (x y : Fin 128) (h : 0 ≤ rowMax v x) :
    hCode v (ix2 x y) = min ((448 : ℝ) : EReal) (max ((-448 : ℝ) : EReal) (v (ix2 x y) * Ideal.exp2 (0 - Inputs.expo (rowMax v x)))) := by
  pointwise [hCode, k0_pay369, k0_pay368]
  rw [hCount_apply, hMax_apply, inv_word h, bits_448, bits_m448]

theorem lane_select {α : Type} (h : ℕ) (hh : h < 16) (y : Fin 128) (a b : α) : Scalar.select (IntOp.cmpi .eq (BitVec.ofNat 32 y.val) (BitVec.ofNat 32 h)) a b = if y.val = h then a else b := by
  have e : ∀ (y : Fin 128) (h : Fin 16), IntOp.cmpi .eq (BitVec.ofNat 32 y.val) (BitVec.ofNat 32 h.val) = if y.val = h.val then 1#1 else 0#1 := by decide +kernel
  rw [e y ⟨h, hh⟩]
  dsimp only
  split_ifs <;> rfl

theorem hScale_apply (h : ℕ) (hh : h < 16) (v acc : FVec Ideal S128x128 .f32) (x y : Fin 128) (hv : 0 ≤ rowMax v x) :
    hScale (BitVec.ofNat 32 h) v acc (ix2 x y) = if y.val = h then Ideal.exp2 (Inputs.expo (rowMax v x)) else acc (ix2 x y) := by
  pointwise [hScale, hLane, k0_pay368]
  rw [hCount_apply, hMax_apply, scale_word hv, lane_select h hh]

theorem log2e_val : (Named.named κ "log2e" 0x3FB8AA3B#32 : Ideal .f32) = (log2e : EReal) :=
  IdealRules.named_const.ideal_named_scalar _ _ _ _ rfl
theorem ln2_val : (Named.named κ "ln2" 0x3F317218#32 : Ideal .f32) = ((Real.log 2 : ℝ) : EReal) :=
  IdealRules.named_const.ideal_named_scalar _ _ _ _ rfl

theorem hLse_apply (h : ℕ) (hh : h < 16) (l m acc : FVec Ideal S128x128 .f32) (x y : Fin 128) :
    hLse (BitVec.ofNat 32 h) l m acc (ix2 x y) = if y.val = h then (m (ix2 x y) + Ideal.log (l (ix2 x y)) * (log2e : EReal)) * ((Real.log 2 : ℝ) : EReal) else acc (ix2 x y) := by
  pointwise [hLse, hLane]
  rw [lane_select h hh, log2e_val, ln2_val]

/-! ## Strided rows -/

theorem head_load {sig : RefSig} {κ' : Kind} {sp : Space} {e : EltTy} (v : View sig κ' sp S2048x128 e) (f : v.ty.Contents (Elt Ideal)) (h : ℕ) (hh : h < 16) (x l : Fin 128) :
    v.readAt (Elt Ideal) (headRect h hh).toLoadRect f (ix2 x l) = v.read (Elt Ideal) f (ix2 ⟨h + 16 * x.val, by omega⟩ l) := by
  refine congrArg (v.read (Elt Ideal) f) (funext fun a => ?_)
  match a with
  | 0 => rfl
  | 1 => exact Fin.ext (show 0 + 1 * l.val = l.val by omega)

theorem head_load3 (M : Memref sig .tc .vmem S4x2048x128 .f32) (f : M.view.ty.Contents (Elt Ideal)) (c : ℕ) (hc : c < 4)
    (inb : ∀ a, (![c, 0, 0] : Fin 3 → ℕ) a + S1x2048x128.size a ≤ S4x2048x128.size a) (hs : ∀ a, (Rect.unit (s := S4x2048x128) ![c, 0, 0] S1x2048x128.size inb).stride a = 1)
    (hq : (Rect.unit (s := S4x2048x128) ![c, 0, 0] S1x2048x128.size inb).shape.Squeezes S2048x128) (h : ℕ) (hh : h < 16) (x l : Fin 128) :
    View.readAt (Elt Ideal) ((M.slice (Rect.unit (s := S4x2048x128) ![c, 0, 0] S1x2048x128.size inb) hs).squeeze S2048x128 hq).view (headRect h hh).toLoadRect f (ix2 x l)
      = M.view.read (Elt Ideal) f (ix3 ⟨c, hc⟩ ⟨h + 16 * x.val, by omega⟩ l) := by
  have e : (headRect h hh).toLoadRect.idx (ix2 x l) = (ix2 ⟨h + 16 * x.val, by omega⟩ l : S2048x128.Idx) := by
    funext a
    match a with
    | 0 => rfl
    | 1 => exact Fin.ext (show 0 + 1 * l.val = l.val by omega)
  refine (congrArg (View.read (Elt Ideal) ((M.slice (Rect.unit (s := S4x2048x128) ![c, 0, 0] S1x2048x128.size inb) hs).squeeze S2048x128 hq).view f) e).trans ?_
  have hcast : S1x2048x128.ShapeCasts S2048x128 := by decide +kernel
  refine (congrFun (Memref.read_squeeze_slice M _ hs hq hcast f) _).trans ?_
  have p : ∀ z : Vec Ideal S1x2048x128 .f32, shapeCast S2048x128 z hcast (ix2 ⟨h + 16 * x.val, by omega⟩ l) = z (ix3 0 ⟨h + 16 * x.val, by omega⟩ l) := fun z => by
    pointwise []
  refine (p _).trans ?_
  refine (load3 M.view f c 0 inb 0 ⟨h + 16 * x.val, by omega⟩ l (by omega) (by show 0 + (h + 16 * x.val) < 2048; omega) l.isLt).trans ?_
  congr 2
  exact Fin.ext (Nat.zero_add _)

theorem whole3 {sig : RefSig} {κ' : Kind} {sp : Space} {N M K : ℕ} {e : EltTy} (v : View sig κ' sp ⟨3, ![N, M, K]⟩ e) (f : v.ty.Contents (Elt Ideal))
    (inb : ∀ a, (![0, 0, 0] : Fin 3 → ℕ) a + (![N, M, K] : Fin 3 → ℕ) a ≤ (![N, M, K] : Fin 3 → ℕ) a) (p : Vec Ideal ⟨3, ![N, M, K]⟩ e) (x : Fin N) (y : Fin M) (z : Fin K) :
    v.read (Elt Ideal) (v.writes (Elt Ideal) f [⟨Rect.unit (s := ⟨3, ![N, M, K]⟩) ![0, 0, 0] ![N, M, K] inb, p⟩]) (ix3 x y z) = p (ix3 x y z) :=
  View.read_writes_cons_unit_of_mem v f inb p [] (ix3 x y z) (ix3 x y z) rfl (fun a => by
    match a with
    | 0 => exact (Nat.zero_add _).symm
    | 1 => exact (Nat.zero_add _).symm
    | 2 => exact (Nat.zero_add _).symm)

theorem whole4 {sig : RefSig} {κ' : Kind} {sp : Space} {N M K J : ℕ} {e : EltTy} (v : View sig κ' sp ⟨4, ![N, M, K, J]⟩ e) (f : v.ty.Contents (Elt Ideal))
    (inb : ∀ a, (![0, 0, 0, 0] : Fin 4 → ℕ) a + (![N, M, K, J] : Fin 4 → ℕ) a ≤ (![N, M, K, J] : Fin 4 → ℕ) a) (p : Vec Ideal ⟨4, ![N, M, K, J]⟩ e) (x : Fin N) (y : Fin M) (z : Fin K) (w : Fin J) :
    v.read (Elt Ideal) (v.writes (Elt Ideal) f [⟨Rect.unit (s := ⟨4, ![N, M, K, J]⟩) ![0, 0, 0, 0] ![N, M, K, J] inb, p⟩]) (ix4 x y z w) = p (ix4 x y z w) :=
  View.read_writes_cons_unit_of_mem v f inb p [] (ix4 x y z w) (ix4 x y z w) rfl (fun a => by
    match a with
    | 0 => exact (Nat.zero_add _).symm
    | 1 => exact (Nat.zero_add _).symm
    | 2 => exact (Nat.zero_add _).symm
    | 3 => exact (Nat.zero_add _).symm)

/-- Sixteen choices by lane pick the lane's. -/
theorem sixteen (f : ℕ → EReal) (z : EReal) (y : ℕ) (hy : y < 16) :
    (if y = 15 then f 15 else if y = 14 then f 14 else if y = 13 then f 13 else if y = 12 then f 12 else if y = 11 then f 11 else if y = 10 then f 10 else if y = 9 then f 9 else if y = 8 then f 8
      else if y = 7 then f 7 else if y = 6 then f 6 else if y = 5 then f 5 else if y = 4 then f 4 else if y = 3 then f 3 else if y = 2 then f 2 else if y = 1 then f 1 else if y = 0 then f 0 else z) = f y := by
  interval_cases y <;> rfl

end Cert.KernelIdeal.Gen
-- ==== Proof.Outputs.lean ====
/-
  What a live run of the kernel body leaves in its three output blocks.
-/
module

public import proofs.«01_k».proof.Proof.HeadValue

@[expose] public section

set_option maxRecDepth 16384
set_option maxHeartbeats 4000000

noncomputable section

namespace Cert.KernelIdeal.Gen

open Idealize.ShloMosaic Idealize.ShloMosaic.TcCoe Idealize.SL Idealize.SL.Sem Idealize.SL.RA Cert.MlaPrompt

/-! ## A head's rows -/

theorem row_score (I : Inputs) (b : Fin 2) (tok0 h : ℕ) (hh : h < 16) (x : ℕ) :
    rowScore I b tok0 (h + 16 * x) = fun j => I.t b (tokAt tok0 x) ⟨h, hh⟩ j * (log2e : EReal) := by
  have e1 : (h + 16 * x) / 16 = x := by omega
  have e2 : Fin.ofNat 16 (h + 16 * x) = ⟨h, hh⟩ := Fin.ext (show (h + 16 * x) % 16 = h by omega)
  funext j
  unfold rowScore
  rw [e1, e2]

/-- The accumulator over the sum is the latent output. -/
theorem head_latent {I : Inputs} {b : Fin 2} {tok0 : ℕ} {g17 g18 : S2048x128.Idx → EReal} {g19 : S4x2048x128.Idx → EReal} (S : St (rowScore I b tok0) (rowValue I b) (fun _ => 15360) g17 g18 g19)
    (c : Fin 4) (h : ℕ) (hh : h < 16) (x z : Fin 128) :
    g19 (ix3 c ⟨h + 16 * x.val, by omega⟩ z) * Ideal.div 1 (g18 (ix2 ⟨h + 16 * x.val, by omega⟩ z)) = I.latent b (tokAt tok0 x.val) ⟨h, hh⟩ (Fin.ofNat 512 (128 * c.val + z.val)) := by
  rw [S.o, S.l]
  dsimp only
  rw [row_score I b tok0 h hh]
  exact output_eq (t := I.t b (tokAt tok0 x.val) ⟨h, hh⟩) (w := rowValue I b (128 * c.val + z.val)) (N := 15360)

/-- The maximum and the sum make the log-sum-exp. -/
theorem head_lse {I : Inputs} {b : Fin 2} {tok0 : ℕ} {g17 g18 : S2048x128.Idx → EReal} {g19 : S4x2048x128.Idx → EReal} (S : St (rowScore I b tok0) (rowValue I b) (fun _ => 15360) g17 g18 g19)
    (h : ℕ) (hh : h < 16) (x z : Fin 128) :
    (g17 (ix2 ⟨h + 16 * x.val, by omega⟩ z) + Ideal.log (g18 (ix2 ⟨h + 16 * x.val, by omega⟩ z)) * (log2e : EReal)) * ((Real.log 2 : ℝ) : EReal) = I.lse b (tokAt tok0 x.val) ⟨h, hh⟩ := by
  rw [S.m, S.l]
  dsimp only
  rw [row_score I b tok0 h hh]
  exact lse_eq (t := I.t b (tokAt tok0 x.val) ⟨h, hh⟩) (N := 15360)

theorem valid_apply (i : grid0.Coords) (arg2 : Memref sig .tc .smem S2 .i32) (X2 : BufTy.Contents (Elt Ideal) arg2.view.ty) (I : Inputs) (b : Fin 2) (t : Fin grid0.N) (hi : i = grid0.coords t)
    (Hlen : lensWord i arg2 X2 = I.len b) (x y : Fin 128) : runLive.sl.v947 i arg2 X2 (ix2 x y) = I.valid b (tokAt (128 * (t.val % 120)) x.val) := by
  have e : Scalar.muli (BitVec.ofNat 32 (i 1).val) 128#32 = BitVec.ofNat 32 (128 * (t.val % 120)) := by rw [hi]; exact tok_word0 t
  have hq : t.val % 120 < 120 := Nat.mod_lt _ (by norm_num)
  have s : BitVec.ofNat 32 (128 * (t.val % 120)) + BitVec.ofNat 32 x.val = BitVec.ofNat 32 (tokAt (128 * (t.val % 120)) x.val).val := by
    rw [← BitVec.ofNat_add]
    exact congrArg _ (show 128 * (t.val % 120) + x.val = (128 * (t.val % 120) + x.val) % 15360 by omega)
  pointwise [runLive.sl.v947, runLive.sl.v944, runLive.sl.v943, runLive.sl.v942, runLive.sl.v946]
  show IntOp.cmpi .slt (Scalar.muli (BitVec.ofNat 32 (i 1).val) 128#32 + BitVec.ofNat 32 x.val) (lensWord i arg2 X2) = _
  rw [e, s, Hlen]
  rfl

theorem headOut_apply (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8))
    (H9 : ∀ h d l, (arg9.view.read (Elt Ideal) X9) (ix3 h d l) = I.w h d l) (H10 : ∀ h l, (arg10.view.read (Elt Ideal) X10) (ix2 h l) = I.ws h l) (Hlen : lensWord i arg2 X2 = I.len b) (h : ℕ) (hh : h < 16) (x y : Fin 128) :
    headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 h hh (ix2 x y) = I.out b (tokAt (128 * (t.val % 120)) x.val) ⟨h, hh⟩ y := by
  have S := loop_run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 I hp b t hi D
  have hs : ∀ z : Fin 128, headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 h hh (ix2 x z) = _ := fun z => head_load arg18.view _ h hh x z
  unfold headOut
  refine (hOut_run _ _ _ _ _ _ _ _ x y (fun n => I.latent b (tokAt (128 * (t.val % 120)) x.val) ⟨h, hh⟩ (Fin.ofNat 512 n)) ?_ ?_ ?_ ?_).trans ?_
  · intro z; rw [hs z]
    exact (congrArg (· * _) (head_load3 arg19 _ 0 (by norm_num) _ _ _ h hh x z)).trans ((head_latent S 0 h hh x z).trans (congrArg (fun n => I.latent b (tokAt (128 * (t.val % 120)) x.val) ⟨h, hh⟩ (Fin.ofNat 512 n)) (Nat.zero_add _)))
  · intro z; rw [hs z]
    exact (congrArg (· * _) (head_load3 arg19 _ 1 (by norm_num) _ _ _ h hh x z)).trans (head_latent S 1 h hh x z)
  · intro z; rw [hs z]
    exact (congrArg (· * _) (head_load3 arg19 _ 2 (by norm_num) _ _ _ h hh x z)).trans (head_latent S 2 h hh x z)
  · intro z; rw [hs z]
    exact (congrArg (· * _) (head_load3 arg19 _ 3 (by norm_num) _ _ _ h hh x z)).trans (head_latent S 3 h hh x z)
  · have e1 : runLive.sl.v947 i arg2 X2 (ix2 x y) = I.valid b (tokAt (128 * (t.val % 120)) x.val) := valid_apply i arg2 X2 I b t hi Hlen x y
    rw [e1]
    have w9 : ∀ d : Fin 512, View.readAt (Elt Ideal) arg9.view (Rect.unit (s := S16x512x128) ![h, 0, 0] S1x512x128.size (fun a => by
        match a with
        | 0 => show h + 1 ≤ 16; omega
        | 1 => exact le_refl 512
        | 2 => exact le_refl 128)).toLoadRect X9 (ix3 0 d y) = I.w ⟨h, hh⟩ d y := fun d =>
      (load3 arg9.view X9 h 0 _ 0 d y (by show h + 0 < 16; omega) (by show 0 + d.val < 512; omega) y.isLt).trans
        ((congrArg (arg9.view.read (Elt Ideal) X9) (congrArg₂ (fun a e => ix3 a e y) (Fin.ext rfl) (Fin.ext (Nat.zero_add _)))).trans (H9 ⟨h, hh⟩ d y))
    have w10 : View.readAt (Elt Ideal) arg10.view (Rect.unit (s := S16x128) ![h, 0] S1x128.size (fun a => by
        match a with
        | 0 => show h + 1 ≤ 16; omega
        | 1 => exact le_refl 128)).toLoadRect X10 (ix2 0 y) = I.ws ⟨h, hh⟩ y :=
      (load2 arg10.view X10 h _ 0 y (by show h + 0 < 16; omega) y.isLt).trans (H10 ⟨h, hh⟩ y)
    unfold Inputs.out
    refine congrArg (fun s => Scalar.select (I.valid b (tokAt (128 * (t.val % 120)) x.val)) s (0 : EReal)) (congrArg₂ (· * ·) (Finset.sum_congr rfl fun d _ => ?_) w10)
    refine congrArg₂ (· * ·) (congrArg (I.latent b (tokAt (128 * (t.val % 120)) x.val) ⟨h, hh⟩) (Fin.ext (Nat.mod_eq_of_lt d.isLt))) (w9 d)

theorem rowMax_apply (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8))
    (H9 : ∀ h d l, (arg9.view.read (Elt Ideal) X9) (ix3 h d l) = I.w h d l) (H10 : ∀ h l, (arg10.view.read (Elt Ideal) X10) (ix2 h l) = I.ws h l) (Hlen : lensWord i arg2 X2 = I.len b) (h : ℕ) (hh : h < 16) (x : Fin 128) :
    rowMax (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 h hh) x = I.amax b (tokAt (128 * (t.val % 120)) x.val) ⟨h, hh⟩ := by
  unfold rowMax Inputs.amax
  refine Finset.sup_congr rfl fun l _ => ?_
  rw [headOut_apply 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 I hp b t hi D H9 H10 Hlen]

theorem head_code (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8))
    (H9 : ∀ h d l, (arg9.view.read (Elt Ideal) X9) (ix3 h d l) = I.w h d l) (H10 : ∀ h l, (arg10.view.read (Elt Ideal) X10) (ix2 h l) = I.ws h l) (Hlen : lensWord i arg2 X2 = I.len b) (h : ℕ) (hh : h < 16) (x y : Fin 128) :
    hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 h hh) (ix2 x y) = I.code b (tokAt (128 * (t.val % 120)) x.val) ⟨h, hh⟩ y := by
  have m := rowMax_apply 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 I hp b t hi D H9 H10 Hlen h hh x
  rw [hCode_apply _ _ _ (by rw [m]; exact amax_nonneg I b _ _), m, headOut_apply 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 I hp b t hi D H9 H10 Hlen]
  rfl

/-! ## The three blocks -/

theorem codes_apply (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (hc1 : ¬ k0_cond1 i (lensWord i arg2 X2) = 1#1) (hc2 : k0_cond2 i (lensWord i arg2 X2) = 1#1) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8))
    (H9 : ∀ h d l, (arg9.view.read (Elt Ideal) X9) (ix3 h d l) = I.w h d l) (H10 : ∀ h l, (arg10.view.read (Elt Ideal) X10) (ix2 h l) = I.ws h l) (Hlen : lensWord i arg2 X2 = I.len b) (x : Fin 128) (h : Fin 16) (y : Fin 128) :
    arg11.view.read (Elt Ideal) (arg11.view.writes (Elt Ideal) X11 (runLive (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).1) (ix4 0 x h y) = I.code b (tokAt (128 * (t.val % 120)) x.val) h y := by
  rw [live_codes 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2]
  refine (whole4 arg11.view X11 _ _ 0 x h y).trans ?_
  have p : ∀ v : Vec Ideal S2048x128 .f32, k0_pay4 v (ix4 0 x h y) = v (ix2 ⟨16 * x.val + h.val, by omega⟩ y) := fun v => by
    pointwise [k0_pay4]
    try (refine congrArg v (congrArg (fun r => ix2 r y) (Fin.ext ?_)); simp only []; omega)
  refine (p _).trans ?_
  refine (load2 arg20.view _ 0 _ ⟨16 * x.val + h.val, by omega⟩ y (by show 0 + (16 * x.val + h.val) < 2048; omega) y.isLt).trans ?_
  let f : Fin 16 → Σ r : Rect S2048x128, (r.shape.Idx → Elt Ideal .f32) := fun k => ⟨headRect k.val k.isLt, hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 k.val k.isLt)⟩
  refine (View.read_writes_apply_of_pieces (v := arg20.view) (f := X20) (fun j : S2048x128.Idx => I.code b (tokAt (128 * (t.val % 120)) ((j 0).val / 16)) (Fin.ofNat 16 (j 0).val) (Fin.ofNat 128 (j 1).val))
    (([15, 14, 13, 12, 11, 10, 9, 8, 7, 6, 5, 4, 3, 2, 1, 0] : List (Fin 16)).map f) ?_ (ix2 ⟨0 + (16 * x.val + h.val), by omega⟩ y) ?_).trans ?_
  · intro w hw z
    obtain ⟨k, -, rfl⟩ := List.mem_map.mp hw
    have hz : (z : S128x128.Idx) = ix2 (z 0) (z 1) := eq_ix2 (n0 := 128) (n1 := 128) z
    refine (congrArg (hCode (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 k.val k.isLt)) hz).trans ((head_code 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 I hp b t hi D H9 H10 Hlen k.val k.isLt (z 0) (z 1)).trans ?_)
    have z0 : (z 0).val < 128 := (z 0).isLt
    have z1 : (z 1).val < 128 := (z 1).isLt
    have e1 : (k.val + 16 * (z 0).val) / 16 = (z 0).val := by omega
    have e2 : Fin.ofNat 16 (k.val + 16 * (z 0).val) = k := Fin.ext (show (k.val + 16 * (z 0).val) % 16 = k.val by omega)
    have e3 : Fin.ofNat 128 (0 + 1 * (z 1).val) = z 1 := Fin.ext (show (0 + 1 * (z 1).val) % 128 = (z 1).val by omega)
    show _ = I.code b (tokAt (128 * (t.val % 120)) ((k.val + 16 * (z 0).val) / 16)) (Fin.ofNat 16 (k.val + 16 * (z 0).val)) (Fin.ofNat 128 (0 + 1 * (z 1).val))
    rw [e1, e2, e3]
  · refine ⟨f h, List.mem_map.mpr ⟨h, ?_, rfl⟩, ?_⟩
    · have all : ∀ h : Fin 16, h ∈ ([15, 14, 13, 12, 11, 10, 9, 8, 7, 6, 5, 4, 3, 2, 1, 0] : List (Fin 16)) := by decide +kernel
      exact all h
    · refine (LoadRect.mem_set _).mpr fun a => ?_
      match a with
      | 0 => exact ⟨x.val, x.isLt, show 0 + (16 * x.val + h.val) = h.val + 16 * x.val by omega⟩
      | 1 => exact ⟨y.val, y.isLt, show y.val = 0 + 1 * y.val by omega⟩
  · have e1 : (0 + (16 * x.val + h.val)) / 16 = x.val := by omega
    have e2 : Fin.ofNat 16 (0 + (16 * x.val + h.val)) = h := Fin.ext (show (0 + (16 * x.val + h.val)) % 16 = h.val by omega)
    have e3 : Fin.ofNat 128 y.val = y := Fin.ext (Nat.mod_eq_of_lt y.isLt)
    show I.code b (tokAt (128 * (t.val % 120)) ((0 + (16 * x.val + h.val)) / 16)) (Fin.ofNat 16 (0 + (16 * x.val + h.val))) (Fin.ofNat 128 y.val) = _
    rw [e1, e2, e3]

theorem scale_step (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8))
    (H9 : ∀ h d l, (arg9.view.read (Elt Ideal) X9) (ix3 h d l) = I.w h d l) (H10 : ∀ h l, (arg10.view.read (Elt Ideal) X10) (ix2 h l) = I.ws h l) (Hlen : lensWord i arg2 X2 = I.len b) (h : ℕ) (hh : h < 16) (acc : FVec Ideal S128x128 .f32) (x y : Fin 128) :
    hScale (BitVec.ofNat 32 h) (headOut 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 h hh) acc (ix2 x y) = if y.val = h then I.scale b (tokAt (128 * (t.val % 120)) x.val) (Fin.ofNat 16 h) else acc (ix2 x y) := by
  have m := rowMax_apply 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 I hp b t hi D H9 H10 Hlen h hh x
  rw [hScale_apply h hh _ _ _ _ (by rw [m]; exact amax_nonneg I b _ _), m]
  rw [show Fin.ofNat 16 h = ⟨h, hh⟩ from Fin.ext (Nat.mod_eq_of_lt hh)]
  rfl

theorem lse_step (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
   (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8)) (h : ℕ) (hh : h < 16) (acc : FVec Ideal S128x128 .f32) (x y : Fin 128) :
    hLse (BitVec.ofNat 32 h) (headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 h hh) (headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 h hh) acc (ix2 x y) = if y.val = h then I.lse b (tokAt (128 * (t.val % 120)) x.val) (Fin.ofNat 16 h) else acc (ix2 x y) := by
  have S := loop_run 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 I hp b t hi D
  rw [hLse_apply h hh]
  rw [show Fin.ofNat 16 h = ⟨h, hh⟩ from Fin.ext (Nat.mod_eq_of_lt hh), ← head_lse S h hh x y]
  have hs : headSum 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 h hh (ix2 x y) = _ := head_load arg18.view _ h hh x y
  have hm : headMax 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 h hh (ix2 x y) = _ := head_load arg17.view _ h hh x y
  rw [hs, hm]

theorem slice_apply (v : FVec Ideal S128x128 .f32) (x : Fin 128) (h : Fin 16) :
    shapeCast S1x128x16 (extractStridedSlice S128x16 ![0, 0] v slices_S128x128_o0_0_S128x16) shapeCasts_S128x16_S1x128x16 (ix3 0 x h) = v (ix2 x ⟨h.val, by omega⟩) := by
  pointwise []
  try rfl

theorem scales_apply (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (hc1 : ¬ k0_cond1 i (lensWord i arg2 X2) = 1#1) (hc2 : k0_cond2 i (lensWord i arg2 X2) = 1#1) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8))
    (H9 : ∀ h d l, (arg9.view.read (Elt Ideal) X9) (ix3 h d l) = I.w h d l) (H10 : ∀ h l, (arg10.view.read (Elt Ideal) X10) (ix2 h l) = I.ws h l) (Hlen : lensWord i arg2 X2 = I.len b) (x : Fin 128) (h : Fin 16) :
    arg12.view.read (Elt Ideal) (arg12.view.writes (Elt Ideal) X12 (runLive (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.1) (ix3 0 x h) = I.scale b (tokAt (128 * (t.val % 120)) x.val) h := by
  rw [live_scales 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2]
  refine (whole3 arg12.view X12 _ _ 0 x h).trans ((slice_apply _ x h).trans ?_)
  have st := scale_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 I hp b t hi D H9 H10 Hlen

  refine Eq.trans (b := if h.val = 15 then I.scale b (tokAt (128 * (t.val % 120)) x.val) (Fin.ofNat 16 15) else if h.val = 14 then I.scale b (tokAt (128 * (t.val % 120)) x.val) (Fin.ofNat 16 14) else if h.val = 13 then I.scale b (tokAt (128 * (t.val % 120)) x.val) (Fin.ofNat 16 13) else if h.val = 12 then I.scale b (tokAt (128 * (t.val % 120)) x.val) (Fin.ofNat 16 12) else if h.val = 11 then I.scale b (tokAt (128 * (t.val % 120)) x.val) (Fin.ofNat 16 11) else if h.val = 10 then I.scale b (tokAt (128 * (t.val % 120)) x.val) (Fin.ofNat 16 10) else if h.val = 9 then I.scale b (tokAt (128 * (t.val % 120)) x.val) (Fin.ofNat 16 9) else if h.val = 8 then I.scale b (tokAt (128 * (t.val % 120)) x.val) (Fin.ofNat 16 8) else if h.val = 7 then I.scale b (tokAt (128 * (t.val % 120)) x.val) (Fin.ofNat 16 7) else if h.val = 6 then I.scale b (tokAt (128 * (t.val % 120)) x.val) (Fin.ofNat 16 6) else if h.val = 5 then I.scale b (tokAt (128 * (t.val % 120)) x.val) (Fin.ofNat 16 5) else if h.val = 4 then I.scale b (tokAt (128 * (t.val % 120)) x.val) (Fin.ofNat 16 4) else if h.val = 3 then I.scale b (tokAt (128 * (t.val % 120)) x.val) (Fin.ofNat 16 3) else if h.val = 2 then I.scale b (tokAt (128 * (t.val % 120)) x.val) (Fin.ofNat 16 2) else if h.val = 1 then I.scale b (tokAt (128 * (t.val % 120)) x.val) (Fin.ofNat 16 1) else if h.val = 0 then I.scale b (tokAt (128 * (t.val % 120)) x.val) (Fin.ofNat 16 0) else (broadcast S128x128 (Scalar.ofBits (F := Ideal) .f32 0x3F800000#32)) (ix2 x ⟨h.val, by omega⟩)) ?_ ((sixteen (fun k => I.scale b (tokAt (128 * (t.val % 120)) x.val) (Fin.ofNat 16 k)) _ h.val h.isLt).trans ?_)
  · refine (st 15 (by norm_num) _ x _).trans (congrArg (ite (h.val = 15) (I.scale b (tokAt (128 * (t.val % 120)) x.val) (Fin.ofNat 16 15))) ?_)
    refine (st 14 (by norm_num) _ x _).trans (congrArg (ite (h.val = 14) (I.scale b (tokAt (128 * (t.val % 120)) x.val) (Fin.ofNat 16 14))) ?_)
    refine (st 13 (by norm_num) _ x _).trans (congrArg (ite (h.val = 13) (I.scale b (tokAt (128 * (t.val % 120)) x.val) (Fin.ofNat 16 13))) ?_)
    refine (st 12 (by norm_num) _ x _).trans (congrArg (ite (h.val = 12) (I.scale b (tokAt (128 * (t.val % 120)) x.val) (Fin.ofNat 16 12))) ?_)
    refine (st 11 (by norm_num) _ x _).trans (congrArg (ite (h.val = 11) (I.scale b (tokAt (128 * (t.val % 120)) x.val) (Fin.ofNat 16 11))) ?_)
    refine (st 10 (by norm_num) _ x _).trans (congrArg (ite (h.val = 10) (I.scale b (tokAt (128 * (t.val % 120)) x.val) (Fin.ofNat 16 10))) ?_)
    refine (st 9 (by norm_num) _ x _).trans (congrArg (ite (h.val = 9) (I.scale b (tokAt (128 * (t.val % 120)) x.val) (Fin.ofNat 16 9))) ?_)
    refine (st 8 (by norm_num) _ x _).trans (congrArg (ite (h.val = 8) (I.scale b (tokAt (128 * (t.val % 120)) x.val) (Fin.ofNat 16 8))) ?_)
    refine (st 7 (by norm_num) _ x _).trans (congrArg (ite (h.val = 7) (I.scale b (tokAt (128 * (t.val % 120)) x.val) (Fin.ofNat 16 7))) ?_)
    refine (st 6 (by norm_num) _ x _).trans (congrArg (ite (h.val = 6) (I.scale b (tokAt (128 * (t.val % 120)) x.val) (Fin.ofNat 16 6))) ?_)
    refine (st 5 (by norm_num) _ x _).trans (congrArg (ite (h.val = 5) (I.scale b (tokAt (128 * (t.val % 120)) x.val) (Fin.ofNat 16 5))) ?_)
    refine (st 4 (by norm_num) _ x _).trans (congrArg (ite (h.val = 4) (I.scale b (tokAt (128 * (t.val % 120)) x.val) (Fin.ofNat 16 4))) ?_)
    refine (st 3 (by norm_num) _ x _).trans (congrArg (ite (h.val = 3) (I.scale b (tokAt (128 * (t.val % 120)) x.val) (Fin.ofNat 16 3))) ?_)
    refine (st 2 (by norm_num) _ x _).trans (congrArg (ite (h.val = 2) (I.scale b (tokAt (128 * (t.val % 120)) x.val) (Fin.ofNat 16 2))) ?_)
    refine (st 1 (by norm_num) _ x _).trans (congrArg (ite (h.val = 1) (I.scale b (tokAt (128 * (t.val % 120)) x.val) (Fin.ofNat 16 1))) ?_)
    refine (st 0 (by norm_num) _ x _).trans (congrArg (ite (h.val = 0) (I.scale b (tokAt (128 * (t.val % 120)) x.val) (Fin.ofNat 16 0))) ?_)
    rfl
  · exact congrArg (I.scale b (tokAt (128 * (t.val % 120)) x.val)) (Fin.ext (Nat.mod_eq_of_lt h.isLt))

theorem lses_apply (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (hc1 : ¬ k0_cond1 i (lensWord i arg2 X2) = 1#1) (hc2 : k0_cond2 i (lensWord i arg2 X2) = 1#1) (I : Inputs) (hp : I.Pos) (b : Fin 2) (t : Fin grid0.N) (hi : i = grid0.coords t)
    (D : BlockIn I b (128 * (t.val % 120)) (arg3.view.read (Elt Ideal) X3) (arg4.view.read (Elt Ideal) X4) (arg5.view.read (Elt Ideal) X5) (arg6.view.read (Elt Ideal) X6) (arg7.view.read (Elt Ideal) X7) (arg8.view.read (Elt Ideal) X8))
    (H9 : ∀ h d l, (arg9.view.read (Elt Ideal) X9) (ix3 h d l) = I.w h d l) (H10 : ∀ h l, (arg10.view.read (Elt Ideal) X10) (ix2 h l) = I.ws h l) (Hlen : lensWord i arg2 X2 = I.len b) (x : Fin 128) (h : Fin 16) :
    arg13.view.read (Elt Ideal) (arg13.view.writes (Elt Ideal) X13 (runLive (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.2.1) (ix3 0 x h) = I.lseOut b (tokAt (128 * (t.val % 120)) x.val) h := by
  rw [live_lse 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2]
  refine (whole3 arg13.view X13 _ _ 0 x h).trans ((slice_apply _ x h).trans ?_)
  have e1 : runLive.sl.v947 i arg2 X2 (ix2 x ⟨h.val, by omega⟩) = I.valid b (tokAt (128 * (t.val % 120)) x.val) := valid_apply i arg2 X2 I b t hi Hlen x _
  have z0 : (broadcast S128x128 (Scalar.ofBits (F := Ideal) .f32 0x00000000#32)) (ix2 x ⟨h.val, by omega⟩) = (0 : EReal) := by pointwise []
  have st := lse_step 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X3 X4 X5 X6 X7 X8 I hp b t hi D
  unfold Inputs.lseOut
  show Scalar.select (runLive.sl.v947 i arg2 X2 (ix2 x ⟨h.val, by omega⟩)) _ ((broadcast S128x128 (Scalar.ofBits (F := Ideal) .f32 0x00000000#32)) (ix2 x ⟨h.val, by omega⟩)) = _
  rw [e1, z0]
  refine congrArg (fun s => Scalar.select (I.valid b (tokAt (128 * (t.val % 120)) x.val)) s (0 : EReal)) ?_
  refine Eq.trans (b := if h.val = 15 then I.lse b (tokAt (128 * (t.val % 120)) x.val) (Fin.ofNat 16 15) else if h.val = 14 then I.lse b (tokAt (128 * (t.val % 120)) x.val) (Fin.ofNat 16 14) else if h.val = 13 then I.lse b (tokAt (128 * (t.val % 120)) x.val) (Fin.ofNat 16 13) else if h.val = 12 then I.lse b (tokAt (128 * (t.val % 120)) x.val) (Fin.ofNat 16 12) else if h.val = 11 then I.lse b (tokAt (128 * (t.val % 120)) x.val) (Fin.ofNat 16 11) else if h.val = 10 then I.lse b (tokAt (128 * (t.val % 120)) x.val) (Fin.ofNat 16 10) else if h.val = 9 then I.lse b (tokAt (128 * (t.val % 120)) x.val) (Fin.ofNat 16 9) else if h.val = 8 then I.lse b (tokAt (128 * (t.val % 120)) x.val) (Fin.ofNat 16 8) else if h.val = 7 then I.lse b (tokAt (128 * (t.val % 120)) x.val) (Fin.ofNat 16 7) else if h.val = 6 then I.lse b (tokAt (128 * (t.val % 120)) x.val) (Fin.ofNat 16 6) else if h.val = 5 then I.lse b (tokAt (128 * (t.val % 120)) x.val) (Fin.ofNat 16 5) else if h.val = 4 then I.lse b (tokAt (128 * (t.val % 120)) x.val) (Fin.ofNat 16 4) else if h.val = 3 then I.lse b (tokAt (128 * (t.val % 120)) x.val) (Fin.ofNat 16 3) else if h.val = 2 then I.lse b (tokAt (128 * (t.val % 120)) x.val) (Fin.ofNat 16 2) else if h.val = 1 then I.lse b (tokAt (128 * (t.val % 120)) x.val) (Fin.ofNat 16 1) else if h.val = 0 then I.lse b (tokAt (128 * (t.val % 120)) x.val) (Fin.ofNat 16 0) else (broadcast S128x128 (Scalar.ofBits (F := Ideal) .f32 0x00000000#32)) (ix2 x ⟨h.val, by omega⟩)) ?_ ((sixteen (fun k => I.lse b (tokAt (128 * (t.val % 120)) x.val) (Fin.ofNat 16 k)) _ h.val h.isLt).trans ?_)
  · refine (st 15 (by norm_num) _ x _).trans (congrArg (ite (h.val = 15) (I.lse b (tokAt (128 * (t.val % 120)) x.val) (Fin.ofNat 16 15))) ?_)
    refine (st 14 (by norm_num) _ x _).trans (congrArg (ite (h.val = 14) (I.lse b (tokAt (128 * (t.val % 120)) x.val) (Fin.ofNat 16 14))) ?_)
    refine (st 13 (by norm_num) _ x _).trans (congrArg (ite (h.val = 13) (I.lse b (tokAt (128 * (t.val % 120)) x.val) (Fin.ofNat 16 13))) ?_)
    refine (st 12 (by norm_num) _ x _).trans (congrArg (ite (h.val = 12) (I.lse b (tokAt (128 * (t.val % 120)) x.val) (Fin.ofNat 16 12))) ?_)
    refine (st 11 (by norm_num) _ x _).trans (congrArg (ite (h.val = 11) (I.lse b (tokAt (128 * (t.val % 120)) x.val) (Fin.ofNat 16 11))) ?_)
    refine (st 10 (by norm_num) _ x _).trans (congrArg (ite (h.val = 10) (I.lse b (tokAt (128 * (t.val % 120)) x.val) (Fin.ofNat 16 10))) ?_)
    refine (st 9 (by norm_num) _ x _).trans (congrArg (ite (h.val = 9) (I.lse b (tokAt (128 * (t.val % 120)) x.val) (Fin.ofNat 16 9))) ?_)
    refine (st 8 (by norm_num) _ x _).trans (congrArg (ite (h.val = 8) (I.lse b (tokAt (128 * (t.val % 120)) x.val) (Fin.ofNat 16 8))) ?_)
    refine (st 7 (by norm_num) _ x _).trans (congrArg (ite (h.val = 7) (I.lse b (tokAt (128 * (t.val % 120)) x.val) (Fin.ofNat 16 7))) ?_)
    refine (st 6 (by norm_num) _ x _).trans (congrArg (ite (h.val = 6) (I.lse b (tokAt (128 * (t.val % 120)) x.val) (Fin.ofNat 16 6))) ?_)
    refine (st 5 (by norm_num) _ x _).trans (congrArg (ite (h.val = 5) (I.lse b (tokAt (128 * (t.val % 120)) x.val) (Fin.ofNat 16 5))) ?_)
    refine (st 4 (by norm_num) _ x _).trans (congrArg (ite (h.val = 4) (I.lse b (tokAt (128 * (t.val % 120)) x.val) (Fin.ofNat 16 4))) ?_)
    refine (st 3 (by norm_num) _ x _).trans (congrArg (ite (h.val = 3) (I.lse b (tokAt (128 * (t.val % 120)) x.val) (Fin.ofNat 16 3))) ?_)
    refine (st 2 (by norm_num) _ x _).trans (congrArg (ite (h.val = 2) (I.lse b (tokAt (128 * (t.val % 120)) x.val) (Fin.ofNat 16 2))) ?_)
    refine (st 1 (by norm_num) _ x _).trans (congrArg (ite (h.val = 1) (I.lse b (tokAt (128 * (t.val % 120)) x.val) (Fin.ofNat 16 1))) ?_)
    refine (st 0 (by norm_num) _ x _).trans (congrArg (ite (h.val = 0) (I.lse b (tokAt (128 * (t.val % 120)) x.val) (Fin.ofNat 16 0))) ?_)
    rfl
  · exact congrArg (I.lse b (tokAt (128 * (t.val % 120)) x.val)) (Fin.ext (Nat.mod_eq_of_lt h.isLt))

end Cert.KernelIdeal.Gen
-- ==== Proof.Arrays.lean ====
/-
  The inputs as arrays hold them, and the three results as arrays.
-/
module

public import proofs.«01_k».proof.Proof.Spec
public import Idealize.ShloMosaic.Lib.Pointwise

@[expose] public section

noncomputable section

namespace Cert.MlaPrompt

open Idealize.ShloMosaic

/-- The inputs that nine arrays hold. -/
def Inputs.of (x0 : Vec Ideal ⟨4, ![2, 15360, 16, 512]⟩ .fp8e4m3) (x1 : Vec Ideal ⟨3, ![2, 15360, 16]⟩ .f32) (x2 : Vec Ideal ⟨4, ![2, 15360, 16, 64]⟩ .bf16)
    (x3 : Vec Ideal ⟨3, ![2, 15360, 512]⟩ .fp8e4m3) (x4 : Vec Ideal ⟨2, ![2, 15360]⟩ .f32) (x5 : Vec Ideal ⟨3, ![2, 15360, 64]⟩ .bf16)
    (x6 : Vec Ideal ⟨1, ![2]⟩ .i32) (x7 : Vec Ideal ⟨3, ![16, 512, 128]⟩ .fp8e4m3) (x8 : Vec Ideal ⟨2, ![16, 128]⟩ .f32) : Inputs where
  q b t h d := x0 (ix4 b t h d)
  qs b t h := x1 (ix3 b t h)
  qr b t h d := x2 (ix4 b t h d)
  k b j d := x3 (ix3 b j d)
  cs b j := x4 (ix2 b j)
  kr b j d := x5 (ix3 b j d)
  len b := x6 (ix1 b)
  w h d l := x7 (ix3 h d l)
  ws h l := x8 (ix2 h l)

/-- The array of codes. -/
def Inputs.codes (I : Inputs) : Vec Ideal ⟨4, ![2, 15360, 16, 128]⟩ .fp8e4m3 := fun j => I.code (j 0) (j 1) (j 2) (j 3)
/-- The array of scales. -/
def Inputs.scales (I : Inputs) : Vec Ideal ⟨3, ![2, 15360, 16]⟩ .f32 := fun j => I.scale (j 0) (j 1) (j 2)
/-- The array of log-sum-exps. -/
def Inputs.lses (I : Inputs) : Vec Ideal ⟨3, ![2, 15360, 16]⟩ .f32 := fun j => I.lseOut (j 0) (j 1) (j 2)

end Cert.MlaPrompt
-- ==== Proof.KernelBlocks.lean ====
/-
  What the kernel's input blocks hold at a point of the grid: the rows of the point's own block of tokens when the point is
  within the prompt, and the whole batch's keys, scales and weights.
-/
module

public import proofs.«01_k».proof.Proof.Outputs
public import proofs.«01_k».proof.Proof.FrameIdeal
public import proofs.«01_k».proof.Proof.Arrays
public import Idealize.ShloMosaic.Lib.Pipeline.Value
public import Idealize.ShloMosaic.Lib.Pipeline.ValueKit

@[expose] public section

set_option maxRecDepth 16384

noncomputable section

namespace Cert.KernelIdeal.Gen

open Idealize.ShloMosaic Idealize.ShloMosaic.TcCoe Idealize.SL Idealize.SL.Sem Idealize.SL.RA Cert.MlaPrompt
open Idealize.ShloMosaic.Pipeline (Dat)

variable (m : (ℓ : Loc nD τ sig) → Buf (Elt Ideal) ℓ)

theorem coords1 : ∀ t : Fin grid0.N, (grid0.coords t 1).val = t.val % 120 := by decide +kernel
theorem coords0 : ∀ t : Fin grid0.N, (grid0.coords t 0).val = t.val / 120 := by decide +kernel

/-- The batch of a point. -/
def batch (t : Fin grid0.N) : Fin 2 := ⟨(grid0.coords t 0).val, batch_lt _⟩

theorem word0 : ∀ t : Fin grid0.N, (BitVec.ofNat 32 (grid0.coords t 0).val).toNat = (grid0.coords t 0).val := by decide +kernel
theorem word1 : ∀ t : Fin grid0.N, (BitVec.ofNat 32 (grid0.coords t 1).val).toNat = (grid0.coords t 1).val := by decide +kernel

/-- The inputs that the arguments hold. -/
def inputs (c : Dev nD) : Inputs :=
  Inputs.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The table's word at a point is the batch's length. -/
theorem lenAt_eq (c : Dev nD) (t : Fin grid0.N) : lenAt (lens m) (grid0.coords t) = (inputs m c).len (batch t) := by
  have hc : c = 0 := Subsingleton.elim _ _
  subst hc
  refine congrArg (m (((0 : Dev nD) : Thread nD τ).loc main_arg6)) (funext fun a => Fin.ext ?_)
  fin_cases a
  exact word0 t

/-- Within the prompt a point's own block of rows is the one that is read. -/
theorem rowBlock_live (n : ℕ) (hn : n < 120) (w : BitVec 32) (h : ((128 * n : ℕ) : ℤ) < w.toInt) :
    (rowBlock (BitVec.ofNat 32 n) w).toNat = n := by
  rw [rowBlock_toNat n hn]
  refine min_eq_left ((Nat.le_div_iff_mul_le (by norm_num)).mpr ?_)
  show n * 128 ≤ (if (0#32).slt (w - 1#32) then (w - 1#32) else 0#32).toNat
  have hw := BitVec.toInt_eq_toNat_cond w
  have hs : (w - 1#32).toNat = w.toNat - 1 := by
    rw [BitVec.toNat_sub]
    have := w.isLt
    have e : (1#32).toNat = 1 := rfl
    rw [e]
    split at hw <;> omega
  have hlt : w.toNat < 2 ^ 31 := by
    have := w.isLt
    split at hw <;> omega
  have hi : (w - 1#32).toInt = ((w.toNat - 1 : ℕ) : ℤ) := by
    rw [BitVec.toInt_eq_toNat_cond, hs]
    split <;> omega
  split
  · rw [hs]
    split at hw <;> omega
  · rename_i g
    simp only [BitVec.slt, decide_eq_true_eq, not_lt] at g
    rw [hi] at g
    have e : (0#32).toInt = 0 := rfl
    rw [e] at g
    show n * 128 ≤ 0
    split at hw <;> omega

/-- A point whose block of rows starts within the prompt. -/
abbrev Live (c : Dev nD) (t : Fin grid0.N) : Prop := ((128 * (t.val % 120) : ℕ) : ℤ) < ((inputs m c).len (batch t)).toInt

theorem row_live (c : Dev nD) (t : Fin grid0.N) (h : Live m c t) :
    (rowBlock (BitVec.ofNat 32 (grid0.coords t 1).val) (lenAt (lens m) (grid0.coords t))).toNat = t.val % 120 := by
  rw [lenAt_eq m c t, coords1]
  exact rowBlock_live _ (Nat.mod_lt _ (by norm_num)) _ h

theorem tok_val (t : Fin grid0.N) (x : Fin 128) : (tokAt (128 * (t.val % 120)) x.val).val = t.val % 120 * 128 + x.val := by
  show (128 * (t.val % 120) + x.val) % 15360 = _
  omega

theorem kindex0 (c : Dev nD) (t : Fin (cfgT m).N) (hl : Live m c t) : ((cfgT m).win 0).index t = ![(grid0.coords t 0).val, t.val % 120, 0, 0] := by
  refine (transform0_eq (lens m) (grid0.coords t)).trans ?_
  rw [row_live m c t hl]

theorem kblk0 (c : Dev nD) (t : Fin (cfgT m).N) (hl : Live m c t) (x : Fin 128) (h : Fin 16) (d : Fin 512) :
    (iblk m c 0 t : Vec Ideal S1x128x16x512 .fp8e4m3) (ix4 0 x h d) = (m ((c : Thread nD τ).loc main_arg0) : Vec Ideal S2x15360x16x512 .fp8e4m3) (ix4 (batch t) (tokAt (128 * (t.val % 120)) x.val) h d) := by
  refine Eq.trans (b := (V m c main_arg0 : Vec Ideal S2x15360x16x512 .fp8e4m3) (ix4 (batch t) (tokAt (128 * (t.val % 120)) x.val) h d)) ?_ (congrFun (V_main_arg0 m c) _)
  have e := kindex0 m c t hl
  have e' := tok_val t x
  blk_ext [iblk, e, batch]

theorem kindex1 (c : Dev nD) (t : Fin (cfgT m).N) (hl : Live m c t) : ((cfgT m).win 1).index t = ![(grid0.coords t 0).val, t.val % 120, 0] := by
  refine (transform1_eq (lens m) (grid0.coords t)).trans ?_
  rw [row_live m c t hl]

theorem kblk1 (c : Dev nD) (t : Fin (cfgT m).N) (hl : Live m c t) (x : Fin 128) (h : Fin 16) :
    (iblk m c 1 t : Vec Ideal S1x128x16 .f32) (ix3 0 x h) = (m ((c : Thread nD τ).loc main_arg1) : Vec Ideal S2x15360x16 .f32) (ix3 (batch t) (tokAt (128 * (t.val % 120)) x.val) h) := by
  refine Eq.trans (b := (V m c main_arg1 : Vec Ideal S2x15360x16 .f32) (ix3 (batch t) (tokAt (128 * (t.val % 120)) x.val) h)) ?_ (congrFun (V_main_arg1 m c) _)
  have e := kindex1 m c t hl
  have e' := tok_val t x
  blk_ext [iblk, e, batch]

theorem kindex2 (c : Dev nD) (t : Fin (cfgT m).N) (hl : Live m c t) : ((cfgT m).win 2).index t = ![(grid0.coords t 0).val, t.val % 120, 0, 0] := by
  refine (transform2_eq (lens m) (grid0.coords t)).trans ?_
  rw [row_live m c t hl]

theorem kblk2 (c : Dev nD) (t : Fin (cfgT m).N) (hl : Live m c t) (x : Fin 128) (h : Fin 16) (d : Fin 64) :
    (iblk m c 2 t : Vec Ideal S1x128x16x64 .bf16) (ix4 0 x h d) = (m ((c : Thread nD τ).loc main_arg2) : Vec Ideal S2x15360x16x64 .bf16) (ix4 (batch t) (tokAt (128 * (t.val % 120)) x.val) h d) := by
  refine Eq.trans (b := (V m c main_arg2 : Vec Ideal S2x15360x16x64 .bf16) (ix4 (batch t) (tokAt (128 * (t.val % 120)) x.val) h d)) ?_ (congrFun (V_main_arg2 m c) _)
  have e := kindex2 m c t hl
  have e' := tok_val t x
  blk_ext [iblk, e, batch]

theorem kindex3 (t : Fin (cfgT m).N) : ((cfgT m).win 3).index t = ![(grid0.coords t 0).val, 0, 0] := by
  rw [← word0 t]; rfl

theorem kindex4 (t : Fin (cfgT m).N) : ((cfgT m).win 4).index t = ![(grid0.coords t 0).val, 0, 0] := by
  rw [← word0 t]; rfl

theorem kindex5 (t : Fin (cfgT m).N) : ((cfgT m).win 5).index t = ![(grid0.coords t 0).val, 0, 0] := by
  rw [← word0 t]; rfl

theorem kindex6 (t : Fin (cfgT m).N) : ((cfgT m).win 6).index t = ![0, 0, 0] := rfl
theorem kindex7 (t : Fin (cfgT m).N) : ((cfgT m).win 7).index t = ![0, 0] := rfl

theorem kblk3 (c : Dev nD) (t : Fin (cfgT m).N) (j : Fin 15360) (d : Fin 512) :
    (iblk m c 3 t : Vec Ideal S1x15360x512 .fp8e4m3) (ix3 0 j d) = (m ((c : Thread nD τ).loc main_arg3) : Vec Ideal S2x15360x512 .fp8e4m3) (ix3 (batch t) j d) := by
  refine Eq.trans (b := (V m c main_arg3 : Vec Ideal S2x15360x512 .fp8e4m3) (ix3 (batch t) j d)) ?_ (congrFun (V_main_arg3 m c) _)
  have e := kindex3 m t
  blk_ext [iblk, e, batch]

theorem kblk6 (c : Dev nD) (t : Fin (cfgT m).N) (h : Fin 16) (d : Fin 512) (l : Fin 128) :
    (iblk m c 6 t : Vec Ideal S16x512x128 .fp8e4m3) (ix3 h d l) = (m ((c : Thread nD τ).loc main_arg7) : Vec Ideal S16x512x128 .fp8e4m3) (ix3 h d l) := by
  refine Eq.trans (b := (V m c main_arg7 : Vec Ideal S16x512x128 .fp8e4m3) (ix3 h d l)) ?_ (congrFun (V_main_arg7 m c) _)
  have e := kindex6 m t
  blk_ext [iblk, e]

theorem kblk7 (c : Dev nD) (t : Fin (cfgT m).N) (h : Fin 16) (l : Fin 128) :
    (iblk m c 7 t : Vec Ideal S16x128 .f32) (ix2 h l) = (m ((c : Thread nD τ).loc main_arg8) : Vec Ideal S16x128 .f32) (ix2 h l) := by
  refine Eq.trans (b := (V m c main_arg8 : Vec Ideal S16x128 .f32) (ix2 h l)) ?_ (congrFun (V_main_arg8 m c) _)
  have e := kindex7 m t
  blk_ext [iblk, e]

theorem V_main_v5 (c : Dev nD) (b : Fin 2) (j : Fin 15360) :
    (V m c main_v5 : Vec Ideal S2x1x15360 .f32) (ix3 b 0 j) = (m ((c : Thread nD τ).loc main_arg4) : Vec Ideal S2x15360 .f32) (ix2 b j) := by
  entry_read
  pointwise []

theorem V_main_v4 (c : Dev nD) (b : Fin 2) (j : Fin 15360) (d : Fin 64) :
    (V m c main_v4 : Vec Ideal S2x15360x64 .bf16) (ix3 b j d)
      = Ideal.div ((m ((c : Thread nD τ).loc main_arg5) : Vec Ideal S2x15360x64 .bf16) (ix3 b j d)) ((m ((c : Thread nD τ).loc main_arg4) : Vec Ideal S2x15360 .f32) (ix2 b j)) := by
  entry_read
  pointwise []

theorem kblk4 (c : Dev nD) (t : Fin (cfgT m).N) (j : Fin 15360) :
    (iblk m c 4 t : Vec Ideal S1x1x15360 .f32) (ix3 0 0 j) = (m ((c : Thread nD τ).loc main_arg4) : Vec Ideal S2x15360 .f32) (ix2 (batch t) j) := by
  refine Eq.trans (b := (V m c main_v5 : Vec Ideal S2x1x15360 .f32) (ix3 (batch t) 0 j)) ?_ (V_main_v5 m c (batch t) j)
  have e := kindex4 m t
  blk_ext [iblk, e, batch]

theorem kblk5 (c : Dev nD) (t : Fin (cfgT m).N) (j : Fin 15360) (d : Fin 64) :
    (iblk m c 5 t : Vec Ideal S1x15360x64 .bf16) (ix3 0 j d)
      = Ideal.div ((m ((c : Thread nD τ).loc main_arg5) : Vec Ideal S2x15360x64 .bf16) (ix3 (batch t) j d)) ((m ((c : Thread nD τ).loc main_arg4) : Vec Ideal S2x15360 .f32) (ix2 (batch t) j)) := by
  refine Eq.trans (b := (V m c main_v4 : Vec Ideal S2x15360x64 .bf16) (ix3 (batch t) j d)) ?_ (V_main_v4 m c (batch t) j d)
  have e := kindex5 m t
  blk_ext [iblk, e, batch]

/-- The blocks of a point within the prompt hold the inputs' rows. -/
theorem blockIn (c : Dev nD) (t : Fin (cfgT m).N) (hl : Live m c t) :
    BlockIn (inputs m c) (batch t) (128 * (t.val % 120)) (iblk m c 0 t) (iblk m c 1 t) (iblk m c 2 t) (iblk m c 3 t) (iblk m c 4 t) (iblk m c 5 t) where
  q x h d := kblk0 m c t hl x h d
  qs x h := kblk1 m c t hl x h
  qr x h d := kblk2 m c t hl x h d
  k j d := kblk3 m c t j d
  cs j := kblk4 m c t j
  kr j d := kblk5 m c t j d

end Cert.KernelIdeal.Gen
-- ==== Proof.BodyValue.lean ====
/-
  What the kernel body leaves in its three output blocks, at a point within the prompt and at a point past it.
-/
module

public import proofs.«01_k».proof.Proof.KernelBlocks

@[expose] public section

set_option maxRecDepth 16384
set_option maxHeartbeats 4000000

noncomputable section

namespace Cert.KernelIdeal.Gen

open Idealize.ShloMosaic Idealize.ShloMosaic.TcCoe Idealize.SL Idealize.SL.Sem Idealize.SL.RA Cert.MlaPrompt

theorem ofBits_fp8_zero : Ideal.ofBits .fp8e4m3 0x00#8 = 0 := Ideal.ofBits_zero .fp8e4m3
theorem one_bits : Ideal.ofBits .f32 0x3F800000#32 = 1 := Ideal.ofBits_one_f32
theorem zero_bits : Ideal.ofBits .f32 0x00000000#32 = 0 := Ideal.ofBits_zero_f32

/-! ## Past the prompt -/

theorem idle_codes (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (hc1 : k0_cond1 i (lensWord i arg2 X2) = 1#1) (hc2 : ¬ k0_cond2 i (lensWord i arg2 X2) = 1#1) (x : Fin 128) (h : Fin 16) (y : Fin 128) :
    arg11.view.read (Elt Ideal) (arg11.view.writes (Elt Ideal) X11 (runIdle (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).1) (ix4 0 x h y) = (0 : EReal) := by
  have e : (runIdle (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).1 = [⟨Rect.unit (s := S1x128x16x128) ![0, 0, 0, 0] S1x128x16x128.size inb_S1x128x16x128_S1x128x16x128_0_0_0_0, k0_pay1 (F := Ideal)⟩] := by
    unfold runIdle
    rfl
  rw [e]
  exact (whole4 arg11.view X11 _ _ 0 x h y).trans ofBits_fp8_zero

theorem idle_scales (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (hc1 : k0_cond1 i (lensWord i arg2 X2) = 1#1) (hc2 : ¬ k0_cond2 i (lensWord i arg2 X2) = 1#1) (x : Fin 128) (h : Fin 16) :
    arg12.view.read (Elt Ideal) (arg12.view.writes (Elt Ideal) X12 (runIdle (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.1) (ix3 0 x h) = (1 : EReal) := by
  have e : (runIdle (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.1 = [⟨Rect.unit (s := S1x128x16) ![0, 0, 0] S1x128x16.size inb_S1x128x16_S1x128x16_0_0_0, k0_pay2 (F := Ideal)⟩] := by
    unfold runIdle
    rfl
  rw [e]
  exact (whole3 arg12.view X12 _ _ 0 x h).trans one_bits

theorem idle_lses (𝒱 : Variants) (c : Dev nD) (bd : Option 𝒱.V) (i : grid0.Coords) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole) (q : PosShare TreeShare) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (hc1 : k0_cond1 i (lensWord i arg2 X2) = 1#1) (hc2 : ¬ k0_cond2 i (lensWord i arg2 X2) = 1#1) (x : Fin 128) (h : Fin 16) :
    arg13.view.read (Elt Ideal) (arg13.view.writes (Elt Ideal) X13 (runIdle (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.2.1) (ix3 0 x h) = (0 : EReal) := by
  have e : (runIdle (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2).2.2.1 = [⟨Rect.unit (s := S1x128x16) ![0, 0, 0] S1x128x16.size inb_S1x128x16_S1x128x16_0_0_0, k0_pay3 (F := Ideal)⟩] := by
    unfold runIdle
    rfl
  rw [e]
  exact (whole3 arg13.view X13 _ _ 0 x h).trans zero_bits

section
variable (I : Inputs) (b : Fin 2) (tok : Fin 15360) (h : Fin 16)

theorem past_out (hv : I.valid b tok = 0#1) (l : Fin 128) : I.out b tok h l = 0 := by
  unfold Inputs.out
  rw [hv]
  rfl

theorem past_amax (hv : I.valid b tok = 0#1) : I.amax b tok h = 0 := by
  unfold Inputs.amax
  have e : (fun l : Fin 128 => max (I.out b tok h l) (-I.out b tok h l)) = fun _ => (0 : EReal) := by
    funext l
    rw [past_out I b tok h hv l, neg_zero, max_self]
  rw [e]
  exact Finset.sup_const ⟨0, Finset.mem_univ _⟩ _

theorem past_code (hv : I.valid b tok = 0#1) (l : Fin 128) : I.code b tok h l = 0 := by
  unfold Inputs.code
  rw [past_out I b tok h hv l, zero_mul]
  have e1 : max ((-448 : ℝ) : EReal) 0 = 0 := max_eq_right (by exact_mod_cast (by norm_num : (-448 : ℝ) ≤ 0))
  rw [e1]
  exact min_eq_right (by exact_mod_cast (by norm_num : (0 : ℝ) ≤ 448))

theorem past_scale (hv : I.valid b tok = 0#1) : I.scale b tok h = 1 := by
  unfold Inputs.scale Inputs.expo
  rw [past_amax I b tok h hv, if_pos rfl]
  show Ideal.exp2 ((0 : ℝ) : EReal) = 1
  rw [Ideal.exp2_coe]
  simp

theorem past_lse (hv : I.valid b tok = 0#1) : I.lseOut b tok h = 0 := by
  unfold Inputs.lseOut
  rw [hv]
  rfl
end

/-! ## The branch that a point takes -/

theorem cond2_iff (i : grid0.Coords) (w : BitVec 32) : k0_cond2 i w = 1#1 ↔ (Scalar.muli (BitVec.ofNat 32 (i 1).val) 128#32).toInt < w.toInt := by
  unfold k0_cond2
  show (BitVec.ofBool _ = 1#1) ↔ _
  simp only [Scalar.cmpi, IntOp.cmpi, BitVec.slt]
  by_cases h : (Scalar.muli (BitVec.ofNat 32 (i 1).val) 128#32).toInt < w.toInt
  · rw [decide_eq_true h]; simp only [h, iff_true]; decide +kernel
  · rw [decide_eq_false h]; simp only [h, iff_false]; decide +kernel

theorem small_toInt (n : ℕ) (h : n < 2 ^ 31) : (BitVec.ofNat 32 n).toInt = (n : ℤ) := by
  rw [BitVec.toInt_ofNat', Int.bmod_def]
  omega

theorem cond2_live (t : Fin grid0.N) (w : BitVec 32) : k0_cond2 (grid0.coords t) w = 1#1 ↔ ((128 * (t.val % 120) : ℕ) : ℤ) < w.toInt := by
  rw [cond2_iff, tok_word0 t, small_toInt _ (by omega)]

/-- Past the prompt no row of the block is valid. -/
theorem past_valid (I : Inputs) (b : Fin 2) (t : Fin grid0.N) (hc : ¬ k0_cond2 (grid0.coords t) (I.len b) = 1#1) (x : Fin 128) :
    I.valid b (tokAt (128 * (t.val % 120)) x.val) = 0#1 := by
  rw [cond2_live] at hc
  have hk : (tokAt (128 * (t.val % 120)) x.val).val = 128 * (t.val % 120) + x.val := by
    show (128 * (t.val % 120) + x.val) % 15360 = _
    omega
  unfold Inputs.valid
  rw [hk]
  show BitVec.ofBool ((BitVec.ofNat 32 (128 * (t.val % 120) + x.val)).slt (I.len b)) = 0#1
  rw [BitVec.slt, small_toInt _ (by omega), decide_eq_false (by push_cast at hc ⊢; omega)]
  rfl

/-! ## The body's three blocks -/

/-- The block of codes at point `t` of batch `b`. -/
def P8 (I : Inputs) (b : Fin 2) (t : Fin grid0.N) (X : Vec Ideal S1x128x16x128 .fp8e4m3) : Prop :=
  ∀ (x : Fin 128) (h : Fin 16) (y : Fin 128), X (ix4 0 x h y) = I.code b (tokAt (128 * (t.val % 120)) x.val) h y
/-- The block of scales. -/
def P9 (I : Inputs) (b : Fin 2) (t : Fin grid0.N) (X : Vec Ideal S1x128x16 .f32) : Prop :=
  ∀ (x : Fin 128) (h : Fin 16), X (ix3 0 x h) = I.scale b (tokAt (128 * (t.val % 120)) x.val) h
/-- The block of log-sum-exps. -/
def P10 (I : Inputs) (b : Fin 2) (t : Fin grid0.N) (X : Vec Ideal S1x128x16 .f32) : Prop :=
  ∀ (x : Fin 128) (h : Fin 16), X (ix3 0 x h) = I.lseOut b (tokAt (128 * (t.val % 120)) x.val) h

theorem bodySpec (I : Inputs) (hp : I.Pos) (b : Fin 2) (t : Fin grid0.N) (arg2 : Memref sig .tc .smem S2 .i32) (harg2 : arg2.IsWhole) (arg3 : Memref sig .tc .vmem S1x128x16x512 .fp8e4m3) (harg3 : arg3.IsWhole) (arg4 : Memref sig .tc .vmem S1x128x16 .f32) (harg4 : arg4.IsWhole) (arg5 : Memref sig .tc .vmem S1x128x16x64 .bf16) (harg5 : arg5.IsWhole) (arg6 : Memref sig .tc .vmem S1x15360x512 .fp8e4m3) (harg6 : arg6.IsWhole) (arg7 : Memref sig .tc .vmem S1x1x15360 .f32) (harg7 : arg7.IsWhole) (arg8 : Memref sig .tc .vmem S1x15360x64 .bf16) (harg8 : arg8.IsWhole) (arg9 : Memref sig .tc .vmem S16x512x128 .fp8e4m3) (harg9 : arg9.IsWhole) (arg10 : Memref sig .tc .vmem S16x128 .f32) (harg10 : arg10.IsWhole) (arg11 : Memref sig .tc .vmem S1x128x16x128 .fp8e4m3) (harg11 : arg11.IsWhole) (arg12 : Memref sig .tc .vmem S1x128x16 .f32) (harg12 : arg12.IsWhole) (arg13 : Memref sig .tc .vmem S1x128x16 .f32) (harg13 : arg13.IsWhole) (arg14 : Memref sig .tc .vmem S2048x512 .fp8e4m3) (harg14 : arg14.IsWhole) (arg15 : Memref sig .tc .vmem S2048x64 .bf16) (harg15 : arg15.IsWhole) (arg16 : Memref sig .tc .vmem S2048x128 .f32) (harg16 : arg16.IsWhole) (arg17 : Memref sig .tc .vmem S2048x128 .f32) (harg17 : arg17.IsWhole) (arg18 : Memref sig .tc .vmem S2048x128 .f32) (harg18 : arg18.IsWhole) (arg19 : Memref sig .tc .vmem S4x2048x128 .f32) (harg19 : arg19.IsWhole) (arg20 : Memref sig .tc .vmem S2048x128 .f32) (harg20 : arg20.IsWhole)
    (X2 : BufTy.Contents (Elt Ideal) arg2.view.ty) (x3 : Vec Ideal S1x128x16x512 .fp8e4m3) (x4 : Vec Ideal S1x128x16 .f32) (x5 : Vec Ideal S1x128x16x64 .bf16) (x6 : Vec Ideal S1x15360x512 .fp8e4m3) (x7 : Vec Ideal S1x1x15360 .f32) (x8 : Vec Ideal S1x15360x64 .bf16) (x9 : Vec Ideal S16x512x128 .fp8e4m3) (x10 : Vec Ideal S16x128 .f32)
    (D : ((128 * (t.val % 120) : ℕ) : ℤ) < (I.len b).toInt → BlockIn I b (128 * (t.val % 120)) x3 x4 x5 x6 x7 x8)
    (H9 : ∀ h d l, x9 (ix3 h d l) = I.w h d l) (H10 : ∀ h l, x10 (ix2 h l) = I.ws h l) (Hlen : lensWord (grid0.coords t) arg2 X2 = I.len b) :
    BodySpec (F := Ideal) (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 x3 x4 x5 x6 x7 x8 x9 x10 (P8 I b t) (P9 I b t) (P10 I b t) where
  live := by
    intro c q X3 X4 X5 X6 X7 X8 X9 X10 X11 X12 X13 X14 X15 X16 X17 X18 X19 X20 h3 h4 h5 h6 h7 h8 h9 h10 hc1 hc2
    subst h3 h4 h5 h6 h7 h8 h9 h10
    have hl := (cond2_live t (I.len b)).mp (by rw [← Hlen]; exact hc2)
    refine ⟨fun x h y => ?_, fun x h => ?_, fun x h => ?_⟩
    · exact codes_apply Variants.none c none (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2 I hp b t rfl (D hl) H9 H10 Hlen x h y
    · exact scales_apply Variants.none c none (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2 I hp b t rfl (D hl) H9 H10 Hlen x h
    · exact lses_apply Variants.none c none (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2 I hp b t rfl (D hl) H9 H10 Hlen x h
  idle := by
    intro c q X3 X4 X5 X6 X7 X8 X9 X10 X11 X12 X13 X14 X15 X16 X17 X18 X19 X20 h3 h4 h5 h6 h7 h8 h9 h10 hc1 hc2
    have hv := past_valid I b t (by rw [← Hlen]; exact hc2)
    refine ⟨fun x h y => ?_, fun x h => ?_, fun x h => ?_⟩
    · exact (idle_codes Variants.none c none (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2 x h y).trans (past_code I b _ h (hv x) y).symm
    · exact (idle_scales Variants.none c none (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2 x h).trans (past_scale I b _ h (hv x)).symm
    · exact (idle_lses Variants.none c none (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 q X2 X3 X4 X5 X6 X7 X8 X9 X10 X11 X12 X13 X14 X15 X16 X17 X18 X19 X20 hc1 hc2 x h).trans (past_lse I b _ h (hv x)).symm

end Cert.KernelIdeal.Gen
-- ==== Proof.KernelRun.lean ====
/-
  The kernel's run: its three results are the codes, the scales and the log-sum-exps of its inputs, and its arguments end as
  they began.
-/
module

public import proofs.«01_k».proof.Proof.BodyValue

@[expose] public section

set_option maxRecDepth 16384

noncomputable section

namespace Cert.KernelIdeal.Gen

open Idealize.ShloMosaic Idealize.ShloMosaic.TcCoe Idealize.SL Idealize.SL.Sem Idealize.SL.RA Cert.MlaPrompt
open Idealize.ShloMosaic.Pipeline (Dat)

variable (m : (ℓ : Loc nD τ sig) → Buf (Elt Ideal) ℓ) (ρ : Dev nD → PrngReg)

/-- The word that a point's body reads is its batch's length. -/
theorem lensWord_eq (c : Dev nD) (t : Fin grid0.N) :
    lensWord (F := Ideal) (grid0.coords t) (Memref.whole main_arg6) (lens m 0) = (inputs m c).len (batch t) := by
  have hc : c = 0 := Subsingleton.elim _ _
  subst hc
  refine congrArg (m (((0 : Dev nD) : Thread nD τ).loc main_arg6)) (funext fun a => Fin.ext ?_)
  fin_cases a
  exact word0 t

/-- The stores of every point are the blocks of the three results. -/
theorem meets (hp : ∀ c, (inputs m c).Pos) : Meets m (fun c t => P8 (inputs m c) (batch t) t) (fun c t => P9 (inputs m c) (batch t) t) (fun c t => P10 (inputs m c) (batch t) t) := fun c t =>
  bodySpec (inputs m c) (hp c) (batch t) t (Memref.whole main_arg6) (Memref.isWhole_whole _) _ _ _ _ _ _ _ _ _ _ _ _ _ _ _ _ _ _ _ _ _ _ _ _ _ _ _ _ _ _ _ _ _ _ _ _
    (lens m 0) (iblk m c 0 t) (iblk m c 1 t) (iblk m c 2 t) (iblk m c 3 t) (iblk m c 4 t) (iblk m c 5 t) (iblk m c 6 t) (iblk m c 7 t)
    (fun hl => blockIn m c t hl) (kblk6 m c t) (kblk7 m c t) (lensWord_eq m c t)

/-- The point whose block holds a token of a batch. -/
def pointOf (b : Fin 2) (tok : Fin 15360) : Fin grid0.N :=
  ⟨120 * b.val + tok.val / 128, by have h : grid0.N = 240 := by decide +kernel
                                   have := b.isLt; have := tok.isLt; omega⟩

theorem pointOf0 (b : Fin 2) (tok : Fin 15360) : (grid0.coords (pointOf b tok) 0).val = b.val := by
  rw [coords0]
  show (120 * b.val + tok.val / 128) / 120 = _
  have := b.isLt; have := tok.isLt; omega
theorem pointOf1 (b : Fin 2) (tok : Fin 15360) : (grid0.coords (pointOf b tok) 1).val = tok.val / 128 := by
  rw [coords1]
  show (120 * b.val + tok.val / 128) % 120 = _
  have := b.isLt; have := tok.isLt; omega

theorem inBlock4 (idx size xs i : Fin 4 → ℕ) (he : idx = ![i 0, i 1 / 128, 0, 0]) (hs : size = ![1, 128, 16, 128]) (hx : xs = ![1, 128, 16, 128])
    (i0 : i 0 < 2) (i1 : i 1 < 15360) (i2 : i 2 < 16) (i3 : i 3 < 128) (a : Fin 4) : idx a * size a ≤ i a ∧ i a < idx a * size a + xs a := by
  subst he hs hx
  fin_cases a
  · show i 0 * 1 ≤ i 0 ∧ i 0 < i 0 * 1 + 1; omega
  · show i 1 / 128 * 128 ≤ i 1 ∧ i 1 < i 1 / 128 * 128 + 128; omega
  · show 0 * 16 ≤ i 2 ∧ i 2 < 0 * 16 + 16; omega
  · show 0 * 128 ≤ i 3 ∧ i 3 < 0 * 128 + 128; omega

theorem inBlock3 (idx size xs i : Fin 3 → ℕ) (he : idx = ![i 0, i 1 / 128, 0]) (hs : size = ![1, 128, 16]) (hx : xs = ![1, 128, 16])
    (i0 : i 0 < 2) (i1 : i 1 < 15360) (i2 : i 2 < 16) (a : Fin 3) : idx a * size a ≤ i a ∧ i a < idx a * size a + xs a := by
  subst he hs hx
  fin_cases a
  · show i 0 * 1 ≤ i 0 ∧ i 0 < i 0 * 1 + 1; omega
  · show i 1 / 128 * 128 ≤ i 1 ∧ i 1 < i 1 / 128 * 128 + 128; omega
  · show 0 * 16 ≤ i 2 ∧ i 2 < 0 * 16 + 16; omega

theorem kindex8 (t : Fin grid0.N) : ((cfgT m).win 8).index t = ![(grid0.coords t 0).val, (grid0.coords t 1).val, 0, 0] := by
  rw [← word0 t, ← word1 t]; rfl

theorem cover8 (c : Dev nD) (i : S2x15360x16x128.Idx) :
    ∃ t : Fin (cfgT m).N, ((cfgT m).win 8).flush t = true ∧ i ∈ (((cfgT m).win 8).blk t).view.set := by
  obtain ⟨t, -, hf, ht⟩ := Pipeline.Window.exists_flush_same_index ((cfgT m).win 8) rfl (pointOf (i 0) (i 1))
  refine ⟨t, hf, ?_⟩
  have e : ((cfgT m).win 8).index (pointOf (i 0) (i 1)) = ![(i 0).val, (i 1).val / 128, 0, 0] :=
    (kindex8 m (pointOf (i 0) (i 1))).trans (congrArg₂ (fun p q => ![p, q, 0, 0]) (pointOf0 _ _) (pointOf1 _ _))
  have e' := ht.trans e
  have i0 : (i 0).val < 2 := (i 0).isLt
  have i1 : (i 1).val < 15360 := (i 1).isLt
  have i2 : (i 2).val < 16 := (i 2).isLt
  have i3 : (i 3).val < 128 := (i 3).isLt
  exact (Pipeline.Window.emb_mem_blk_iff ((cfgT m).win 8) t i).mpr
    (inBlock4 (((cfgT m).win 8).index t) ((cfgT m).win 8).size (((cfgT m).win 8).xsize ((cfgT m).grid.coords t)) (fun a => (i a).val) e' rfl rfl i0 i1 i2 i3)

theorem final8 (R8 : Dev nD → Fin (cfgT m).N → Vec Ideal S1x128x16x128 .fp8e4m3 → Prop) (R9 R10 : Dev nD → Fin (cfgT m).N → Vec Ideal S1x128x16 .f32 → Prop) (c : Dev nD)
    (after : (w' : Fin (cfgT m).W) → Fin (cfgT m).N → ((cfgT m).win w').block.Idx → Elt Ideal ((cfgT m).win w').elt)
    (hL : ∀ t : Fin (cfgT m).N, ((cfgT m).win 8).flush t = true → P8 (inputs m c) (batch t) t (after 8 t)) :
    ((rdat m R8 R9 R10 c).withAfter after).arrAt 8 (cfgT m).N = (inputs m c).codes := by
  refine Dat.arrAt_eq_of_emb _ 8 _ (fun t hf (y : S1x128x16x128.Idx) => ?_) (cover8 m c)
  have hy : (y : S1x128x16x128.Idx) = ix4 0 (y 1) (y 2) (y 3) := by
    refine (eq_ix4 (y : S1x128x16x128.Idx)).trans ?_
    exact congrArg (fun z : Fin 1 => ix4 z (y 1) (y 2) (y 3)) ((fun a : Fin 1 => Subsingleton.elim a 0) (y 0))
  have he : ((((cfgT m).win 8).blk t).view.emb y : S2x15360x16x128.Idx) = ix4 (batch t) (tokAt (128 * (t.val % 120)) (y 1).val) (y 2) (y 3) := by
    have e := kindex8 m t
    have e' := tok_val t (y 1)
    have e1 := coords1 t
    blk_ext [e, batch]
  refine Eq.trans ?_ (congrArg (inputs m c).codes he).symm
  refine (congrArg (after 8 t) hy).trans ?_
  exact hL t hf (y 1) (y 2) (y 3)

theorem kindex9 (t : Fin grid0.N) : ((cfgT m).win 9).index t = ![(grid0.coords t 0).val, (grid0.coords t 1).val, 0] := by
  rw [← word0 t, ← word1 t]; rfl

theorem cover9 (c : Dev nD) (i : S2x15360x16.Idx) :
    ∃ t : Fin (cfgT m).N, ((cfgT m).win 9).flush t = true ∧ i ∈ (((cfgT m).win 9).blk t).view.set := by
  obtain ⟨t, -, hf, ht⟩ := Pipeline.Window.exists_flush_same_index ((cfgT m).win 9) rfl (pointOf (i 0) (i 1))
  refine ⟨t, hf, ?_⟩
  have e : ((cfgT m).win 9).index (pointOf (i 0) (i 1)) = ![(i 0).val, (i 1).val / 128, 0] :=
    (kindex9 m (pointOf (i 0) (i 1))).trans (congrArg₂ (fun p q => ![p, q, 0]) (pointOf0 _ _) (pointOf1 _ _))
  have e' := ht.trans e
  have i0 : (i 0).val < 2 := (i 0).isLt
  have i1 : (i 1).val < 15360 := (i 1).isLt
  have i2 : (i 2).val < 16 := (i 2).isLt
  exact (Pipeline.Window.emb_mem_blk_iff ((cfgT m).win 9) t i).mpr
    (inBlock3 (((cfgT m).win 9).index t) ((cfgT m).win 9).size (((cfgT m).win 9).xsize ((cfgT m).grid.coords t)) (fun a => (i a).val) e' rfl rfl i0 i1 i2)

theorem final9 (R8 : Dev nD → Fin (cfgT m).N → Vec Ideal S1x128x16x128 .fp8e4m3 → Prop) (R9 R10 : Dev nD → Fin (cfgT m).N → Vec Ideal S1x128x16 .f32 → Prop) (c : Dev nD)
    (after : (w' : Fin (cfgT m).W) → Fin (cfgT m).N → ((cfgT m).win w').block.Idx → Elt Ideal ((cfgT m).win w').elt)
    (hL : ∀ t : Fin (cfgT m).N, ((cfgT m).win 9).flush t = true → P9 (inputs m c) (batch t) t (after 9 t)) :
    ((rdat m R8 R9 R10 c).withAfter after).arrAt 9 (cfgT m).N = (inputs m c).scales := by
  refine Dat.arrAt_eq_of_emb _ 9 _ (fun t hf (y : S1x128x16.Idx) => ?_) (cover9 m c)
  have hy : (y : S1x128x16.Idx) = ix3 0 (y 1) (y 2) := by
    refine (eq_ix3 (y : S1x128x16.Idx)).trans ?_
    exact congrArg (fun z : Fin 1 => ix3 z (y 1) (y 2)) ((fun a : Fin 1 => Subsingleton.elim a 0) (y 0))
  have he : ((((cfgT m).win 9).blk t).view.emb y : S2x15360x16.Idx) = ix3 (batch t) (tokAt (128 * (t.val % 120)) (y 1).val) (y 2) := by
    have e := kindex9 m t
    have e' := tok_val t (y 1)
    have e1 := coords1 t
    blk_ext [e, batch]
  refine Eq.trans ?_ (congrArg (inputs m c).scales he).symm
  refine (congrArg (after 9 t) hy).trans ?_
  exact hL t hf (y 1) (y 2)

theorem kindex10 (t : Fin grid0.N) : ((cfgT m).win 10).index t = ![(grid0.coords t 0).val, (grid0.coords t 1).val, 0] := by
  rw [← word0 t, ← word1 t]; rfl

theorem cover10 (c : Dev nD) (i : S2x15360x16.Idx) :
    ∃ t : Fin (cfgT m).N, ((cfgT m).win 10).flush t = true ∧ i ∈ (((cfgT m).win 10).blk t).view.set := by
  obtain ⟨t, -, hf, ht⟩ := Pipeline.Window.exists_flush_same_index ((cfgT m).win 10) rfl (pointOf (i 0) (i 1))
  refine ⟨t, hf, ?_⟩
  have e : ((cfgT m).win 10).index (pointOf (i 0) (i 1)) = ![(i 0).val, (i 1).val / 128, 0] :=
    (kindex10 m (pointOf (i 0) (i 1))).trans (congrArg₂ (fun p q => ![p, q, 0]) (pointOf0 _ _) (pointOf1 _ _))
  have e' := ht.trans e
  have i0 : (i 0).val < 2 := (i 0).isLt
  have i1 : (i 1).val < 15360 := (i 1).isLt
  have i2 : (i 2).val < 16 := (i 2).isLt
  exact (Pipeline.Window.emb_mem_blk_iff ((cfgT m).win 10) t i).mpr
    (inBlock3 (((cfgT m).win 10).index t) ((cfgT m).win 10).size (((cfgT m).win 10).xsize ((cfgT m).grid.coords t)) (fun a => (i a).val) e' rfl rfl i0 i1 i2)

theorem final10 (R8 : Dev nD → Fin (cfgT m).N → Vec Ideal S1x128x16x128 .fp8e4m3 → Prop) (R9 R10 : Dev nD → Fin (cfgT m).N → Vec Ideal S1x128x16 .f32 → Prop) (c : Dev nD)
    (after : (w' : Fin (cfgT m).W) → Fin (cfgT m).N → ((cfgT m).win w').block.Idx → Elt Ideal ((cfgT m).win w').elt)
    (hL : ∀ t : Fin (cfgT m).N, ((cfgT m).win 10).flush t = true → P10 (inputs m c) (batch t) t (after 10 t)) :
    ((rdat m R8 R9 R10 c).withAfter after).arrAt 10 (cfgT m).N = (inputs m c).lses := by
  refine Dat.arrAt_eq_of_emb _ 10 _ (fun t hf (y : S1x128x16.Idx) => ?_) (cover10 m c)
  have hy : (y : S1x128x16.Idx) = ix3 0 (y 1) (y 2) := by
    refine (eq_ix3 (y : S1x128x16.Idx)).trans ?_
    exact congrArg (fun z : Fin 1 => ix3 z (y 1) (y 2)) ((fun a : Fin 1 => Subsingleton.elim a 0) (y 0))
  have he : ((((cfgT m).win 10).blk t).view.emb y : S2x15360x16.Idx) = ix3 (batch t) (tokAt (128 * (t.val % 120)) (y 1).val) (y 2) := by
    have e := kindex10 m t
    have e' := tok_val t (y 1)
    have e1 := coords1 t
    blk_ext [e, batch]
  refine Eq.trans ?_ (congrArg (inputs m c).lses he).symm
  refine (congrArg (after 10 t) hy).trans ?_
  exact hL t hf (y 1) (y 2)

/-- The run, read. -/
theorem run (hp : ∀ c, (inputs m c).Pos) : θ_run defs (onTc (τ := τ) (main (F := Ideal))) ⟨m, fun _ => 0, ρ⟩ (fun r => ∀ c : Dev nD,
      r.2.mem ((c.tc : Thread nD τ).loc main_v6_0) = (inputs m c).codes
      ∧ r.2.mem ((c.tc : Thread nD τ).loc main_v6_1) = (inputs m c).scales
      ∧ r.2.mem ((c.tc : Thread nD τ).loc main_v6_2) = (inputs m c).lses
      ∧ ArgsKept m r c) :=
  (θ_run defs _ _).mono (fun r h c => by
    obtain ⟨after, hL, hA⟩ := h.1.exists_exact c
    refine ⟨?_, ?_, ?_, argsKept_of m _ _ _ h.1 c⟩
    · exact (hA 8).trans (final8 m _ _ _ c after fun t hf => Dat.toRRel_leaves (dats m c) (w := 8) rfl (hL 8 t hf))
    · exact (hA 9).trans (final9 m _ _ _ c after fun t hf => Dat.toRRel_leaves (dats m c) (w := 9) rfl (hL 9 t hf))
    · exact (hA 10).trans (final10 m _ _ _ c after fun t hf => Dat.toRRel_leaves (dats m c) (w := 10) rfl (hL 10 t hf)))
    (run_main m ρ _ _ _ (meets m hp))

end Cert.KernelIdeal.Gen
-- ==== Proof.RefValue.lean ====
/-
  What the reference leaves in its three results, as the same formula of the inputs.
-/
module

public import proofs.«01_k».proof.Proof.Gen.ReferenceIdeal.Frame
public import proofs.«01_k».proof.Proof.QuantWord
public import Idealize.ShloMosaic.Lib.Pointwise
public import Idealize.ShloMosaic.Lib.Pipeline.ValueKit.Basic

@[expose] public section

set_option maxRecDepth 16384
set_option maxHeartbeats 4000000

noncomputable section

namespace Cert.ReferenceIdeal.Gen

open Idealize.ShloMosaic Idealize.ShloMosaic.TcCoe Idealize.SL Idealize.SL.Sem Cert.MlaPrompt

/-- The arrays hold the inputs. -/
structure ArrIn (I : Inputs) (x0 : Vec Ideal S2x15360x16x512 .fp8e4m3) (x1 : Vec Ideal S2x15360x16 .f32) (x2 : Vec Ideal S2x15360x16x64 .bf16) (x3 : Vec Ideal S2x15360x512 .fp8e4m3) (x4 : Vec Ideal S2x15360 .f32) (x5 : Vec Ideal S2x15360x64 .bf16) (x6 : Vec Ideal S2 .i32) (x7 : Vec Ideal S16x512x128 .fp8e4m3) (x8 : Vec Ideal S16x128 .f32) : Prop where
  q : ∀ b t h d, x0 (ix4 b t h d) = I.q b t h d
  qs : ∀ b t h, x1 (ix3 b t h) = I.qs b t h
  qr : ∀ b t h d, x2 (ix4 b t h d) = I.qr b t h d
  k : ∀ b j d, x3 (ix3 b j d) = I.k b j d
  cs : ∀ b j, x4 (ix2 b j) = I.cs b j
  kr : ∀ b j d, x5 (ix3 b j d) = I.kr b j d
  len : ∀ b, x6 (ix1 b) = I.len b
  w : ∀ h d l, x7 (ix3 h d l) = I.w h d l
  ws : ∀ h l, x8 (ix2 h l) = I.ws h l

theorem sm_val : (Named.named κ "sm" 1033096506#32 : Ideal .f32) = (Inputs.sm : EReal) :=
  IdealRules.named_const.ideal_named_scalar _ _ _ _ rfl
theorem log2e_val : (Named.named κ "log2e" 1069066811#32 : Ideal .f32) = (log2e : EReal) :=
  IdealRules.named_const.ideal_named_scalar _ _ _ _ rfl

theorem select_sle (a b : Fin 15360) (x y : EReal) :
    Scalar.select (IntOp.cmpi .sle (BitVec.ofNat 32 a.val) (BitVec.ofNat 32 b.val)) x y = if a.val ≤ b.val then x else y := by
  have h : (BitVec.ofNat 32 a.val).sle (BitVec.ofNat 32 b.val) = decide (a.val ≤ b.val) := by
    have ha := a.isLt
    have hb := b.isLt
    rw [BitVec.sle_eq_decide, BitVec.toInt_ofNat', BitVec.toInt_ofNat']
    simp only [Int.bmod_def]
    congr 1
    apply propext
    omega
  unfold Scalar.select
  show (if (BitVec.ofBool ((BitVec.ofNat 32 a.val).sle (BitVec.ofNat 32 b.val))) = 1#1 then x else y) = _
  rw [h]
  by_cases hab : a.val ≤ b.val <;> simp [hab]

/-- The log-sum-exp of any rows of scores. -/
def rowLse (v : FVec Ideal S2x15360x16x15360 .f32) : FVec Ideal S2x15360x16 .f32 :=
  have v26 : FVec Ideal S2x15360x16 .f32 := multiReduction .maximumf [3] S2x15360x16 v 0xFF800000#32 reduces_S2x15360x16x15360_S2x15360x16 (.inl rfl) rfl
  have v27 : FVec Ideal S2x15360x16x1 .f32 := shapeCast S2x15360x16x1 v26 shapeCasts_S2x15360x16_S2x15360x16x1
  have v28 : FVec Ideal S2x15360x16x15360 .f32 := broadcastTo S2x15360x16x15360 v27 broadcasts_S2x15360x16x1_S2x15360x16x15360
  have v31 : FVec Ideal S2x15360x16 .f32 := multiReduction .add [3] S2x15360x16 (exp (subf v v28)) 0x00000000#32 reduces_S2x15360x16x15360_S2x15360x16 (.inl rfl) rfl
  addf v26 (log v31)

theorem redMax (v : FVec Ideal S2x15360x16x15360 .f32) (b : Fin 2) (t : Fin 15360) (h : Fin 16) :
    multiReduction .maximumf [3] S2x15360x16 v 0xFF800000#32 reduces_S2x15360x16x15360_S2x15360x16 (.inl rfl) rfl (ix3 b t h)
      = Finset.fold max (Ideal.ofBits .f32 4286578688#32) (fun x => v (ix4 b t h x)) Finset.univ := by
  pointwise []

theorem redAdd (v : FVec Ideal S2x15360x16x15360 .f32) (b : Fin 2) (t : Fin 15360) (h : Fin 16) :
    multiReduction .add [3] S2x15360x16 v 0x00000000#32 reduces_S2x15360x16x15360_S2x15360x16 (.inl rfl) rfl (ix3 b t h)
      = ∑ x, v (ix4 b t h x) := by
  pointwise []

theorem expSub (v : FVec Ideal S2x15360x16x15360 .f32) (u : FVec Ideal S2x15360x16 .f32) (b : Fin 2) (t : Fin 15360) (h : Fin 16) (x : Fin 15360) :
    exp (subf v (broadcastTo S2x15360x16x15360 (shapeCast S2x15360x16x1 u shapeCasts_S2x15360x16_S2x15360x16x1) broadcasts_S2x15360x16x1_S2x15360x16x15360)) (ix4 b t h x)
      = Ideal.exp (v (ix4 b t h x) - u (ix3 b t h)) := by
  pointwise []

theorem addLog (u w : FVec Ideal S2x15360x16 .f32) (b : Fin 2) (t : Fin 15360) (h : Fin 16) :
    addf u (log w) (ix3 b t h) = u (ix3 b t h) + Ideal.log (w (ix3 b t h)) := by
  pointwise []

theorem sup_fin (n : ℕ) (s : ℕ → EReal) : (Finset.univ.sup fun x : Fin n => s x.val) = (Finset.range n).sup s := by
  apply le_antisymm
  · exact Finset.sup_le fun x _ => Finset.le_sup (f := s) (Finset.mem_range.mpr x.isLt)
  · exact Finset.sup_le fun j hj => Finset.le_sup (f := fun x : Fin n => s x.val) (Finset.mem_univ (⟨j, Finset.mem_range.mp hj⟩ : Fin n))

theorem fold_sup {ι : Type} (u : Finset ι) (f : ι → EReal) : Finset.fold max (⊥ : EReal) f u = u.sup f := rfl

theorem rowLse_eq (v : FVec Ideal S2x15360x16x15360 .f32) (b : Fin 2) (t : Fin 15360) (h : Fin 16) (s : ℕ → EReal) (hv : ∀ x : Fin 15360, v (ix4 b t h x) = s x.val) :
    rowLse v (ix3 b t h) = MlaPrompt.lse (Finset.range 15360) s := by
  have e : (fun x : Fin 15360 => v (ix4 b t h x)) = fun x => s x.val := funext hv
  have f := redMax v b t h
  rw [e, bits_bot, fold_sup, sup_fin] at f
  refine (addLog _ _ b t h).trans ?_
  rw [redAdd, f]
  unfold MlaPrompt.lse
  refine congrArg (fun z => (Finset.range 15360).sup s + Ideal.log z) ?_
  rw [Finset.sum_range (f := fun j => Ideal.exp (s j - (Finset.range 15360).sup s))]
  refine Finset.sum_congr rfl fun x _ => ?_
  refine (expSub v _ b t h x).trans ?_
  rw [f, hv x]

theorem pay8_apply (x3 : Vec Ideal S2x15360x512 .fp8e4m3) (x4 : Vec Ideal S2x15360 .f32) (v25 : FVec Ideal S2x15360x16x15360 .f32) (v33 : FVec Ideal S2x15360x16 .f32) (v34 : FVec Ideal S2x15360x16x1 .f32)
    (x7 : Vec Ideal S16x512x128 .fp8e4m3) (x8 : Vec Ideal S16x128 .f32) (x6 : Vec Ideal S2 .i32) (b : Fin 2) (t : Fin 15360) (h : Fin 16) (l : Fin 128) :
    k0_pay8 x3 x4 v25 v33 v34 x7 x8 x6 (ix4 b t h l) = Scalar.select (IntOp.cmpi .slt (BitVec.ofNat 32 t.val) (x6 (ix1 b)))
      ((∑ d, x7 (ix3 h d l) * ∑ j, (if v34 (ix4 b t h 0) = Ideal.ofBits .f32 4286578688#32 then 0 else Ideal.exp (v25 (ix4 b t h j) - v33 (ix3 b t h))) * x4 (ix2 b j) * x3 (ix3 b j d)) * x8 (ix2 h l)) (0 : EReal) := by
  pointwise [k0_pay8, k0_pay7]

/-- The largest magnitudes of any rows of outputs. -/
def rowAbs (v : FVec Ideal S2x15360x16x128 .f32) : FVec Ideal S2x15360x16 .f32 :=
  multiReduction .maximumf [3] S2x15360x16 (absf v) 0xFF800000#32 reduces_S2x15360x16x128_S2x15360x16 (.inl rfl) rfl

theorem rowAbs_apply (v : FVec Ideal S2x15360x16x128 .f32) (b : Fin 2) (t : Fin 15360) (h : Fin 16) :
    rowAbs v (ix3 b t h) = Finset.univ.sup fun l : Fin 128 => max (v (ix4 b t h l)) (-v (ix4 b t h l)) := by
  pointwise [rowAbs]
  rw [bits_bot]
  rfl

theorem pay1_apply (v : FVec Ideal S2x15360x16 .f32) (b : Fin 2) (t : Fin 15360) (h : Fin 16) :
    k0_pay1 v (Scalar.ofBits (F := Ideal) .f32 0x3B124925#32) (ix3 b t h) = Inputs.expo (v (ix3 b t h)) := by
  have p : k0_pay1 v (Scalar.ofBits (F := Ideal) .f32 0x3B124925#32) (ix3 b t h) = if v (ix3 b t h) = 0 then (0 : EReal) else
      min (Ideal.ofBits .f32 1123811328#32) (max (Ideal.ofBits .f32 3271294976#32) (Ideal.liftRound Int.floor (Ideal.log (v (ix3 b t h) * Inputs.over448) * (Named.named κ "log2e" 1069066811#32 : Ideal .f32)) + 1)) := by
    pointwise [k0_pay1]
    rfl
  refine p.trans ?_
  rw [bits_126, bits_m126, log2e_val]
  rfl

theorem pay2_apply (v : FVec Ideal S2x15360x16 .f32) (b : Fin 2) (t : Fin 15360) (h : Fin 16) :
    k0_pay2 v (Scalar.ofBits (F := Ideal) .f32 0x3B124925#32) (ix3 b t h) = Ideal.exp2 (Inputs.expo (v (ix3 b t h))) := by
  refine Eq.trans ?_ (congrArg Ideal.exp2 (pay1_apply v b t h))
  pointwise [k0_pay2]
  rfl

theorem pay3_apply (v71 : FVec Ideal S2x15360x16x128 .f32) (v : FVec Ideal S2x15360x16 .f32) (b : Fin 2) (t : Fin 15360) (h : Fin 16) (l : Fin 128) :
    k0_pay3 v71 v (Scalar.ofBits (F := Ideal) .f32 0x3B124925#32) (ix4 b t h l)
      = min ((448 : ℝ) : EReal) (max ((-448 : ℝ) : EReal) (v71 (ix4 b t h l) * Ideal.exp2 (0 - Inputs.expo (v (ix3 b t h))))) := by
  have p : k0_pay3 v71 v (Scalar.ofBits (F := Ideal) .f32 0x3B124925#32) (ix4 b t h l)
      = min (Ideal.ofBits .f32 1138753536#32) (max (Ideal.ofBits .f32 3286237184#32) (v71 (ix4 b t h l) * Ideal.exp2 (0 - k0_pay1 v (Scalar.ofBits (F := Ideal) .f32 0x3B124925#32) (ix3 b t h)))) := by
    pointwise [k0_pay3]
    rfl
  refine p.trans ?_
  rw [bits_448, bits_m448, pay1_apply]

theorem lastOne (v : FVec Ideal S2x15360x16 .f32) (b : Fin 2) (t : Fin 15360) (h : Fin 16) :
    shapeCast S2x15360x16x1 v shapeCasts_S2x15360x16_S2x15360x16x1 (ix4 b t h 0) = v (ix3 b t h) := by
  pointwise []

theorem pay9_apply (v : FVec Ideal S2x15360x16 .f32) (x6 : Vec Ideal S2 .i32) (b : Fin 2) (t : Fin 15360) (h : Fin 16) :
    k0_pay9 v x6 (ix3 b t h) = Scalar.select (IntOp.cmpi .slt (BitVec.ofNat 32 t.val) (x6 (ix1 b))) (v (ix3 b t h)) (0 : EReal) := by
  pointwise [k0_pay9, k0_pay7]

section
variable {I : Inputs} {x0 : Vec Ideal S2x15360x16x512 .fp8e4m3} {x1 : Vec Ideal S2x15360x16 .f32} {x2 : Vec Ideal S2x15360x16x64 .bf16} {x3 : Vec Ideal S2x15360x512 .fp8e4m3} {x4 : Vec Ideal S2x15360 .f32} {x5 : Vec Ideal S2x15360x64 .bf16} {x6 : Vec Ideal S2 .i32} {x7 : Vec Ideal S16x512x128 .fp8e4m3} {x8 : Vec Ideal S16x128 .f32}
  (D : ArrIn I x0 x1 x2 x3 x4 x5 x6 x7 x8) (b : Fin 2) (t : Fin 15360) (h : Fin 16)
include D

theorem score_apply (k : Fin 15360) : k0_pay4 x0 x1 x2 x3 x4 x5 (ix4 b t h k) = I.t b t h k.val := by
  have p : k0_pay4 x0 x1 x2 x3 x4 x5 (ix4 b t h k) = Scalar.select (IntOp.cmpi .sle (BitVec.ofNat 32 k.val) (BitVec.ofNat 32 t.val))
      (((∑ x, x0 (ix4 b t h x) * x3 (ix3 b k x)) * x1 (ix3 b t h) * x4 (ix2 b k) + ∑ x, x2 (ix4 b t h x) * x5 (ix3 b k x)) * (Named.named κ "sm" 1033096506#32 : Ideal .f32)) (Ideal.ofBits .f32 4286578688#32) := by
    pointwise [k0_pay4]
  refine p.trans ?_
  rw [select_sle, bits_bot, sm_val, D.qs, D.cs]
  unfold Inputs.t Inputs.score
  have e : Fin.ofNat 15360 k.val = k := Fin.ext (Nat.mod_eq_of_lt k.isLt)
  rw [e, Finset.sum_congr rfl (fun d _ => congrArg₂ (· * ·) (D.q b t h d) (D.k b k d)), Finset.sum_congr rfl (fun d _ => congrArg₂ (· * ·) (D.qr b t h d) (D.kr b k d))]

theorem lse_apply : k0_pay5 x0 x1 x2 x3 x4 x5 (ix3 b t h) = I.lse b t h :=
  rowLse_eq (k0_pay4 x0 x1 x2 x3 x4 x5) b t h (I.t b t h) (score_apply D b t h)

theorem out_apply (l : Fin 128) :
    k0_pay8 x3 x4 (k0_pay4 x0 x1 x2 x3 x4 x5) (k0_pay5 x0 x1 x2 x3 x4 x5) (k0_pay6 x0 x1 x2 x3 x4 x5) x7 x8 x6 (ix4 b t h l) = I.out b t h l := by
  refine (pay8_apply _ _ _ _ _ _ _ _ b t h l).trans ?_
  have e6 : k0_pay6 x0 x1 x2 x3 x4 x5 (ix4 b t h 0) = I.lse b t h := by
    unfold k0_pay6
    exact (lastOne _ b t h).trans (lse_apply D b t h)
  rw [D.len, D.ws, e6, lse_apply D, bits_bot]
  unfold Inputs.out Inputs.valid
  refine congrArg (fun s => Scalar.select (IntOp.cmpi .slt (BitVec.ofNat 32 t.val) (I.len b)) (s * I.ws h l) (0 : EReal)) (Finset.sum_congr rfl fun d _ => ?_)
  rw [D.w, mul_comm]
  refine congrArg (· * I.w h d l) ?_
  unfold Inputs.latent
  rw [Finset.sum_range (f := fun j => (if I.lse b t h = ⊥ then 0 else Ideal.exp (I.t b t h j - I.lse b t h)) * I.value b d j)]
  refine Finset.sum_congr rfl fun j _ => ?_
  rw [score_apply D, D.cs, D.k, mul_assoc]
  have e : Fin.ofNat 15360 j.val = j := Fin.ext (Nat.mod_eq_of_lt j.isLt)
  unfold Inputs.value
  rw [e]

theorem amax_apply :
    k0_pay10 x3 x4 (k0_pay4 x0 x1 x2 x3 x4 x5) (k0_pay5 x0 x1 x2 x3 x4 x5) (k0_pay6 x0 x1 x2 x3 x4 x5) x7 x8 x6 (ix3 b t h) = I.amax b t h := by
  refine (rowAbs_apply _ b t h).trans ?_
  unfold Inputs.amax
  exact Finset.sup_congr rfl fun l _ => by rw [out_apply D]

theorem out0_9_apply (l : Fin 128) : out0_9 x0 x1 x2 x3 x4 x5 x6 x7 x8 (ix4 b t h l) = I.code b t h l := by
  unfold_out out0_9
  rw [View.canon_cons_unit_lit _ _ _ (by decide)]
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l3 : View.ld x3 r0_3 = x3 := View.ld_unit_lit _ _ (by decide)
  have l4 : View.ld x4 r0_4 = x4 := View.ld_unit_lit _ _ (by decide)
  have l5 : View.ld x5 r0_5 = x5 := View.ld_unit_lit _ _ (by decide)
  have l7 : View.ld x7 r0_6 = x7 := View.ld_unit_lit _ _ (by decide)
  have l8 : View.ld x8 r0_7 = x8 := View.ld_unit_lit _ _ (by decide)
  have l6 : View.ld x6 r0_8 = x6 := View.ld_unit_lit _ _ (by decide)
  simp only [l0, l1, l2, l3, l4, l5, l7, l8, l6]
  refine (pay3_apply _ _ b t h l).trans ?_
  rw [out_apply D, amax_apply D]
  rfl

theorem out0_10_apply : out0_10 x0 x1 x2 x3 x4 x5 x6 x7 x8 (ix3 b t h) = I.scale b t h := by
  unfold_out out0_10
  rw [View.canon_cons_unit_lit _ _ _ (by decide)]
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l3 : View.ld x3 r0_3 = x3 := View.ld_unit_lit _ _ (by decide)
  have l4 : View.ld x4 r0_4 = x4 := View.ld_unit_lit _ _ (by decide)
  have l5 : View.ld x5 r0_5 = x5 := View.ld_unit_lit _ _ (by decide)
  have l7 : View.ld x7 r0_6 = x7 := View.ld_unit_lit _ _ (by decide)
  have l8 : View.ld x8 r0_7 = x8 := View.ld_unit_lit _ _ (by decide)
  have l6 : View.ld x6 r0_8 = x6 := View.ld_unit_lit _ _ (by decide)
  simp only [l0, l1, l2, l3, l4, l5, l7, l8, l6]
  refine (pay2_apply _ b t h).trans ?_
  rw [amax_apply D]
  rfl

theorem out0_11_apply : out0_11 x0 x1 x2 x3 x4 x5 x6 x7 x8 (ix3 b t h) = I.lseOut b t h := by
  unfold_out out0_11
  rw [View.canon_cons_unit_lit _ _ _ (by decide)]
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have l3 : View.ld x3 r0_3 = x3 := View.ld_unit_lit _ _ (by decide)
  have l4 : View.ld x4 r0_4 = x4 := View.ld_unit_lit _ _ (by decide)
  have l5 : View.ld x5 r0_5 = x5 := View.ld_unit_lit _ _ (by decide)
  have l7 : View.ld x7 r0_6 = x7 := View.ld_unit_lit _ _ (by decide)
  have l8 : View.ld x8 r0_7 = x8 := View.ld_unit_lit _ _ (by decide)
  have l6 : View.ld x6 r0_8 = x6 := View.ld_unit_lit _ _ (by decide)
  simp only [l0, l1, l2, l3, l4, l5, l7, l8, l6]
  refine (pay9_apply _ _ b t h).trans ?_
  rw [lse_apply D, D.len]
  rfl

end

end Cert.ReferenceIdeal.Gen
-- ==== Proof.RefRun.lean ====
/-
  The reference's run: its three results are the codes, the scales and the log-sum-exps of its inputs, and its arguments
  end as they began.
-/
module

public import proofs.«01_k».proof.Proof.RefValue
public import proofs.«01_k».proof.Proof.Arrays
public import Idealize.ShloMosaic.Lib.Pipeline.Value
public import Idealize.ShloMosaic.Lib.Pipeline.ValueKit

@[expose] public section

set_option maxRecDepth 16384

noncomputable section

namespace Cert.ReferenceIdeal.Gen

open Idealize.ShloMosaic Idealize.ShloMosaic.TcCoe Idealize.SL Idealize.SL.Sem Cert.MlaPrompt
open Idealize.ShloMosaic.Pipeline (Dat)

variable (m : (ℓ : Loc nD τ sig) → Buf (Elt Ideal) ℓ) (ρ : Dev nD → PrngReg)

/-- The inputs that the arguments hold. -/
def inputs (c : Dev nD) : Inputs :=
  Inputs.of (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem index0 : win0_0.index t0_0 = ![0, 0, 0, 0] := by decide +kernel
theorem blk0 (c : Dev nD) (b : Fin 2) (x : Fin 15360) (h : Fin 16) (d : Fin 512) :
    (iblk m c 0 t0_0 : Vec Ideal S2x15360x16x512 .fp8e4m3) (ix4 b x h d) = (m ((c : Thread nD τ).loc main_arg0) : Vec Ideal S2x15360x16x512 .fp8e4m3) (ix4 b x h d) := by
  blk_ext [iblk, V, index0]

theorem index1 : win0_1.index t0_0 = ![0, 0, 0] := by decide +kernel
theorem blk1 (c : Dev nD) (b : Fin 2) (x : Fin 15360) (h : Fin 16) :
    (iblk m c 1 t0_0 : Vec Ideal S2x15360x16 .f32) (ix3 b x h) = (m ((c : Thread nD τ).loc main_arg1) : Vec Ideal S2x15360x16 .f32) (ix3 b x h) := by
  blk_ext [iblk, V, index1]

theorem index2 : win0_2.index t0_0 = ![0, 0, 0, 0] := by decide +kernel
theorem blk2 (c : Dev nD) (b : Fin 2) (x : Fin 15360) (h : Fin 16) (d : Fin 64) :
    (iblk m c 2 t0_0 : Vec Ideal S2x15360x16x64 .bf16) (ix4 b x h d) = (m ((c : Thread nD τ).loc main_arg2) : Vec Ideal S2x15360x16x64 .bf16) (ix4 b x h d) := by
  blk_ext [iblk, V, index2]

theorem index3 : win0_3.index t0_0 = ![0, 0, 0] := by decide +kernel
theorem blk3 (c : Dev nD) (b : Fin 2) (x : Fin 15360) (d : Fin 512) :
    (iblk m c 3 t0_0 : Vec Ideal S2x15360x512 .fp8e4m3) (ix3 b x d) = (m ((c : Thread nD τ).loc main_arg3) : Vec Ideal S2x15360x512 .fp8e4m3) (ix3 b x d) := by
  blk_ext [iblk, V, index3]

theorem index4 : win0_4.index t0_0 = ![0, 0] := by decide +kernel
theorem blk4 (c : Dev nD) (b : Fin 2) (x : Fin 15360) :
    (iblk m c 4 t0_0 : Vec Ideal S2x15360 .f32) (ix2 b x) = (m ((c : Thread nD τ).loc main_arg4) : Vec Ideal S2x15360 .f32) (ix2 b x) := by
  blk_ext [iblk, V, index4]

theorem index5 : win0_5.index t0_0 = ![0, 0, 0] := by decide +kernel
theorem blk5 (c : Dev nD) (b : Fin 2) (x : Fin 15360) (d : Fin 64) :
    (iblk m c 5 t0_0 : Vec Ideal S2x15360x64 .bf16) (ix3 b x d) = (m ((c : Thread nD τ).loc main_arg5) : Vec Ideal S2x15360x64 .bf16) (ix3 b x d) := by
  blk_ext [iblk, V, index5]

theorem index6 : win0_6.index t0_0 = ![0] := by decide +kernel
theorem blk6 (c : Dev nD) (b : Fin 2) :
    (iblk m c 6 t0_0 : Vec Ideal S2 .i32) (ix1 b) = (m ((c : Thread nD τ).loc main_arg6) : Vec Ideal S2 .i32) (ix1 b) := by
  blk_ext [iblk, V, index6]

theorem index7 : win0_7.index t0_0 = ![0, 0, 0] := by decide +kernel
theorem blk7 (c : Dev nD) (h : Fin 16) (d : Fin 512) (l : Fin 128) :
    (iblk m c 7 t0_0 : Vec Ideal S16x512x128 .fp8e4m3) (ix3 h d l) = (m ((c : Thread nD τ).loc main_arg7) : Vec Ideal S16x512x128 .fp8e4m3) (ix3 h d l) := by
  blk_ext [iblk, V, index7]

theorem index8 : win0_8.index t0_0 = ![0, 0] := by decide +kernel
theorem blk8 (c : Dev nD) (h : Fin 16) (l : Fin 128) :
    (iblk m c 8 t0_0 : Vec Ideal S16x128 .f32) (ix2 h l) = (m ((c : Thread nD τ).loc main_arg8) : Vec Ideal S16x128 .f32) (ix2 h l) := by
  blk_ext [iblk, V, index8]

theorem arrIn (c : Dev nD) : ArrIn (inputs m c) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) :=
  ⟨blk0 m c, blk1 m c, blk2 m c, blk3 m c, blk4 m c, blk5 m c, blk6 m c, blk7 m c, blk8 m c⟩

theorem final9 (c : Dev nD) : (dats m 0 c).arrAt 9 cfg0.N = (inputs m c).codes := by
  refine funext fun (j : S2x15360x16x128.Idx) => ?_
  refine ((dats m 0 c).arrAt_emb_eq_after_last 9 t0_0 (by decide +kernel) j).trans ?_
  blk_simp
  rw [after0_9]
  refine (congrArg (out0_9 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (eq_ix4 j)).trans ?_
  exact out0_9_apply (arrIn m c) (j 0) (j 1) (j 2) (j 3)

theorem final10 (c : Dev nD) : (dats m 0 c).arrAt 10 cfg0.N = (inputs m c).scales := by
  refine funext fun (j : S2x15360x16.Idx) => ?_
  refine ((dats m 0 c).arrAt_emb_eq_after_last 10 t0_0 (by decide +kernel) j).trans ?_
  blk_simp
  rw [after0_10]
  refine (congrArg (out0_10 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (eq_ix3 j)).trans ?_
  exact out0_10_apply (arrIn m c) (j 0) (j 1) (j 2)

theorem final11 (c : Dev nD) : (dats m 0 c).arrAt 11 cfg0.N = (inputs m c).lses := by
  refine funext fun (j : S2x15360x16.Idx) => ?_
  refine ((dats m 0 c).arrAt_emb_eq_after_last 11 t0_0 (by decide +kernel) j).trans ?_
  blk_simp
  rw [after0_11]
  refine (congrArg (out0_11 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (eq_ix3 j)).trans ?_
  exact out0_11_apply (arrIn m c) (j 0) (j 1) (j 2)

/-- The run, read. -/
theorem run : θ_run defs (onTc (τ := τ) (main (F := Ideal))) ⟨m, fun _ => 0, ρ⟩ (fun r => ∀ c : Dev nD,
      r.2.mem ((c.tc : Thread nD τ).loc main_v0_0) = (inputs m c).codes
      ∧ r.2.mem ((c.tc : Thread nD τ).loc main_v0_1) = (inputs m c).scales
      ∧ r.2.mem ((c.tc : Thread nD τ).loc main_v0_2) = (inputs m c).lses
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h c).1 9).trans (final9 m c), ((h c).1 10).trans (final10 m c), ((h c).1 11).trans (final11 m c),
      ((h c).1 0).trans ((dats m 0 c).arrAt_in 0 rfl _),
      ((h c).1 1).trans ((dats m 0 c).arrAt_in 1 rfl _),
      ((h c).1 2).trans ((dats m 0 c).arrAt_in 2 rfl _),
      ((h c).1 3).trans ((dats m 0 c).arrAt_in 3 rfl _),
      ((h c).1 4).trans ((dats m 0 c).arrAt_in 4 rfl _),
      ((h c).1 5).trans ((dats m 0 c).arrAt_in 5 rfl _),
      ((h c).1 6).trans ((dats m 0 c).arrAt_in 6 rfl _),
      ((h c).1 7).trans ((dats m 0 c).arrAt_in 7 rfl _),
      ((h c).1 8).trans ((dats m 0 c).arrAt_in 8 rfl _)⟩)
    (run_main m ρ)

end Cert.ReferenceIdeal.Gen
-- ==== Proof.Positive.lean ====
/-
  The precondition's side conditions, and what it says: every scale of a query row and of a key row is a positive real.
-/
module

public import proofs.«01_k».proof.Pre_scales_positive
public import proofs.«01_k».proof.Proof.Arrays
public import Idealize.ShloMosaic.Lib.ReduceAll
public import Idealize.ShloMosaic.Lib.Affine
public import Idealize.ShloMosaic.Lib.Decide
public import Idealize.ShloMosaic.Lib.IdealHost

@[expose] public section

noncomputable section

namespace Cert.Pre_scales_positive

open Idealize.ShloMosaic Cert.MlaPrompt

/-- The side conditions the precondition's operations take. -/
instance facts : Facts where
  bcast_S_S2x15360x16 := by decide
  reducesTo_S2x15360x16_S_d0_1_2 := by decide
  h_S_ := by decide
  bcast_S_S2x15360 := by decide
  reducesTo_S2x15360_S_d0_1 := by decide

theorem andi_one (a b : BitVec 1) : IntOp.andi a b = 1#1 ↔ a = 1#1 ∧ b = 1#1 := by revert a b; decide

theorem inf_value : Ideal.ofBits .f32 0x7F800000#32 = ⊤ := by simp [Ideal.ofBits, Ideal.ieee]

theorem above (x y : EReal) (h : Ideal.cmp .ogt x y = 1#1) : y < x := by
  by_contra hn
  simp [Ideal.cmp, hn] at h
theorem below (x y : EReal) (h : Ideal.cmp .olt x y = 1#1) : x < y := by
  by_contra hn
  simp [Ideal.cmp, hn] at h

/-- A number above zero and below infinity is a positive real. -/
theorem pos_real (x : EReal) (h0 : 0 < x) (h1 : x < ⊤) : ∃ a : ℝ, 0 < a ∧ x = (a : EReal) := by
  induction x using EReal.rec with
  | bot => exact absurd h0 (by simp)
  | top => exact absurd h1 (by simp)
  | coe a => exact ⟨a, by exact_mod_cast h0, rfl⟩

/-- Under the precondition the scales are positive. -/
theorem pos (x0 : Vec Ideal S2x15360x16x512 .fp8e4m3) (x1 : Vec Ideal S2x15360x16 .f32) (x2 : Vec Ideal S2x15360x16x64 .bf16)
    (x3 : Vec Ideal S2x15360x512 .fp8e4m3) (x4 : Vec Ideal S2x15360 .f32) (x5 : Vec Ideal S2x15360x64 .bf16)
    (x6 : Vec Ideal S2 .i32) (x7 : Vec Ideal S16x512x128 .fp8e4m3) (x8 : Vec Ideal S16x128 .f32)
    (h : fn (F := Ideal) x0 x1 x2 x3 x4 x5 x6 x7 x8 = fun _ => 1#1) : (Inputs.of x0 x1 x2 x3 x4 x5 x6 x7 x8).Pos := by
  have h0 := congrFun h (fun a => a.elim0)
  dsimp only [fn] at h0
  obtain ⟨ha, hb⟩ := (andi_one _ _).mp h0
  haveI : Subsingleton S_.Idx := ⟨fun a b => funext fun i => i.elim0⟩
  refine ⟨fun b t hd => ?_, fun b j => ?_⟩
  · have e := Host.reduce_andi_all _ _ _ _ _ ha (ix3 b t hd)
    obtain ⟨e0, e1⟩ := (andi_one _ _).mp e
    exact pos_real _ (lt_of_eq_of_lt Ideal.ofBits_zero_f32.symm (above _ _ e0)) (lt_of_lt_of_eq (below _ _ e1) inf_value)
  · have e := Host.reduce_andi_all _ _ _ _ _ hb (ix2 b j)
    obtain ⟨e0, e1⟩ := (andi_one _ _).mp e
    exact pos_real _ (lt_of_eq_of_lt Ideal.ofBits_zero_f32.symm (above _ _ e0)) (lt_of_lt_of_eq (below _ _ e1) inf_value)

end Cert.Pre_scales_positive
-- ==== Proof.lean ====
module

public import proofs.«01_k».proof.Defs
public import proofs.«01_k».proof.Proof.FrameKernel
public import proofs.«01_k».proof.Proof.FrameIdeal
public import proofs.«01_k».proof.Proof.Gen.ReferenceIdeal.Frame
public import proofs.«01_k».proof.Proof.KernelRun
public import proofs.«01_k».proof.Proof.RefRun
public import proofs.«01_k».proof.Proof.Positive

@[expose] public section

noncomputable section

namespace Cert.Proof

open Idealize.ShloMosaic Idealize.SL.Sem Cert.Kernel

theorem named : Cert.preserves_Kernel_KernelIdeal :=
  ⟨IdealRules.named_const.statement Cert.KernelIdeal.κ "sm_log2e" .f32 0x3DD53B95#32 (((Real.sqrt 192)⁻¹ * (Real.log 2)⁻¹ : ℝ) : EReal) rfl,
    IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl,
    IdealRules.named_const.statement Cert.KernelIdeal.κ "ln2" .f32 0x3F317218#32 ((Real.log 2 : ℝ) : EReal) rfl⟩

/-- The reference's inputs are the kernel's where their arguments agree. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Gen.inputs m' c = Cert.KernelIdeal.Gen.inputs m c := by
  obtain ⟨h0, h1, h2, h3, h4, h5, h6, h7, h8⟩ := h
  unfold Cert.ReferenceIdeal.Gen.inputs Cert.KernelIdeal.Gen.inputs
  rw [h0, h1, h2, h3, h4, h5, h6, h7, h8]

/-- Both programs end with the codes, the scales and the log-sum-exps of the specification. -/
theorem same_results : Cert.algebraic_KernelIdeal_ReferenceIdeal_pre_scales_positive := fun m g m' g' hpre hargs =>
  ⟨fun c => (Cert.KernelIdeal.Gen.inputs m c).codes, fun c => (Cert.KernelIdeal.Gen.inputs m c).scales, fun c => (Cert.KernelIdeal.Gen.inputs m c).lses,
    Cert.KernelIdeal.Gen.run m g fun c => Cert.Pre_scales_positive.pos _ _ _ _ _ _ _ _ _ (hpre c),
    (θ_run _ _ _).mono (fun r h c => by
      obtain ⟨h0, h1, h2, hk⟩ := h c
      have e := inputs_eq m m' c (hargs c)
      exact ⟨h0.trans (congrArg _ e), h1.trans (congrArg _ e), h2.trans (congrArg _ e), hk⟩) (Cert.ReferenceIdeal.Gen.run m' g')⟩

theorem claim : Cert.Claim := ⟨Cert.Kernel.Gen.facts, Cert.KernelIdeal.Gen.facts, Cert.ReferenceIdeal.Gen.facts, Cert.Pre_scales_positive.facts,
  fun m g _ => Cert.Kernel.Gen.frame m g, fun m g _ => Cert.KernelIdeal.Gen.frame m g, fun m g _ => Cert.KernelIdeal.Gen.frame m g,
  fun m g _ => Cert.ReferenceIdeal.Gen.frame m g, fun m g _ => Cert.ReferenceIdeal.Gen.frame m g, named, same_results⟩

end Cert.Proof

end
